-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "s128_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "s192_log2e" .f32 0x3DD53B95#32 (((Real.sqrt 192)⁻¹ * (Real.log 2)⁻¹ : ℝ) : EReal)
  ∧ IdealRules.named_const.Statement Cert.KernelIdeal.κ "s64_log2e" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)) (v4 : (c : Dev Cert.KernelIdeal.nD) → Buf (Elt Ideal) ((c.tc : Thread Cert.KernelIdeal.nD Cert.KernelIdeal.τ).loc Cert.KernelIdeal.main_v33_4)) (v5 : (c : Dev Cert.KernelIdeal.nD) → Buf (Elt Ideal) ((c.tc : Thread Cert.KernelIdeal.nD Cert.KernelIdeal.τ).loc Cert.KernelIdeal.main_v33_5)) (v6 : (c : Dev Cert.KernelIdeal.nD) → Buf (Elt Ideal) ((c.tc : Thread Cert.KernelIdeal.nD Cert.KernelIdeal.τ).loc Cert.KernelIdeal.main_v33_6)) (v7 : (c : Dev Cert.KernelIdeal.nD) → Buf (Elt Ideal) ((c.tc : Thread Cert.KernelIdeal.nD Cert.KernelIdeal.τ).loc Cert.KernelIdeal.main_v33_7)) (v8 : (c : Dev Cert.KernelIdeal.nD) → Buf (Elt Ideal) ((c.tc : Thread Cert.KernelIdeal.nD Cert.KernelIdeal.τ).loc Cert.KernelIdeal.main_v33_8)) (v9 : (c : Dev Cert.KernelIdeal.nD) → Buf (Elt Ideal) ((c.tc : Thread Cert.KernelIdeal.nD Cert.KernelIdeal.τ).loc Cert.KernelIdeal.main_v33_9)) (v10 : (c : Dev Cert.KernelIdeal.nD) → Buf (Elt Ideal) ((c.tc : Thread Cert.KernelIdeal.nD Cert.KernelIdeal.τ).loc Cert.KernelIdeal.main_v33_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_v33_4) = v4 c
          ∧ r.2.mem ((c.tc : Thread Cert.KernelIdeal.nD Cert.KernelIdeal.τ).loc Cert.KernelIdeal.main_v33_5) = v5 c
          ∧ r.2.mem ((c.tc : Thread Cert.KernelIdeal.nD Cert.KernelIdeal.τ).loc Cert.KernelIdeal.main_v33_6) = v6 c
          ∧ r.2.mem ((c.tc : Thread Cert.KernelIdeal.nD Cert.KernelIdeal.τ).loc Cert.KernelIdeal.main_v33_7) = v7 c
          ∧ r.2.mem ((c.tc : Thread Cert.KernelIdeal.nD Cert.KernelIdeal.τ).loc Cert.KernelIdeal.main_v33_8) = v8 c
          ∧ r.2.mem ((c.tc : Thread Cert.KernelIdeal.nD Cert.KernelIdeal.τ).loc Cert.KernelIdeal.main_v33_9) = v9 c
          ∧ r.2.mem ((c.tc : Thread Cert.KernelIdeal.nD Cert.KernelIdeal.τ).loc Cert.KernelIdeal.main_v33_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v297) = v0 c
          ∧ r.2.mem ((c.tc : Thread Cert.ReferenceIdeal.nD Cert.ReferenceIdeal.τ).loc Cert.ReferenceIdeal.main_v300) = v1 c
          ∧ r.2.mem ((c.tc : Thread Cert.ReferenceIdeal.nD Cert.ReferenceIdeal.τ).loc Cert.ReferenceIdeal.main_v303) = v2 c
          ∧ r.2.mem ((c.tc : Thread Cert.ReferenceIdeal.nD Cert.ReferenceIdeal.τ).loc Cert.ReferenceIdeal.main_v306) = v3 c
          ∧ r.2.mem ((c.tc : Thread Cert.ReferenceIdeal.nD Cert.ReferenceIdeal.τ).loc Cert.ReferenceIdeal.main_v264) = v4 c
          ∧ r.2.mem ((c.tc : Thread Cert.ReferenceIdeal.nD Cert.ReferenceIdeal.τ).loc Cert.ReferenceIdeal.main_v269) = v5 c
          ∧ r.2.mem ((c.tc : Thread Cert.ReferenceIdeal.nD Cert.ReferenceIdeal.τ).loc Cert.ReferenceIdeal.main_v274) = v6 c
          ∧ r.2.mem ((c.tc : Thread Cert.ReferenceIdeal.nD Cert.ReferenceIdeal.τ).loc Cert.ReferenceIdeal.main_v279) = v7 c
          ∧ r.2.mem ((c.tc : Thread Cert.ReferenceIdeal.nD Cert.ReferenceIdeal.τ).loc Cert.ReferenceIdeal.main_v284) = v8 c
          ∧ r.2.mem ((c.tc : Thread Cert.ReferenceIdeal.nD Cert.ReferenceIdeal.τ).loc Cert.ReferenceIdeal.main_v289) = v9 c
          ∧ r.2.mem ((c.tc : Thread Cert.ReferenceIdeal.nD Cert.ReferenceIdeal.τ).loc Cert.ReferenceIdeal.main_v294) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8192x2048 : Shape := ⟨2, ![8192, 2048]⟩
abbrev S2x16x6x2048 : Shape := ⟨4, ![2, 16, 6, 2048]⟩
abbrev S2x2048 : Shape := ⟨2, ![2, 2048]⟩
abbrev S2x2048x4672 : Shape := ⟨3, ![2, 2048, 4672]⟩
abbrev S2x4 : Shape := ⟨2, ![2, 4]⟩
abbrev S2x256 : Shape := ⟨2, ![2, 256]⟩
abbrev S2x256x4x128 : Shape := ⟨4, ![2, 256, 4, 128]⟩
abbrev S2x128 : Shape := ⟨2, ![2, 128]⟩
abbrev S2x4x64 : Shape := ⟨3, ![2, 4, 64]⟩
abbrev S32x2x2x256x128 : Shape := ⟨5, ![32, 2, 2, 256, 128]⟩
abbrev S32x2x256x320 : Shape := ⟨4, ![32, 2, 256, 320]⟩
abbrev S32x2x4x256x128 : Shape := ⟨5, ![32, 2, 4, 256, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2x16x6x2048 : S_.BroadcastsInDim S2x16x6x2048 (![] : Fin 0 → Fin S2x16x6x2048.rank)
  reducesTo_S2x16x6x2048_S_d0_1_2_3 : S2x16x6x2048.ReducesTo [0, 1, 2, 3] S_
  bcast_S_S2x2048 : S_.BroadcastsInDim S2x2048 (![] : Fin 0 → Fin S2x2048.rank)
  reducesTo_S2x2048_S_d0_1 : S2x2048.ReducesTo [0, 1] S_
  bcast_S_S2x2048x4672 : S_.BroadcastsInDim S2x2048x4672 (![] : Fin 0 → Fin S2x2048x4672.rank)
  reducesTo_S2x2048x4672_S_d0_1_2 : S2x2048x4672.ReducesTo [0, 1, 2] S_
  bcast_S_S2x4 : S_.BroadcastsInDim S2x4 (![] : Fin 0 → Fin S2x4.rank)
  reducesTo_S2x4_S_d0_1 : S2x4.ReducesTo [0, 1] S_
  bcast_S_S2x256 : S_.BroadcastsInDim S2x256 (![] : Fin 0 → Fin S2x256.rank)
  reducesTo_S2x256_S_d0_1 : S2x256.ReducesTo [0, 1] S_
  bcast_S_S2x256x4x128 : S_.BroadcastsInDim S2x256x4x128 (![] : Fin 0 → Fin S2x256x4x128.rank)
  reducesTo_S2x256x4x128_S_d0_1_2_3 : S2x256x4x128.ReducesTo [0, 1, 2, 3] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg8 : FVec F S2x128 .f32) (main_arg9 : FVec F S2x128 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  main_v43

def fn_part1 {F : FTy → Type} [FloatOps F] (main_arg4 : FVec F S2x4 .f32) (main_arg5 : FVec F S2x256 .f32) (main_arg6 : FVec F S2x256x4x128 .f32) (main_arg8 : FVec F S2x128 .f32) (main_arg9 : FVec F S2x128 .f32) (main_v13 : IVec S_ 1) (main_v16 : IVec S2x2048x4672 1) : IVec S_ 1 :=
  let main_c_5 : IVec S_ 1 := constantI S_ 1 1#1
  let main_v17 : IVec S_ 1 := (fun x v => Host.reduce IntOp.andi x v reducesTo_S2x2048x4672_S_d0_1_2 h_S_) main_v16 main_c_5
  let main_v18 : IVec S_ 1 := andi main_v13 main_v17
  let main_v19 : FVec F S2x4 .f32 := Host.absf main_arg4
  let main_cst_6 : FVec F S_ .f32 := constant S_ .f32 0x7F800000#32
  let main_v20 : FVec F S2x4 .f32 := broadcastInDim S2x4 ![] bcast_S_S2x4 main_cst_6
  let main_v21 : IVec S2x4 1 := cmpf .olt main_v19 main_v20
  let main_c_7 : IVec S_ 1 := constantI S_ 1 1#1
  let main_v22 : IVec S_ 1 := (fun x v => Host.reduce IntOp.andi x v reducesTo_S2x4_S_d0_1 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2x256x4x128 .f32 := Host.absf main_arg6
  let main_cst_10 : FVec F S_ .f32 := constant S_ .f32 0x7F800000#32
  let main_v30 : FVec F S2x256x4x128 .f32 := broadcastInDim S2x256x4x128 ![] bcast_S_S2x256x4x128 main_cst_10
  let main_v31 : IVec S2x256x4x128 1 := cmpf .olt main_v29 main_v30
  let main_c_11 : IVec S_ 1 := constantI S_ 1 1#1
  let main_v32 : IVec S_ 1 := (fun x v => Host.reduce IntOp.andi x v reducesTo_S2x256x4x128_S_d0_1_2_3 h_S_) main_v31 main_c_11
  let main_v33 : IVec S_ 1 := andi main_v28 main_v32
  fn_part2 (F := F) main_arg8 main_arg9 main_v33

def fn {F : FTy → Type} [FloatOps F] (main_arg0 : FVec F S8192x2048 .f32) (main_arg1 : FVec F S2x16x6x2048 .f32) (main_arg2 : FVec F S2x2048 .f32) (main_arg3 : FVec F S2x2048x4672 .f32) (main_arg4 : FVec F S2x4 .f32) (main_arg5 : FVec F S2x256 .f32) (main_arg6 : FVec F S2x256x4x128 .f32) (main_arg7 : FVec F S2x256x4x128 .f32) (main_arg8 : FVec F S2x128 .f32) (main_arg9 : FVec F S2x128 .f32) (main_arg10 : FVec F S2x4x64 .f32) (main_arg11 : FVec F S2x128 .f32) (main_arg12 : FVec F S32x2x2x256x128 .f32) (main_arg13 : FVec F S32x2x2x256x128 .f32) (main_arg14 : FVec F S32x2x256x320 .f32) (main_arg15 : FVec F S32x2x2x256x128 .f32) (main_arg16 : FVec F S32x2x2x256x128 .f32) (main_arg17 : FVec F S32x2x4x256x128 .f32) (main_arg18 : FVec F S32x2x4x256x128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2x16x6x2048 .f32 := Host.absf main_arg1
  let main_cst_0 : FVec F S_ .f32 := constant S_ .f32 0x7F800000#32
  let main_v5 : FVec F S2x16x6x2048 .f32 := broadcastInDim S2x16x6x2048 ![] bcast_S_S2x16x6x2048 main_cst_0
  let main_v6 : IVec S2x16x6x2048 1 := cmpf .olt main_v4 main_v5
  let main_c_1 : IVec S_ 1 := constantI S_ 1 1#1
  let main_v7 : IVec S_ 1 := (fun x v => Host.reduce IntOp.andi x v reducesTo_S2x16x6x2048_S_d0_1_2_3 h_S_) main_v6 main_c_1
  let main_v8 : IVec S_ 1 := andi main_v3 main_v7
  let main_v9 : FVec F S2x2048 .f32 := Host.absf main_arg2
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S2x2048x4672 .f32 := Host.absf main_arg3
  let main_cst_4 : FVec F S_ .f32 := constant S_ .f32 0x7F800000#32
  let main_v15 : FVec F S2x2048x4672 .f32 := broadcastInDim S2x2048x4672 ![] bcast_S_S2x2048x4672 main_cst_4
  let main_v16 : IVec S2x2048x4672 1 := cmpf .olt main_v14 main_v15
  fn_part1 (F := F) main_arg4 main_arg5 main_arg6 main_arg8 main_arg9 main_v13 main_v16
-- ==== Kernel.lean ====
abbrev S8192x2048 : Shape := ⟨2, ![8192, 2048]⟩
abbrev S2x16x6x2048 : Shape := ⟨4, ![2, 16, 6, 2048]⟩
abbrev S2x2048 : Shape := ⟨2, ![2, 2048]⟩
abbrev S2x2048x4672 : Shape := ⟨3, ![2, 2048, 4672]⟩
abbrev S2x4 : Shape := ⟨2, ![2, 4]⟩
abbrev S2x256 : Shape := ⟨2, ![2, 256]⟩
abbrev S2x256x4x128 : Shape := ⟨4, ![2, 256, 4, 128]⟩
abbrev S2x128 : Shape := ⟨2, ![2, 128]⟩
abbrev S2x4x64 : Shape := ⟨3, ![2, 4, 64]⟩
abbrev S32x2x2x256x128 : Shape := ⟨5, ![32, 2, 2, 256, 128]⟩
abbrev S32x2x256x320 : Shape := ⟨4, ![32, 2, 256, 320]⟩
abbrev S32x2x4x256x128 : Shape := ⟨5, ![32, 2, 4, 256, 128]⟩
abbrev S2x2048x2048 : Shape := ⟨3, ![2, 2048, 2048]⟩
abbrev S2x2048x2560 : Shape := ⟨3, ![2, 2048, 2560]⟩
abbrev S2x2048x64 : Shape := ⟨3, ![2, 2048, 64]⟩
abbrev S_ : Shape := ⟨0, ![]⟩
abbrev S2x2048x192 : Shape := ⟨3, ![2, 2048, 192]⟩
abbrev S2x2048x4864 : Shape := ⟨3, ![2, 2048, 4864]⟩
abbrev S2x256x512 : Shape := ⟨3, ![2, 256, 512]⟩
abbrev S1x4 : Shape := ⟨2, ![1, 4]⟩
abbrev S4 : Shape := ⟨1, ![4]⟩
abbrev S1x256 : Shape := ⟨2, ![1, 256]⟩
abbrev S256 : Shape := ⟨1, ![256]⟩
abbrev S1x256x512 : Shape := ⟨3, ![1, 256, 512]⟩
abbrev S256x512 : Shape := ⟨2, ![256, 512]⟩
abbrev S1x128 : Shape := ⟨2, ![1, 128]⟩
abbrev S128 : Shape := ⟨1, ![128]⟩
abbrev S1x4x64 : Shape := ⟨3, ![1, 4, 64]⟩
abbrev S4x64 : Shape := ⟨2, ![4, 64]⟩
abbrev S1x2048 : Shape := ⟨2, ![1, 2048]⟩
abbrev S2048 : Shape := ⟨1, ![2048]⟩
abbrev S8192x512 : Shape := ⟨2, ![8192, 512]⟩
abbrev S512x2048 : Shape := ⟨2, ![512, 2048]⟩
abbrev S1x1x6x2048 : Shape := ⟨4, ![1, 1, 6, 2048]⟩
abbrev S1x2048x4864 : Shape := ⟨3, ![1, 2048, 4864]⟩
abbrev S512x512 : Shape := ⟨2, ![512, 512]⟩
abbrev S2x1x2x256x128 : Shape := ⟨5, ![2, 1, 2, 256, 128]⟩
abbrev S2x1x256x320 : Shape := ⟨4, ![2, 1, 256, 320]⟩
abbrev S2x1x4x256x128 : Shape := ⟨5, ![2, 1, 4, 256, 128]⟩
abbrev S512x4864 : Shape := ⟨2, ![512, 4864]⟩
abbrev S256x2048 : Shape := ⟨2, ![256, 2048]⟩
abbrev S256x1 : Shape := ⟨2, ![256, 1]⟩
abbrev S1x1x1x2048 : Shape := ⟨4, ![1, 1, 1, 2048]⟩
abbrev S2048x4864 : Shape := ⟨2, ![2048, 4864]⟩
abbrev S256x4864 : Shape := ⟨2, ![256, 4864]⟩
abbrev S256x128 : Shape := ⟨2, ![256, 128]⟩
abbrev S1x1x2x256x128 : Shape := ⟨5, ![1, 1, 2, 256, 128]⟩
abbrev S2x256x128 : Shape := ⟨3, ![2, 256, 128]⟩
abbrev S1x256x128 : Shape := ⟨3, ![1, 256, 128]⟩
abbrev S256x256 : Shape := ⟨2, ![256, 256]⟩
abbrev S1 : Shape := ⟨1, ![1]⟩
abbrev S256x64 : Shape := ⟨2, ![256, 64]⟩
abbrev S1x1x256x320 : Shape := ⟨4, ![1, 1, 256, 320]⟩
abbrev S256x320 : Shape := ⟨2, ![256, 320]⟩
abbrev S1x64 : Shape := ⟨2, ![1, 64]⟩
abbrev S1x1 : Shape := ⟨2, ![1, 1]⟩
abbrev S1x1x4x256x128 : Shape := ⟨5, ![1, 1, 4, 256, 128]⟩
abbrev S4x256x128 : Shape := ⟨3, ![4, 256, 128]⟩

abbrev nBuf : Space → Nat
  | .hbm => 64
  | .vmem => 35
  | .smem => 1
  | _ => 0

abbrev bufTy : (tb : Table) → Fin (tcTables nBuf tb) → BufTy
  | .hbm, ⟨0, _⟩ => ⟨S8192x2048, .f32⟩
  | .hbm, ⟨1, _⟩ => ⟨S2x16x6x2048, .f32⟩
  | .hbm, ⟨2, _⟩ => ⟨S2x2048, .f32⟩
  | .hbm, ⟨3, _⟩ => ⟨S2x2048x4672, .f32⟩
  | .hbm, ⟨4, _⟩ => ⟨S2x4, .f32⟩
  | .hbm, ⟨5, _⟩ => ⟨S2x256, .f32⟩
  | .hbm, ⟨6, _⟩ => ⟨S2x256x4x128, .f32⟩
  | .hbm, ⟨7, _⟩ => ⟨S2x256x4x128, .f32⟩
  | .hbm, ⟨8, _⟩ => ⟨S2x128, .f32⟩
  | .hbm, ⟨9, _⟩ => ⟨S2x128, .f32⟩
  | .hbm, ⟨10, _⟩ => ⟨S2x4x64, .f32⟩
  | .hbm, ⟨11, _⟩ => ⟨S2x128, .f32⟩
  | .hbm, ⟨12, _⟩ => ⟨S32x2x2x256x128, .f32⟩
  | .hbm, ⟨13, _⟩ => ⟨S32x2x2x256x128, .f32⟩
  | .hbm, ⟨14, _⟩ => ⟨S32x2x256x320, .f32⟩
  | .hbm, ⟨15, _⟩ => ⟨S32x2x2x256x128, .f32⟩
  | .hbm, ⟨16, _⟩ => ⟨S32x2x2x256x128, .f32⟩
  | .hbm, ⟨17, _⟩ => ⟨S32x2x4x256x128, .f32⟩
  | .hbm, ⟨18, _⟩ => ⟨S32x2x4x256x128, .f32⟩
  | .hbm, ⟨19, _⟩ => ⟨S2x2048x4672, .bf16⟩
  | .hbm, ⟨20, _⟩ => ⟨S2x2048x2048, .bf16⟩
  | .hbm, ⟨21, _⟩ => ⟨S2x2048x2560, .bf16⟩
  | .hbm, ⟨22, _⟩ => ⟨S2x2048x64, .bf16⟩
  | .hbm, ⟨23, _⟩ => ⟨S_, .bf16⟩
  | .hbm, ⟨24, _⟩ => ⟨S2x2048x192, .bf16⟩
  | .hbm, ⟨25, _⟩ => ⟨S2x2048x4864, .bf16⟩
  | .hbm, ⟨26, _⟩ => ⟨S2x256x512, .f32⟩
  | .hbm, ⟨27, _⟩ => ⟨S2x256x512, .bf16⟩
  | .hbm, ⟨28, _⟩ => ⟨S2x256x512, .f32⟩
  | .hbm, ⟨29, _⟩ => ⟨S2x256x512, .bf16⟩
  | .hbm, ⟨30, _⟩ => ⟨S1x4, .f32⟩
  | .hbm, ⟨31, _⟩ => ⟨S4, .f32⟩
  | .hbm, ⟨32, _⟩ => ⟨S1x256, .f32⟩
  | .hbm, ⟨33, _⟩ => ⟨S256, .f32⟩
  | .hbm, ⟨34, _⟩ => ⟨S1x256, .f32⟩
  | .hbm, ⟨35, _⟩ => ⟨S1x256x512, .bf16⟩
  | .hbm, ⟨36, _⟩ => ⟨S256x512, .bf16⟩
  | .hbm, ⟨37, _⟩ => ⟨S1x256x512, .bf16⟩
  | .hbm, ⟨38, _⟩ => ⟨S256x512, .bf16⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S1x4x64, .f32⟩
  | .hbm, ⟨46, _⟩ => ⟨S4x64, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S8192x512, .bf16⟩
  | .hbm, ⟨54, _⟩ => ⟨S8192x512, .bf16⟩
  | .hbm, ⟨55, _⟩ => ⟨S8192x512, .bf16⟩
  | .hbm, ⟨56, _⟩ => ⟨S8192x512, .bf16⟩
  | .hbm, ⟨57, _⟩ => ⟨S32x2x2x256x128, .f32⟩
  | .hbm, ⟨58, _⟩ => ⟨S32x2x2x256x128, .f32⟩
  | .hbm, ⟨59, _⟩ => ⟨S32x2x256x320, .f32⟩
  | .hbm, ⟨60, _⟩ => ⟨S32x2x2x256x128, .f32⟩
  | .hbm, ⟨61, _⟩ => ⟨S32x2x2x256x128, .f32⟩
  | .hbm, ⟨62, _⟩ => ⟨S32x2x4x256x128, .f32⟩
  | .hbm, ⟨63, _⟩ => ⟨S32x2x4x256x128, .f32⟩
  | .local _ .vmem, ⟨0, _⟩ => ⟨S512x2048, .f32⟩
  | .local _ .vmem, ⟨1, _⟩ => ⟨S512x2048, .f32⟩
  | .local _ .vmem, ⟨2, _⟩ => ⟨S1x1x6x2048, .f32⟩
  | .local _ .vmem, ⟨3, _⟩ => ⟨S1x2048, .f32⟩
  | .local _ .vmem, ⟨4, _⟩ => ⟨S1x2048x4864, .bf16⟩
  | .local _ .vmem, ⟨5, _⟩ => ⟨S1x256, .f32⟩
  | .local _ .vmem, ⟨6, _⟩ => ⟨S256x512, .bf16⟩
  | .local _ .vmem, ⟨7, _⟩ => ⟨S256x512, .bf16⟩
  | .local _ .vmem, ⟨8, _⟩ => ⟨S1x128, .f32⟩
  | .local _ .vmem, ⟨9, _⟩ => ⟨S1x128, .f32⟩
  | .local _ .vmem, ⟨10, _⟩ => ⟨S4x64, .f32⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S2x1x2x256x128, .f32⟩
  | .local _ .vmem, ⟨21, _⟩ => ⟨S2x1x2x256x128, .f32⟩
  | .local _ .vmem, ⟨22, _⟩ => ⟨S2x1x2x256x128, .f32⟩
  | .local _ .vmem, ⟨23, _⟩ => ⟨S2x1x2x256x128, .f32⟩
  | .local _ .vmem, ⟨24, _⟩ => ⟨S2x1x256x320, .f32⟩
  | .local _ .vmem, ⟨25, _⟩ => ⟨S2x1x256x320, .f32⟩
  | .local _ .vmem, ⟨26, _⟩ => ⟨S2x1x2x256x128, .f32⟩
  | .local _ .vmem, ⟨27, _⟩ => ⟨S2x1x2x256x128, .f32⟩
  | .local _ .vmem, ⟨28, _⟩ => ⟨S2x1x2x256x128, .f32⟩
  | .local _ .vmem, ⟨29, _⟩ => ⟨S2x1x2x256x128, .f32⟩
  | .local _ .vmem, ⟨30, _⟩ => ⟨S2x1x4x256x128, .f32⟩
  | .local _ .vmem, ⟨31, _⟩ => ⟨S2x1x4x256x128, .f32⟩
  | .local _ .vmem, ⟨32, _⟩ => ⟨S2x1x4x256x128, .f32⟩
  | .local _ .vmem, ⟨33, _⟩ => ⟨S2x1x4x256x128, .f32⟩
  | .local _ .vmem, ⟨34, _⟩ => ⟨S512x4864, .f32⟩
  | .local _ .smem, ⟨0, _⟩ => ⟨S4, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_v33_2 : Ref sig .tc := ⟨.hbm, 55, rfl⟩
abbrev main_v33_3 : Ref sig .tc := ⟨.hbm, 56, rfl⟩
abbrev main_v33_4 : Ref sig .tc := ⟨.hbm, 57, rfl⟩
abbrev main_v33_5 : Ref sig .tc := ⟨.hbm, 58, rfl⟩
abbrev main_v33_6 : Ref sig .tc := ⟨.hbm, 59, rfl⟩
abbrev main_v33_7 : Ref sig .tc := ⟨.hbm, 60, rfl⟩
abbrev main_v33_8 : Ref sig .tc := ⟨.hbm, 61, rfl⟩
abbrev main_v33_9 : Ref sig .tc := ⟨.hbm, 62, rfl⟩
abbrev main_v33_10 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_24 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_25 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_26 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_27 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_28 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_29 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1x2x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1x2x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1x256x320 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x1x2x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x1x2x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x1x4x256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x4x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== KernelIdeal.lean ====
variable {F : FTy → Type} [FloatOps F] [Named F]
def κ : String → Option EReal := fun
  | "log2e" => some (((Real.log 2)⁻¹ : ℝ) : EReal)
  | "s128_log2e" => some (((Real.sqrt 128)⁻¹ * (Real.log 2)⁻¹ : ℝ) : EReal)
  | "s192_log2e" => some (((Real.sqrt 192)⁻¹ * (Real.log 2)⁻¹ : ℝ) : EReal)
  | "s64_log2e" => some ((8⁻¹ * (Real.log 2)⁻¹ : ℝ) : EReal)
  | _ => none
-- ==== ReferenceIdeal.lean ====
abbrev S8192x2048 : Shape := ⟨2, ![8192, 2048]⟩
abbrev S2x16x6x2048 : Shape := ⟨4, ![2, 16, 6, 2048]⟩
abbrev S2x2048 : Shape := ⟨2, ![2, 2048]⟩
abbrev S2x2048x4672 : Shape := ⟨3, ![2, 2048, 4672]⟩
abbrev S2x4 : Shape := ⟨2, ![2, 4]⟩
abbrev S2x256 : Shape := ⟨2, ![2, 256]⟩
abbrev S2x256x4x128 : Shape := ⟨4, ![2, 256, 4, 128]⟩
abbrev S2x128 : Shape := ⟨2, ![2, 128]⟩
abbrev S2x4x64 : Shape := ⟨3, ![2, 4, 64]⟩
abbrev S32x2x2x256x128 : Shape := ⟨5, ![32, 2, 2, 256, 128]⟩
abbrev S32x2x256x320 : Shape := ⟨4, ![32, 2, 256, 320]⟩
abbrev S32x2x4x256x128 : Shape := ⟨5, ![32, 2, 4, 256, 128]⟩
abbrev S1x1x1x2048 : Shape := ⟨4, ![1, 1, 1, 2048]⟩
abbrev S2048 : Shape := ⟨1, ![2048]⟩
abbrev S32x256x2048 : Shape := ⟨3, ![32, 256, 2048]⟩
abbrev S1x2048 : Shape := ⟨2, ![1, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S1x2048x4672 : Shape := ⟨3, ![1, 2048, 4672]⟩
abbrev S2048x4672 : Shape := ⟨2, ![2048, 4672]⟩
abbrev S32x256x4672 : Shape := ⟨3, ![32, 256, 4672]⟩
abbrev S32x256x512 : Shape := ⟨3, ![32, 256, 512]⟩
abbrev S32x256x256 : Shape := ⟨3, ![32, 256, 256]⟩
abbrev S32x256x64 : Shape := ⟨3, ![32, 256, 64]⟩
abbrev S32x256x2x128 : Shape := ⟨4, ![32, 256, 2, 128]⟩
abbrev S32x2x256x128 : Shape := ⟨4, ![32, 2, 256, 128]⟩
abbrev S32x256x4x128 : Shape := ⟨4, ![32, 256, 4, 128]⟩
abbrev S32x4x256x128 : Shape := ⟨4, ![32, 4, 256, 128]⟩
abbrev S1x4 : Shape := ⟨2, ![1, 4]⟩
abbrev S4 : Shape := ⟨1, ![4]⟩
abbrev S32x2x2x256x256 : Shape := ⟨5, ![32, 2, 2, 256, 256]⟩
abbrev S1x2x2x1x1 : Shape := ⟨5, ![1, 2, 2, 1, 1]⟩
abbrev S32x2x2x256x1 : Shape := ⟨5, ![32, 2, 2, 256, 1]⟩
abbrev S32x2x2x256x257 : Shape := ⟨5, ![32, 2, 2, 256, 257]⟩
abbrev S32x2x2x256 : Shape := ⟨4, ![32, 2, 2, 256]⟩
abbrev S1x256 : Shape := ⟨2, ![1, 256]⟩
abbrev S256 : Shape := ⟨1, ![256]⟩
abbrev S1x1x256 : Shape := ⟨3, ![1, 1, 256]⟩
abbrev S32x256x4x64 : Shape := ⟨4, ![32, 256, 4, 64]⟩
abbrev S32x4x256x64 : Shape := ⟨4, ![32, 4, 256, 64]⟩
abbrev S32x4x256x192 : Shape := ⟨4, ![32, 4, 256, 192]⟩
abbrev S32x1x256x64 : Shape := ⟨4, ![32, 1, 256, 64]⟩
abbrev S1x256x4x128 : Shape := ⟨4, ![1, 256, 4, 128]⟩
abbrev S256x4x128 : Shape := ⟨3, ![256, 4, 128]⟩
abbrev S4x128x32x256 : Shape := ⟨4, ![4, 128, 32, 256]⟩
abbrev S32x4x1x256x192 : Shape := ⟨5, ![32, 4, 1, 256, 192]⟩
abbrev S32x4x1x256x256 : Shape := ⟨5, ![32, 4, 1, 256, 256]⟩
abbrev S32x4x1x256 : Shape := ⟨4, ![32, 4, 1, 256]⟩
abbrev S32x4x1x256x1 : Shape := ⟨5, ![32, 4, 1, 256, 1]⟩
abbrev S32x4x1x256x128 : Shape := ⟨5, ![32, 4, 1, 256, 128]⟩
abbrev S1x128 : Shape := ⟨2, ![1, 128]⟩
abbrev S128 : Shape := ⟨1, ![128]⟩
abbrev S32x4x256 : Shape := ⟨3, ![32, 4, 256]⟩
abbrev S32x4x256x1 : Shape := ⟨4, ![32, 4, 256, 1]⟩
abbrev S1x1x1x128 : Shape := ⟨4, ![1, 1, 1, 128]⟩
abbrev S32x2x256 : Shape := ⟨3, ![32, 2, 256]⟩
abbrev S32x2x256x1 : Shape := ⟨4, ![32, 2, 256, 1]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S32x4x1x256x64 : Shape := ⟨5, ![32, 4, 1, 256, 64]⟩
abbrev S32x256x320 : Shape := ⟨3, ![32, 256, 320]⟩
abbrev S32x1x2x256x128 : Shape := ⟨5, ![32, 1, 2, 256, 128]⟩
abbrev S32x1x256x320 : Shape := ⟨4, ![32, 1, 256, 320]⟩
abbrev S32x1x4x256x128 : Shape := ⟨5, ![32, 1, 4, 256, 128]⟩
abbrev S8192x512 : Shape := ⟨2, ![8192, 512]⟩

abbrev nBuf : Space → Nat
  | .hbm => 366
  | .vmem => 0
  | .smem => 0
  | _ => 0

abbrev hbmTy0_0 (i : Nat) : BufTy := match i % 128 with
  | 0 => ⟨S8192x2048, .f32⟩
  | 1 => ⟨S2x16x6x2048, .f32⟩
  | 2 => ⟨S2x2048, .f32⟩
  | 3 => ⟨S2x2048x4672, .f32⟩
  | 4 => ⟨S2x4, .f32⟩
  | 5 => ⟨S2x256, .f32⟩
  | 6 => ⟨S2x256x4x128, .f32⟩
  | 7 => ⟨S2x256x4x128, .f32⟩
  | 8 => ⟨S2x128, .f32⟩
  | 9 => ⟨S2x128, .f32⟩
  | 10 => ⟨S2x4x64, .f32⟩
  | 11 => ⟨S2x128, .f32⟩
  | 12 => ⟨S32x2x2x256x128, .f32⟩
  | 13 => ⟨S32x2x2x256x128, .f32⟩
  | 14 => ⟨S32x2x256x320, .f32⟩
  | 15 => ⟨S32x2x2x256x128, .f32⟩
  | 16 => ⟨S32x2x2x256x128, .f32⟩
  | 17 => ⟨S32x2x4x256x128, .f32⟩
  | 18 => ⟨S32x2x4x256x128, .f32⟩
  | 19 => ⟨S1x1x1x2048, .f32⟩
  | 20 => ⟨S2048, .f32⟩
  | 21 => ⟨S1x1x1x2048, .f32⟩
  | 22 => ⟨S2048, .f32⟩
  | 23 => ⟨S32x256x2048, .f32⟩
  | 24 => ⟨S1x2048, .f32⟩
  | 25 => ⟨S2048, .f32⟩
  | 26 => ⟨S32x256x2048, .f32⟩
  | 27 => ⟨S_, .f32⟩
  | 28 => ⟨S32x256, .f32⟩
  | 29 => ⟨S32x256x1, .f32⟩
  | 30 => ⟨S_, .f32⟩
  | 31 => ⟨S32x256x1, .f32⟩
  | 32 => ⟨S32x256x1, .f32⟩
  | 33 => ⟨S_, .f32⟩
  | 34 => ⟨S32x256x1, .f32⟩
  | 35 => ⟨S32x256x1, .f32⟩
  | 36 => ⟨S32x256x1, .f32⟩
  | 37 => ⟨S32x256x2048, .f32⟩
  | 38 => ⟨S32x256x2048, .f32⟩
  | 39 => ⟨S1x1x2048, .f32⟩
  | 40 => ⟨S32x256x2048, .f32⟩
  | 41 => ⟨S32x256x2048, .f32⟩
  | 42 => ⟨S_, .f32⟩
  | 43 => ⟨S2048, .f32⟩
  | 44 => ⟨S2048, .f32⟩
  | 45 => ⟨S1x1x2048, .f32⟩
  | 46 => ⟨S32x256x2048, .f32⟩
  | 47 => ⟨S32x256x2048, .f32⟩
  | 48 => ⟨S1x1x2048, .f32⟩
  | 49 => ⟨S32x256x2048, .f32⟩
  | 50 => ⟨S32x256x2048, .f32⟩
  | 51 => ⟨S1x2048x4672, .f32⟩
  | 52 => ⟨S2048x4672, .f32⟩
  | 53 => ⟨S32x256x4672, .f32⟩
  | 54 => ⟨S32x256x512, .f32⟩
  | 55 => ⟨S32x256x256, .f32⟩
  | 56 => ⟨S32x256x256, .f32⟩
  | 57 => ⟨S32x256x512, .f32⟩
  | 58 => ⟨S32x256x256, .f32⟩
  | 59 => ⟨S32x256x256, .f32⟩
  | 60 => ⟨S32x256x64, .f32⟩
  | 61 => ⟨S32x256x512, .f32⟩
  | 62 => ⟨S32x256x256, .f32⟩
  | 63 => ⟨S32x256x256, .f32⟩
  | 64 => ⟨S32x256x512, .f32⟩
  | 65 => ⟨S32x256x512, .f32⟩
  | 66 => ⟨S32x256x512, .f32⟩
  | 67 => ⟨S32x256x2x128, .f32⟩
  | 68 => ⟨S32x2x256x128, .f32⟩
  | 69 => ⟨S32x256x2x128, .f32⟩
  | 70 => ⟨S32x2x256x128, .f32⟩
  | 71 => ⟨S32x256x4x128, .f32⟩
  | 72 => ⟨S32x4x256x128, .f32⟩
  | 73 => ⟨S_, .f32⟩
  | 74 => ⟨S_, .f32⟩
  | 75 => ⟨S1x4, .f32⟩
  | 76 => ⟨S4, .f32⟩
  | 77 => ⟨S32x2x2x256x128, .f32⟩
  | 78 => ⟨S32x2x2x256x256, .f32⟩
  | 79 => ⟨S32x2x2x256x256, .f32⟩
  | 80 => ⟨S32x2x2x256x256, .f32⟩
  | 81 => ⟨S1x2x2x1x1, .f32⟩
  | 82 => ⟨S32x2x2x256x1, .f32⟩
  | 83 => ⟨S32x2x2x256x257, .f32⟩
  | 84 => ⟨S_, .f32⟩
  | 85 => ⟨S32x2x2x256, .f32⟩
  | 86 => ⟨S_, .f32⟩
  | 87 => ⟨S32x2x2x256, .f32⟩
  | 88 => ⟨S32x2x2x256, .f32⟩
  | 89 => ⟨S32x2x2x256x1, .f32⟩
  | 90 => ⟨S32x2x2x256x257, .f32⟩
  | 91 => ⟨S32x2x2x256x257, .f32⟩
  | 92 => ⟨S32x2x2x256x257, .f32⟩
  | 93 => ⟨S_, .f32⟩
  | 94 => ⟨S32x2x2x256, .f32⟩
  | 95 => ⟨S32x2x2x256x1, .f32⟩
  | 96 => ⟨S32x2x2x256x257, .f32⟩
  | 97 => ⟨S32x2x2x256x257, .f32⟩
  | 98 => ⟨S32x2x2x256x256, .f32⟩
  | 99 => ⟨S32x2x2x256x128, .f32⟩
  | 100 => ⟨S32x4x256x128, .f32⟩
  | 101 => ⟨S1x256, .f32⟩
  | 102 => ⟨S256, .f32⟩
  | 103 => ⟨S32x256x256, .f32⟩
  | 104 => ⟨S_, .f32⟩
  | 105 => ⟨S32x256, .f32⟩
  | 106 => ⟨S32x256x1, .f32⟩
  | 107 => ⟨S_, .f32⟩
  | 108 => ⟨S32x256x1, .f32⟩
  | 109 => ⟨S32x256x1, .f32⟩
  | 110 => ⟨S_, .f32⟩
  | 111 => ⟨S32x256x1, .f32⟩
  | 112 => ⟨S32x256x1, .f32⟩
  | 113 => ⟨S32x256x1, .f32⟩
  | 114 => ⟨S32x256x256, .f32⟩
  | 115 => ⟨S32x256x256, .f32⟩
  | 116 => ⟨S1x1x256, .f32⟩
  | 117 => ⟨S32x256x256, .f32⟩
  | 118 => ⟨S32x256x256, .f32⟩
  | 119 => ⟨S32x256x4x128, .f32⟩
  | 120 => ⟨S32x4x256x128, .f32⟩
  | 121 => ⟨S32x256x4x64, .f32⟩
  | 122 => ⟨S32x4x256x64, .f32⟩
  | 123 => ⟨S32x4x256x192, .f32⟩
  | 124 => ⟨S32x1x256x64, .f32⟩
  | 125 => ⟨S1x256x4x128, .f32⟩
  | 126 => ⟨S256x4x128, .f32⟩
  | 127 => ⟨S1x256x4x128, .f32⟩
  | _ => ⟨S8192x2048, .f32⟩

abbrev hbmTy0_1 (i : Nat) : BufTy := match i % 128 with
  | 0 => ⟨S256x4x128, .f32⟩
  | 1 => ⟨S4x128x32x256, .f32⟩
  | 2 => ⟨S32x4x256x128, .f32⟩
  | 3 => ⟨S32x4x256x64, .f32⟩
  | 4 => ⟨S32x4x256x192, .f32⟩
  | 5 => ⟨S4x128x32x256, .f32⟩
  | 6 => ⟨S32x4x256x128, .f32⟩
  | 7 => ⟨S_, .f32⟩
  | 8 => ⟨S_, .f32⟩
  | 9 => ⟨S32x4x1x256x192, .f32⟩
  | 10 => ⟨S32x4x1x256x256, .f32⟩
  | 11 => ⟨S32x4x1x256x256, .f32⟩
  | 12 => ⟨S32x4x1x256x256, .f32⟩
  | 13 => ⟨S_, .f32⟩
  | 14 => ⟨S32x4x1x256, .f32⟩
  | 15 => ⟨S_, .f32⟩
  | 16 => ⟨S32x4x1x256, .f32⟩
  | 17 => ⟨S32x4x1x256, .f32⟩
  | 18 => ⟨S32x4x1x256x1, .f32⟩
  | 19 => ⟨S32x4x1x256x256, .f32⟩
  | 20 => ⟨S32x4x1x256x256, .f32⟩
  | 21 => ⟨S32x4x1x256x256, .f32⟩
  | 22 => ⟨S_, .f32⟩
  | 23 => ⟨S32x4x1x256, .f32⟩
  | 24 => ⟨S32x4x1x256x1, .f32⟩
  | 25 => ⟨S32x4x1x256x256, .f32⟩
  | 26 => ⟨S32x4x1x256x256, .f32⟩
  | 27 => ⟨S32x4x1x256x128, .f32⟩
  | 28 => ⟨S32x4x256x128, .f32⟩
  | 29 => ⟨S32x256x4x128, .f32⟩
  | 30 => ⟨S32x4x256x128, .f32⟩
  | 31 => ⟨S1x128, .f32⟩
  | 32 => ⟨S128, .f32⟩
  | 33 => ⟨S32x4x256x128, .f32⟩
  | 34 => ⟨S_, .f32⟩
  | 35 => ⟨S32x4x256, .f32⟩
  | 36 => ⟨S32x4x256x1, .f32⟩
  | 37 => ⟨S_, .f32⟩
  | 38 => ⟨S32x4x256x1, .f32⟩
  | 39 => ⟨S32x4x256x1, .f32⟩
  | 40 => ⟨S_, .f32⟩
  | 41 => ⟨S32x4x256x1, .f32⟩
  | 42 => ⟨S32x4x256x1, .f32⟩
  | 43 => ⟨S32x4x256x1, .f32⟩
  | 44 => ⟨S32x4x256x128, .f32⟩
  | 45 => ⟨S32x4x256x128, .f32⟩
  | 46 => ⟨S1x1x1x128, .f32⟩
  | 47 => ⟨S32x4x256x128, .f32⟩
  | 48 => ⟨S32x4x256x128, .f32⟩
  | 49 => ⟨S32x256x2x128, .f32⟩
  | 50 => ⟨S32x2x256x128, .f32⟩
  | 51 => ⟨S1x128, .f32⟩
  | 52 => ⟨S128, .f32⟩
  | 53 => ⟨S32x2x256x128, .f32⟩
  | 54 => ⟨S_, .f32⟩
  | 55 => ⟨S32x2x256, .f32⟩
  | 56 => ⟨S32x2x256x1, .f32⟩
  | 57 => ⟨S_, .f32⟩
  | 58 => ⟨S32x2x256x1, .f32⟩
  | 59 => ⟨S32x2x256x1, .f32⟩
  | 60 => ⟨S_, .f32⟩
  | 61 => ⟨S32x2x256x1, .f32⟩
  | 62 => ⟨S32x2x256x1, .f32⟩
  | 63 => ⟨S32x2x256x1, .f32⟩
  | 64 => ⟨S32x2x256x128, .f32⟩
  | 65 => ⟨S32x2x256x128, .f32⟩
  | 66 => ⟨S1x1x1x128, .f32⟩
  | 67 => ⟨S32x2x256x128, .f32⟩
  | 68 => ⟨S32x2x256x128, .f32⟩
  | 69 => ⟨S32x256x2x128, .f32⟩
  | 70 => ⟨S32x2x256x128, .f32⟩
  | 71 => ⟨S_, .f32⟩
  | 72 => ⟨S_, .f32⟩
  | 73 => ⟨S32x2x2x256x128, .f32⟩
  | 74 => ⟨S32x2x2x256x256, .f32⟩
  | 75 => ⟨S32x2x2x256x256, .f32⟩
  | 76 => ⟨S32x2x2x256x256, .f32⟩
  | 77 => ⟨S_, .f32⟩
  | 78 => ⟨S32x2x2x256, .f32⟩
  | 79 => ⟨S_, .f32⟩
  | 80 => ⟨S32x2x2x256, .f32⟩
  | 81 => ⟨S32x2x2x256, .f32⟩
  | 82 => ⟨S32x2x2x256x1, .f32⟩
  | 83 => ⟨S32x2x2x256x256, .f32⟩
  | 84 => ⟨S32x2x2x256x256, .f32⟩
  | 85 => ⟨S32x2x2x256x256, .f32⟩
  | 86 => ⟨S_, .f32⟩
  | 87 => ⟨S32x2x2x256, .f32⟩
  | 88 => ⟨S32x2x2x256x1, .f32⟩
  | 89 => ⟨S32x2x2x256x256, .f32⟩
  | 90 => ⟨S32x2x2x256x256, .f32⟩
  | 91 => ⟨S32x2x2x256x128, .f32⟩
  | 92 => ⟨S32x4x256x128, .f32⟩
  | 93 => ⟨S32x256x4x128, .f32⟩
  | 94 => ⟨S32x4x256x128, .f32⟩
  | 95 => ⟨S32x256x4x128, .f32⟩
  | 96 => ⟨S32x4x256x128, .f32⟩
  | 97 => ⟨S32x256x4x128, .f32⟩
  | 98 => ⟨S32x4x256x128, .f32⟩
  | 99 => ⟨S1x4x64, .f32⟩
  | 100 => ⟨S4x64, .f32⟩
  | 101 => ⟨S1x64, .f32⟩
  | 102 => ⟨S64, .f32⟩
  | 103 => ⟨S1x64, .f32⟩
  | 104 => ⟨S64, .f32⟩
  | 105 => ⟨S64, .f32⟩
  | 106 => ⟨S_, .f32⟩
  | 107 => ⟨S_, .f32⟩
  | 108 => ⟨S_, .f32⟩
  | 109 => ⟨S1x64, .f32⟩
  | 110 => ⟨S64, .f32⟩
  | 111 => ⟨S1x64, .f32⟩
  | 112 => ⟨S64, .f32⟩
  | 113 => ⟨S64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S32x4x256x64, .f32⟩
  | 121 => ⟨S32x4x256x64, .f32⟩
  | 122 => ⟨S32x4x1x256x64, .f32⟩
  | 123 => ⟨S32x4x1x256x256, .f32⟩
  | 124 => ⟨S_, .f32⟩
  | 125 => ⟨S32x4x1x256x256, .f32⟩
  | 126 => ⟨S32x4x1x256x256, .f32⟩
  | 127 => ⟨S_, .f32⟩
  | _ => ⟨S8192x2048, .f32⟩

abbrev hbmTy0_2 (i : Nat) : BufTy := match i % 128 with
  | 0 => ⟨S32x4x1x256, .f32⟩
  | 1 => ⟨S_, .f32⟩
  | 2 => ⟨S32x4x1x256, .f32⟩
  | 3 => ⟨S32x4x1x256, .f32⟩
  | 4 => ⟨S32x4x1x256x1, .f32⟩
  | 5 => ⟨S32x4x1x256x256, .f32⟩
  | 6 => ⟨S32x4x1x256x256, .f32⟩
  | 7 => ⟨S32x4x1x256x256, .f32⟩
  | 8 => ⟨S_, .f32⟩
  | 9 => ⟨S32x4x1x256, .f32⟩
  | 10 => ⟨S32x4x1x256x1, .f32⟩
  | 11 => ⟨S32x4x1x256x256, .f32⟩
  | 12 => ⟨S32x4x1x256x256, .f32⟩
  | 13 => ⟨S32x4x1x256x128, .f32⟩
  | 14 => ⟨S32x4x256x128, .f32⟩
  | 15 => ⟨S32x4x256x64, .f32⟩
  | 16 => ⟨S32x4x256x64, .f32⟩
  | 17 => ⟨S32x4x1x256x64, .f32⟩
  | 18 => ⟨S32x4x1x256x256, .f32⟩
  | 19 => ⟨S_, .f32⟩
  | 20 => ⟨S32x4x1x256x256, .f32⟩
  | 21 => ⟨S32x4x1x256x256, .f32⟩
  | 22 => ⟨S_, .f32⟩
  | 23 => ⟨S32x4x1x256, .f32⟩
  | 24 => ⟨S_, .f32⟩
  | 25 => ⟨S32x4x1x256, .f32⟩
  | 26 => ⟨S32x4x1x256, .f32⟩
  | 27 => ⟨S32x4x1x256x1, .f32⟩
  | 28 => ⟨S32x4x1x256x256, .f32⟩
  | 29 => ⟨S32x4x1x256x256, .f32⟩
  | 30 => ⟨S32x4x1x256x256, .f32⟩
  | 31 => ⟨S_, .f32⟩
  | 32 => ⟨S32x4x1x256, .f32⟩
  | 33 => ⟨S32x4x1x256x1, .f32⟩
  | 34 => ⟨S32x4x1x256x256, .f32⟩
  | 35 => ⟨S32x4x1x256x256, .f32⟩
  | 36 => ⟨S32x4x1x256x128, .f32⟩
  | 37 => ⟨S32x4x256x128, .f32⟩
  | 38 => ⟨S32x4x256x128, .f32⟩
  | 39 => ⟨S32x4x256x128, .f32⟩
  | 40 => ⟨S32x4x256x128, .f32⟩
  | 41 => ⟨S1x128, .f32⟩
  | 42 => ⟨S128, .f32⟩
  | 43 => ⟨S32x4x256x128, .f32⟩
  | 44 => ⟨S_, .f32⟩
  | 45 => ⟨S32x4x256, .f32⟩
  | 46 => ⟨S32x4x256x1, .f32⟩
  | 47 => ⟨S_, .f32⟩
  | 48 => ⟨S32x4x256x1, .f32⟩
  | 49 => ⟨S32x4x256x1, .f32⟩
  | 50 => ⟨S_, .f32⟩
  | 51 => ⟨S32x4x256x1, .f32⟩
  | 52 => ⟨S32x4x256x1, .f32⟩
  | 53 => ⟨S32x4x256x1, .f32⟩
  | 54 => ⟨S32x4x256x128, .f32⟩
  | 55 => ⟨S32x4x256x128, .f32⟩
  | 56 => ⟨S1x1x1x128, .f32⟩
  | 57 => ⟨S32x4x256x128, .f32⟩
  | 58 => ⟨S32x4x256x128, .f32⟩
  | 59 => ⟨S_, .f32⟩
  | 60 => ⟨S32x4x256x128, .f32⟩
  | 61 => ⟨S32x4x256x128, .f32⟩
  | 62 => ⟨S32x256x320, .f32⟩
  | 63 => ⟨S32x1x2x256x128, .f32⟩
  | 64 => ⟨S32x2x256x128, .f32⟩
  | 65 => ⟨S32x1x2x256x128, .f32⟩
  | 66 => ⟨S32x1x2x256x128, .f32⟩
  | 67 => ⟨S32x2x2x256x128, .f32⟩
  | 68 => ⟨S32x1x2x256x128, .f32⟩
  | 69 => ⟨S32x2x256x128, .f32⟩
  | 70 => ⟨S32x1x2x256x128, .f32⟩
  | 71 => ⟨S32x1x2x256x128, .f32⟩
  | 72 => ⟨S32x2x2x256x128, .f32⟩
  | 73 => ⟨S32x1x256x320, .f32⟩
  | 74 => ⟨S32x256x320, .f32⟩
  | 75 => ⟨S32x1x256x320, .f32⟩
  | 76 => ⟨S32x1x256x320, .f32⟩
  | 77 => ⟨S32x2x256x320, .f32⟩
  | 78 => ⟨S32x1x2x256x128, .f32⟩
  | 79 => ⟨S32x2x256x128, .f32⟩
  | 80 => ⟨S32x1x2x256x128, .f32⟩
  | 81 => ⟨S32x1x2x256x128, .f32⟩
  | 82 => ⟨S32x2x2x256x128, .f32⟩
  | 83 => ⟨S32x1x2x256x128, .f32⟩
  | 84 => ⟨S32x2x256x128, .f32⟩
  | 85 => ⟨S32x1x2x256x128, .f32⟩
  | 86 => ⟨S32x1x2x256x128, .f32⟩
  | 87 => ⟨S32x2x2x256x128, .f32⟩
  | 88 => ⟨S32x1x4x256x128, .f32⟩
  | 89 => ⟨S32x4x256x128, .f32⟩
  | 90 => ⟨S32x1x4x256x128, .f32⟩
  | 91 => ⟨S32x1x4x256x128, .f32⟩
  | 92 => ⟨S32x2x4x256x128, .f32⟩
  | 93 => ⟨S32x1x4x256x128, .f32⟩
  | 94 => ⟨S32x4x256x128, .f32⟩
  | 95 => ⟨S32x1x4x256x128, .f32⟩
  | 96 => ⟨S32x1x4x256x128, .f32⟩
  | 97 => ⟨S32x2x4x256x128, .f32⟩
  | 98 => ⟨S32x256x4x128, .f32⟩
  | 99 => ⟨S8192x512, .f32⟩
  | 100 => ⟨S8192x512, .bf16⟩
  | 101 => ⟨S32x256x4x128, .f32⟩
  | 102 => ⟨S8192x512, .f32⟩
  | 103 => ⟨S8192x512, .bf16⟩
  | 104 => ⟨S32x256x4x128, .f32⟩
  | 105 => ⟨S8192x512, .f32⟩
  | 106 => ⟨S8192x512, .bf16⟩
  | 107 => ⟨S32x256x4x128, .f32⟩
  | 108 => ⟨S8192x512, .f32⟩
  | 109 => ⟨S8192x512, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_3 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_4 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_6 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_7 : Ref sig .tc := ⟨.hbm, 104, rfl⟩
abbrev main_v77 : Ref sig .tc := ⟨.hbm, 105, rfl⟩
abbrev main_v78 : Ref sig .tc := ⟨.hbm, 106, rfl⟩
abbrev main_cst_8 : Ref sig .tc := ⟨.hbm, 107, rfl⟩
abbrev main_v79 : Ref sig .tc := ⟨.hbm, 108, rfl⟩
abbrev main_v80 : Ref sig .tc := ⟨.hbm, 109, rfl⟩
abbrev main_cst_9 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_10 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_11 : Ref sig .tc := ⟨.hbm, 141, rfl⟩
abbrev main_v110 : Ref sig .tc := ⟨.hbm, 142, rfl⟩
abbrev main_cst_12 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_13 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_14 : Ref sig .tc := ⟨.hbm, 162, rfl⟩
abbrev main_v128 : Ref sig .tc := ⟨.hbm, 163, rfl⟩
abbrev main_v129 : Ref sig .tc := ⟨.hbm, 164, rfl⟩
abbrev main_cst_15 : Ref sig .tc := ⟨.hbm, 165, rfl⟩
abbrev main_v130 : Ref sig .tc := ⟨.hbm, 166, rfl⟩
abbrev main_v131 : Ref sig .tc := ⟨.hbm, 167, rfl⟩
abbrev main_cst_16 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_17 : Ref sig .tc := ⟨.hbm, 182, rfl⟩
abbrev main_v145 : Ref sig .tc := ⟨.hbm, 183, rfl⟩
abbrev main_v146 : Ref sig .tc := ⟨.hbm, 184, rfl⟩
abbrev main_cst_18 : Ref sig .tc := ⟨.hbm, 185, rfl⟩
abbrev main_v147 : Ref sig .tc := ⟨.hbm, 186, rfl⟩
abbrev main_v148 : Ref sig .tc := ⟨.hbm, 187, rfl⟩
abbrev main_cst_19 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_20 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_21 : Ref sig .tc := ⟨.hbm, 205, rfl⟩
abbrev main_v164 : Ref sig .tc := ⟨.hbm, 206, rfl⟩
abbrev main_cst_22 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_23 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_cst_24 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_cst_25 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_cst_26 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_cst_27 : Ref sig .tc := ⟨.hbm, 252, rfl⟩
abbrev main_v205 : Ref sig .tc := ⟨.hbm, 253, rfl⟩
abbrev main_v206 : Ref sig .tc := ⟨.hbm, 254, rfl⟩
abbrev main_cst_28 : Ref sig .tc := ⟨.hbm, 255, rfl⟩
abbrev main_v207 : Ref sig .tc := ⟨.hbm, 256, rfl⟩
abbrev main_cst_29 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_cst_30 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_cst_31 : Ref sig .tc := ⟨.hbm, 275, rfl⟩
abbrev main_v224 : Ref sig .tc := ⟨.hbm, 276, rfl⟩
abbrev main_v225 : Ref sig .tc := ⟨.hbm, 277, rfl⟩
abbrev main_cst_32 : Ref sig .tc := ⟨.hbm, 278, rfl⟩
abbrev main_v226 : Ref sig .tc := ⟨.hbm, 279, rfl⟩
abbrev main_cst_33 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_cst_34 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_cst_35 : Ref sig .tc := ⟨.hbm, 300, rfl⟩
abbrev main_v245 : Ref sig .tc := ⟨.hbm, 301, rfl⟩
abbrev main_v246 : Ref sig .tc := ⟨.hbm, 302, rfl⟩
abbrev main_cst_36 : Ref sig .tc := ⟨.hbm, 303, rfl⟩
abbrev main_v247 : Ref sig .tc := ⟨.hbm, 304, rfl⟩
abbrev main_v248 : Ref sig .tc := ⟨.hbm, 305, rfl⟩
abbrev main_cst_37 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_cst_38 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩

abbrev nD : Nat := 1
abbrev τ : Topo := Topo.v7x

variable {F : FTy → Type} [FloatOps F]
-- ==== Kernel2.lean ====
abbrev S8192x2048 : Shape := ⟨2, ![8192, 2048]⟩
abbrev S2x16x6x2048 : Shape := ⟨4, ![2, 16, 6, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S1024x2048 : Shape := ⟨2, ![1024, 2048]⟩
abbrev S1x1x6x2048 : Shape := ⟨4, ![1, 1, 6, 2048]⟩
abbrev S2048x512 : Shape := ⟨2, ![2048, 512]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x16x6x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048x8192, .f32⟩
  | .hbm, ⟨10, _⟩ => ⟨S2048x8192, .f32⟩
  | .hbm, ⟨11, _⟩ => ⟨S2048x8192, .bf16⟩
  | .hbm, ⟨12, _⟩ => ⟨S1x8192x2048, .f32⟩
  | .hbm, ⟨13, _⟩ => ⟨S8192x2048, .f32⟩
  | .hbm, ⟨14, _⟩ => ⟨S8192x2048, .bf16⟩
  | .hbm, ⟨15, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1x1x6x2048, .f32⟩
  | .local _ .vmem, ⟨5, _⟩ => ⟨S1x1x6x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi c1_i32_5 v17
  let c1_i32_6 : BitVec 32 := 1#32
  let c0_i32_7 : BitVec 32 := 0#32
  let c0_i32_8 : BitVec 32 := 0#32
  let c0_i32_9 : BitVec 32 := 0#32
  ![c1_i32_6.toNat, v18.toNat, c0_i32_7.toNat, c0_i32_8.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S2x16x6x2048 : Shape := ⟨4, ![2, 16, 6, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S8x1024x2048 : Shape := ⟨3, ![8, 1024, 2048]⟩
abbrev S1x8x1x2048 : Shape := ⟨4, ![1, 8, 1, 2048]⟩
abbrev S8x2048 : Shape := ⟨2, ![8, 2048]⟩
abbrev S8x1x2048 : Shape := ⟨3, ![8, 1, 2048]⟩
abbrev S1x2048x8192 : Shape := ⟨3, ![1, 2048, 8192]⟩
abbrev S2048x8192 : Shape := ⟨2, ![2048, 8192]⟩
abbrev S8x1024x8192 : Shape := ⟨3, ![8, 1024, 8192]⟩
abbrev S_ : Shape := ⟨0, ![]⟩
abbrev S1x8192x2048 : Shape := ⟨3, ![1, 8192, 2048]⟩
abbrev S1x2048 : Shape := ⟨2, ![1, 2048]⟩
abbrev S2048 : Shape := ⟨1, ![2048]⟩
abbrev S8x1024 : Shape := ⟨2, ![8, 1024]⟩
abbrev S8x1024x1 : Shape := ⟨3, ![8, 1024, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x16x6x2048, .f32⟩
  | .hbm, ⟨3, _⟩ => ⟨S2x2048, .f32⟩
  | .hbm, ⟨4, _⟩ => ⟨S2x2048x8192, .f32⟩
  | .hbm, ⟨5, _⟩ => ⟨S2x8192x2048, .f32⟩
  | .hbm, ⟨6, _⟩ => ⟨S8192x2048, .f32⟩
  | .hbm, ⟨7, _⟩ => ⟨S8x1024x2048, .f32⟩
  | .hbm, ⟨8, _⟩ => ⟨S1x8x1x2048, .f32⟩
  | .hbm, ⟨9, _⟩ => ⟨S8x2048, .f32⟩
  | .hbm, ⟨10, _⟩ => ⟨S8x1x2048, .f32⟩
  | .hbm, ⟨11, _⟩ => ⟨S1x2048x8192, .f32⟩
  | .hbm, ⟨12, _⟩ => ⟨S2048x8192, .f32⟩
  | .hbm, ⟨13, _⟩ => ⟨S8x1024x8192, .f32⟩
  | .hbm, ⟨14, _⟩ => ⟨S_, .f32⟩
  | .hbm, ⟨15, _⟩ => ⟨S8x1024x8192, .f32⟩
  | .hbm, ⟨16, _⟩ => ⟨S8x1024x8192, .f32⟩
  | .hbm, ⟨17, _⟩ => ⟨S8x1024x8192, .f32⟩
  | .hbm, ⟨18, _⟩ => ⟨S1x8192x2048, .f32⟩
  | .hbm, ⟨19, _⟩ => ⟨S8192x2048, .f32⟩
  | .hbm, ⟨20, _⟩ => ⟨S8x1024x2048, .f32⟩
  | .hbm, ⟨21, _⟩ => ⟨S8x1024x2048, .f32⟩
  | .hbm, ⟨22, _⟩ => ⟨S1x2048, .f32⟩
  | .hbm, ⟨23, _⟩ => ⟨S2048, .f32⟩
  | .hbm, ⟨24, _⟩ => ⟨S8x1024x2048, .f32⟩
  | .hbm, ⟨25, _⟩ => ⟨S_, .f32⟩
  | .hbm, ⟨26, _⟩ => ⟨S8x1024, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S_, .f32⟩
  | .hbm, ⟨32, _⟩ => ⟨S8x1024x1, .f32⟩
  | .hbm, ⟨33, _⟩ => ⟨S8x1024x1, .f32⟩
  | .hbm, ⟨34, _⟩ => ⟨S8x1024x1, .f32⟩
  | .hbm, ⟨35, _⟩ => ⟨S8x1024x2048, .f32⟩
  | .hbm, ⟨36, _⟩ => ⟨S8x1024x2048, .f32⟩
  | .hbm, ⟨37, _⟩ => ⟨S1x1x2048, .f32⟩
  | .hbm, ⟨38, _⟩ => ⟨S8x1024x2048, .f32⟩
  | .hbm, ⟨39, _⟩ => ⟨S8x1024x2048, .f32⟩
  | .hbm, ⟨40, _⟩ => ⟨S8x1024x2048, .f32⟩
  | .hbm, ⟨41, _⟩ => ⟨S8x1024x2048, .f32⟩
  | .hbm, ⟨42, _⟩ => ⟨S8x1024x2048, .f32⟩
  | .hbm, ⟨43, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel3.lean ====
abbrev S8192x512 : Shape := ⟨2, ![8192, 512]⟩
abbrev S8192x2048 : Shape := ⟨2, ![8192, 2048]⟩
abbrev S2x16x6x2048 : Shape := ⟨4, ![2, 16, 6, 2048]⟩
abbrev S2x2048 : Shape := ⟨2, ![2, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x512 : Shape := ⟨2, ![512, 512]⟩
abbrev S512x2048 : Shape := ⟨2, ![512, 2048]⟩
abbrev S1x1x6x2048 : Shape := ⟨4, ![1, 1, 6, 2048]⟩
abbrev S128x512 : Shape := ⟨2, ![128, 512]⟩
abbrev S128x2048 : Shape := ⟨2, ![128, 2048]⟩
abbrev S1x1x1x2048 : Shape := ⟨4, ![1, 1, 1, 2048]⟩
abbrev S128 : Shape := ⟨1, ![128]⟩
abbrev S128x1 : Shape := ⟨2, ![128, 1]⟩

abbrev nBuf : Space → Nat
  | .hbm => 20
  | .vmem => 19
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x2048, .f32⟩
  | .hbm, ⟨5, _⟩ => ⟨S2x16x6x2048, .f32⟩
  | .hbm, ⟨6, _⟩ => ⟨S2x2048, .f32⟩
  | .hbm, ⟨7, _⟩ => ⟨S2x2048, .f32⟩
  | .hbm, ⟨8, _⟩ => ⟨S2x2048x2048, .f32⟩
  | .hbm, ⟨9, _⟩ => ⟨S1x2048x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S1x1x6x2048, .f32⟩
  | .local _ .vmem, ⟨12, _⟩ => ⟨S1x1x6x2048, .f32⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c0_i32_6 : BitVec 32 := 0#32
  let c0_i32_7 : BitVec 32 := 0#32
  let c0_i32_8 : BitVec 32 := 0#32
  ![c1_i32_5.toNat, v18.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8192x512 : Shape := ⟨2, ![8192, 512]⟩
abbrev S8192x2048 : Shape := ⟨2, ![8192, 2048]⟩
abbrev S2x16x6x2048 : Shape := ⟨4, ![2, 16, 6, 2048]⟩
abbrev S2x2048 : Shape := ⟨2, ![2, 2048]⟩
abbrev S2x2048x2048 : Shape := ⟨3, ![2, 2048, 2048]⟩
abbrev S1x8x1x2048 : Shape := ⟨4, ![1, 8, 1, 2048]⟩
abbrev S8x2048 : Shape := ⟨2, ![8, 2048]⟩
abbrev S8x1x2048 : Shape := ⟨3, ![8, 1, 2048]⟩
abbrev S8x1024x512 : Shape := ⟨3, ![8, 1024, 512]⟩
abbrev S8x1024x2048 : Shape := ⟨3, ![8, 1024, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8x1024 : Shape := ⟨2, ![8, 1024]⟩
abbrev S8x1024x1 : Shape := ⟨3, ![8, 1024, 1]⟩
abbrev S1x1x2048 : Shape := ⟨3, ![1, 1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x2048, .f32⟩
  | .hbm, ⟨5, _⟩ => ⟨S2x16x6x2048, .f32⟩
  | .hbm, ⟨6, _⟩ => ⟨S2x2048, .f32⟩
  | .hbm, ⟨7, _⟩ => ⟨S2x2048, .f32⟩
  | .hbm, ⟨8, _⟩ => ⟨S2x2048x2048, .f32⟩
  | .hbm, ⟨9, _⟩ => ⟨S1x8x1x2048, .f32⟩
  | .hbm, ⟨10, _⟩ => ⟨S8x2048, .f32⟩
  | .hbm, ⟨11, _⟩ => ⟨S8x1x2048, .f32⟩
  | .hbm, ⟨12, _⟩ => ⟨S1x8x1x2048, .f32⟩
  | .hbm, ⟨13, _⟩ => ⟨S8x2048, .f32⟩
  | .hbm, ⟨14, _⟩ => ⟨S8x1x2048, .f32⟩
  | .hbm, ⟨15, _⟩ => ⟨S1x8x1x2048, .f32⟩
  | .hbm, ⟨16, _⟩ => ⟨S8x2048, .f32⟩
  | .hbm, ⟨17, _⟩ => ⟨S8x1x2048, .f32⟩
  | .hbm, ⟨18, _⟩ => ⟨S8x1024x512, .bf16⟩
  | .hbm, ⟨19, _⟩ => ⟨S8x1024x512, .bf16⟩
  | .hbm, ⟨20, _⟩ => ⟨S8x1024x512, .bf16⟩
  | .hbm, ⟨21, _⟩ => ⟨S8x1024x512, .bf16⟩
  | .hbm, ⟨22, _⟩ => ⟨S8x1024x2048, .bf16⟩
  | .hbm, ⟨23, _⟩ => ⟨S8x1024x2048, .f32⟩
  | .hbm, ⟨24, _⟩ => ⟨S1x2048x2048, .f32⟩
  | .hbm, ⟨25, _⟩ => ⟨S2048x2048, .f32⟩
  | .hbm, ⟨26, _⟩ => ⟨S8x1024x2048, .f32⟩
  | .hbm, ⟨27, _⟩ => ⟨S8x1024x2048, .f32⟩
  | .hbm, ⟨28, _⟩ => ⟨S1x2048, .f32⟩
  | .hbm, ⟨29, _⟩ => ⟨S2048, .f32⟩
  | .hbm, ⟨30, _⟩ => ⟨S8x1024x2048, .f32⟩
  | .hbm, ⟨31, _⟩ => ⟨S_, .f32⟩
  | .hbm, ⟨32, _⟩ => ⟨S8x1024, .f32⟩
  | .hbm, ⟨33, _⟩ => ⟨S8x1024x1, .f32⟩
  | .hbm, ⟨34, _⟩ => ⟨S_, .f32⟩
  | .hbm, ⟨35, _⟩ => ⟨S8x1024x1, .f32⟩
  | .hbm, ⟨36, _⟩ => ⟨S8x1024x1, .f32⟩
  | .hbm, ⟨37, _⟩ => ⟨S_, .f32⟩
  | .hbm, ⟨38, _⟩ => ⟨S8x1024x1, .f32⟩
  | .hbm, ⟨39, _⟩ => ⟨S8x1024x1, .f32⟩
  | .hbm, ⟨40, _⟩ => ⟨S8x1024x1, .f32⟩
  | .hbm, ⟨41, _⟩ => ⟨S8x1024x2048, .f32⟩
  | .hbm, ⟨42, _⟩ => ⟨S8x1024x2048, .f32⟩
  | .hbm, ⟨43, _⟩ => ⟨S1x1x2048, .f32⟩
  | .hbm, ⟨44, _⟩ => ⟨S8x1024x2048, .f32⟩
  | .hbm, ⟨45, _⟩ => ⟨S8x1024x2048, .f32⟩
  | .hbm, ⟨46, _⟩ => ⟨S8x1024x2048, .f32⟩
  | .hbm, ⟨47, _⟩ => ⟨S8x1024x2048, .f32⟩
  | .hbm, ⟨48, _⟩ => ⟨S8x1024x2048, .f32⟩
  | .hbm, ⟨49, _⟩ => ⟨S1x2048, .f32⟩
  | .hbm, ⟨50, _⟩ => ⟨S2048, .f32⟩
  | .hbm, ⟨51, _⟩ => ⟨S8x1024x2048, .f32⟩
  | .hbm, ⟨52, _⟩ => ⟨S_, .f32⟩
  | .hbm, ⟨53, _⟩ => ⟨S8x1024, .f32⟩
  | .hbm, ⟨54, _⟩ => ⟨S8x1024x1, .f32⟩
  | .hbm, ⟨55, _⟩ => ⟨S_, .f32⟩
  | .hbm, ⟨56, _⟩ => ⟨S8x1024x1, .f32⟩
  | .hbm, ⟨57, _⟩ => ⟨S8x1024x1, .f32⟩
  | .hbm, ⟨58, _⟩ => ⟨S_, .f32⟩
  | .hbm, ⟨59, _⟩ => ⟨S8x1024x1, .f32⟩
  | .hbm, ⟨60, _⟩ => ⟨S8x1024x1, .f32⟩
  | .hbm, ⟨61, _⟩ => ⟨S8x1024x1, .f32⟩
  | .hbm, ⟨62, _⟩ => ⟨S8x1024x2048, .f32⟩
  | .hbm, ⟨63, _⟩ => ⟨S8x1024x2048, .f32⟩
  | .hbm, ⟨64, _⟩ => ⟨S1x1x2048, .f32⟩
  | .hbm, ⟨65, _⟩ => ⟨S8x1024x2048, .f32⟩
  | .hbm, ⟨66, _⟩ => ⟨S8x1024x2048, .f32⟩
  | .hbm, ⟨67, _⟩ => ⟨S_, .f32⟩
  | .hbm, ⟨68, _⟩ => ⟨S8x1x2048, .f32⟩
  | .hbm, ⟨69, _⟩ => ⟨S8x1x2048, .f32⟩
  | .hbm, ⟨70, _⟩ => ⟨S8x1024x2048, .f32⟩
  | .hbm, ⟨71, _⟩ => ⟨S8x1024x2048, .f32⟩
  | .hbm, ⟨72, _⟩ => ⟨S8x1024x2048, .f32⟩
  | .hbm, ⟨73, _⟩ => ⟨S8x1024x2048, .f32⟩
  | .hbm, ⟨74, _⟩ => ⟨S8192x2048, .f32⟩
  | .hbm, ⟨75, _⟩ => ⟨S8192x2048, .f32⟩
  | .hbm, ⟨76, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel4.lean ====
abbrev S8192x2048 : Shape := ⟨2, ![8192, 2048]⟩
abbrev S2x16x6x2048 : Shape := ⟨4, ![2, 16, 6, 2048]⟩
abbrev S2x2048 : Shape := ⟨2, ![2, 2048]⟩
abbrev S2x2048x4672 : Shape := ⟨3, ![2, 2048, 4672]⟩
abbrev S2x2048x2048 : Shape := ⟨3, ![2, 2048, 2048]⟩
abbrev S2x2048x2560 : Shape := ⟨3, ![2, 2048, 2560]⟩
abbrev S2x2048x64 : Shape := ⟨3, ![2, 2048, 64]⟩
abbrev S_ : Shape := ⟨0, ![]⟩
abbrev S2x2048x192 : Shape := ⟨3, ![2, 2048, 192]⟩
abbrev S2x2048x4864 : Shape := ⟨3, ![2, 2048, 4864]⟩
abbrev S1x2048 : Shape := ⟨2, ![1, 2048]⟩
abbrev S2048 : Shape := ⟨1, ![2048]⟩
abbrev S8192x4864 : Shape := ⟨2, ![8192, 4864]⟩
abbrev S512x2048 : Shape := ⟨2, ![512, 2048]⟩
abbrev S1x1x6x2048 : Shape := ⟨4, ![1, 1, 6, 2048]⟩
abbrev S1x2048x4864 : Shape := ⟨3, ![1, 2048, 4864]⟩
abbrev S512x4864 : Shape := ⟨2, ![512, 4864]⟩
abbrev S256x2048 : Shape := ⟨2, ![256, 2048]⟩
abbrev S256 : Shape := ⟨1, ![256]⟩
abbrev S256x1 : Shape := ⟨2, ![256, 1]⟩
abbrev S1x1x1x2048 : Shape := ⟨4, ![1, 1, 1, 2048]⟩
abbrev S2048x4864 : Shape := ⟨2, ![2048, 4864]⟩
abbrev S256x4864 : Shape := ⟨2, ![256, 4864]⟩

abbrev nBuf : Space → Nat
  | .hbm => 15
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x16x6x2048, .f32⟩
  | .hbm, ⟨2, _⟩ => ⟨S2x2048, .f32⟩
  | .hbm, ⟨3, _⟩ => ⟨S2x2048x4672, .f32⟩
  | .hbm, ⟨4, _⟩ => ⟨S2x2048x4672, .bf16⟩
  | .hbm, ⟨5, _⟩ => ⟨S2x2048x2048, .bf16⟩
  | .hbm, ⟨6, _⟩ => ⟨S2x2048x2560, .bf16⟩
  | .hbm, ⟨7, _⟩ => ⟨S2x2048x64, .bf16⟩
  | .hbm, ⟨8, _⟩ => ⟨S_, .bf16⟩
  | .hbm, ⟨9, _⟩ => ⟨S2x2048x192, .bf16⟩
  | .hbm, ⟨10, _⟩ => ⟨S2x2048x4864, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x4864, .f32⟩
  | .local _ .vmem, ⟨0, _⟩ => ⟨S512x2048, .f32⟩
  | .local _ .vmem, ⟨1, _⟩ => ⟨S512x2048, .f32⟩
  | .local _ .vmem, ⟨2, _⟩ => ⟨S1x1x6x2048, .f32⟩
  | .local _ .vmem, ⟨3, _⟩ => ⟨S1x1x6x2048, .f32⟩
  | .local _ .vmem, ⟨4, _⟩ => ⟨S1x2048, .f32⟩
  | .local _ .vmem, ⟨5, _⟩ => ⟨S1x2048x4864, .bf16⟩
  | .local _ .vmem, ⟨6, _⟩ => ⟨S512x4864, .f32⟩
  | .local _ .vmem, ⟨7, _⟩ => ⟨S512x4864, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c0_i32_6 : BitVec 32 := 0#32
  let c0_i32_7 : BitVec 32 := 0#32
  let c0_i32_8 : BitVec 32 := 0#32
  ![c1_i32_5.toNat, v18.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x2048 : Shape := ⟨2, ![8192, 2048]⟩
abbrev S2x16x6x2048 : Shape := ⟨4, ![2, 16, 6, 2048]⟩
abbrev S2x2048 : Shape := ⟨2, ![2, 2048]⟩
abbrev S2x2048x4672 : Shape := ⟨3, ![2, 2048, 4672]⟩
abbrev S1x8x1x2048 : Shape := ⟨4, ![1, 8, 1, 2048]⟩
abbrev S8x2048 : Shape := ⟨2, ![8, 2048]⟩
abbrev S8x1x2048 : Shape := ⟨3, ![8, 1, 2048]⟩
abbrev S8x1024x2048 : Shape := ⟨3, ![8, 1024, 2048]⟩
abbrev S1x2048 : Shape := ⟨2, ![1, 2048]⟩
abbrev S2048 : Shape := ⟨1, ![2048]⟩
abbrev S_ : Shape := ⟨0, ![]⟩
abbrev S8x1024 : Shape := ⟨2, ![8, 1024]⟩
abbrev S8x1024x1 : Shape := ⟨3, ![8, 1024, 1]⟩
abbrev S1x1x2048 : Shape := ⟨3, ![1, 1, 2048]⟩
abbrev S1x2048x4672 : Shape := ⟨3, ![1, 2048, 4672]⟩
abbrev S2048x4672 : Shape := ⟨2, ![2048, 4672]⟩
abbrev S8x1024x4672 : Shape := ⟨3, ![8, 1024, 4672]⟩
abbrev S8192x4672 : Shape := ⟨2, ![8192, 4672]⟩
abbrev S8192x64 : Shape := ⟨2, ![8192, 64]⟩
abbrev S8192x2560 : Shape := ⟨2, ![8192, 2560]⟩
abbrev S8192x192 : Shape := ⟨2, ![8192, 192]⟩
abbrev S8192x4864 : Shape := ⟨2, ![8192, 4864]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x16x6x2048, .f32⟩
  | .hbm, ⟨2, _⟩ => ⟨S2x2048, .f32⟩
  | .hbm, ⟨3, _⟩ => ⟨S2x2048x4672, .f32⟩
  | .hbm, ⟨4, _⟩ => ⟨S1x8x1x2048, .f32⟩
  | .hbm, ⟨5, _⟩ => ⟨S8x2048, .f32⟩
  | .hbm, ⟨6, _⟩ => ⟨S8x1x2048, .f32⟩
  | .hbm, ⟨7, _⟩ => ⟨S1x8x1x2048, .f32⟩
  | .hbm, ⟨8, _⟩ => ⟨S8x2048, .f32⟩
  | .hbm, ⟨9, _⟩ => ⟨S8x1x2048, .f32⟩
  | .hbm, ⟨10, _⟩ => ⟨S8x1024x2048, .f32⟩
  | .hbm, ⟨11, _⟩ => ⟨S1x2048, .f32⟩
  | .hbm, ⟨12, _⟩ => ⟨S2048, .f32⟩
  | .hbm, ⟨13, _⟩ => ⟨S8x1024x2048, .f32⟩
  | .hbm, ⟨14, _⟩ => ⟨S_, .f32⟩
  | .hbm, ⟨15, _⟩ => ⟨S8x1024, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S_, .f32⟩
  | .hbm, ⟨21, _⟩ => ⟨S8x1024x1, .f32⟩
  | .hbm, ⟨22, _⟩ => ⟨S8x1024x1, .f32⟩
  | .hbm, ⟨23, _⟩ => ⟨S8x1024x1, .f32⟩
  | .hbm, ⟨24, _⟩ => ⟨S8x1024x2048, .f32⟩
  | .hbm, ⟨25, _⟩ => ⟨S8x1024x2048, .f32⟩
  | .hbm, ⟨26, _⟩ => ⟨S1x1x2048, .f32⟩
  | .hbm, ⟨27, _⟩ => ⟨S8x1024x2048, .f32⟩
  | .hbm, ⟨28, _⟩ => ⟨S8x1024x2048, .f32⟩
  | .hbm, ⟨29, _⟩ => ⟨S_, .f32⟩
  | .hbm, ⟨30, _⟩ => ⟨S8x1x2048, .f32⟩
  | .hbm, ⟨31, _⟩ => ⟨S8x1x2048, .f32⟩
  | .hbm, ⟨32, _⟩ => ⟨S8x1024x2048, .f32⟩
  | .hbm, ⟨33, _⟩ => ⟨S8x1024x2048, .f32⟩
  | .hbm, ⟨34, _⟩ => ⟨S8x1024x2048, .f32⟩
  | .hbm, ⟨35, _⟩ => ⟨S8x1024x2048, .f32⟩
  | .hbm, ⟨36, _⟩ => ⟨S1x2048x4672, .f32⟩
  | .hbm, ⟨37, _⟩ => ⟨S2048x4672, .f32⟩
  | .hbm, ⟨38, _⟩ => ⟨S8x1024x4672, .f32⟩
  | .hbm, ⟨39, _⟩ => ⟨S8192x4672, .f32⟩
  | .hbm, ⟨40, _⟩ => ⟨S8192x64, .f32⟩
  | .hbm, ⟨41, _⟩ => ⟨S8192x2048, .f32⟩
  | .hbm, ⟨42, _⟩ => ⟨S8192x2560, .f32⟩
  | .hbm, ⟨43, _⟩ => ⟨S_, .f32⟩
  | .hbm, ⟨44, _⟩ => ⟨S8192x192, .f32⟩
  | .hbm, ⟨45, _⟩ => ⟨S8192x4864, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Ctx.Frame.lean ====
/- The frame of the layer kernel on the ideal machine: what each output block holds after a grid point, the proof
   data of the pipeline, the obligation of the body, the run of `main` and the frame claim.  It follows the launch
   set-up of the other programs; the shape of the stacked states' blocks is declared here. -/
module

public import proofs.«01_k».proof.Proof.Gen.KernelIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One head of one frame's stored states. -/
abbrev S1x1x1x256x128 : Shape := ⟨5, ![1, 1, 1, 256, 128]⟩

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 12 tile its block (8 stores of `S256x128`, checked by the kernel's evaluation: Lib/Ring.lean `Piece.tiledL`, linear in the pieces, through a loop's `@[irreducible]` trip theorem too), so they cover it. -/
theorem cover0_A_12 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).1 S256x128.size (by sl_kernel_rfl) y

/-- What the run leaves in output 12's staging buffer: its pieces read back over junk. -/
def out0_A_12 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S512x512 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).1)

/-- The run's pieces for output 13 tile its block (8 stores of `S256x128`, checked by the kernel's evaluation: Lib/Ring.lean `Piece.tiledL`, linear in the pieces, through a loop's `@[irreducible]` trip theorem too), so they cover it. -/
theorem cover0_A_13 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.1 S256x128.size (by sl_kernel_rfl) y

/-- What the run leaves in output 13's staging buffer: its pieces read back over junk. -/
def out0_A_13 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S512x512 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.1)

/-- The run's pieces for output 14 tile its block (8 stores of `S256x128`, checked by the kernel's evaluation: Lib/Ring.lean `Piece.tiledL`, linear in the pieces, through a loop's `@[irreducible]` trip theorem too), so they cover it. -/
theorem cover0_A_14 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.1 S256x128.size (by sl_kernel_rfl) y

/-- What the run leaves in output 14's staging buffer: its pieces read back over junk. -/
def out0_A_14 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S512x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.1)

/-- The run's pieces for output 15 tile its block (8 stores of `S256x128`, checked by the kernel's evaluation: Lib/Ring.lean `Piece.tiledL`, linear in the pieces, through a loop's `@[irreducible]` trip theorem too), so they cover it. -/
theorem cover0_A_15 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.1 S256x128.size (by sl_kernel_rfl) y

/-- What the run leaves in output 15's staging buffer: its pieces read back over junk. -/
def out0_A_15 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S512x512 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.1)

/-- The run's pieces for output 16 tile its block (4 stores of `S1x1x1x256x128`, checked by the kernel's evaluation: Lib/Ring.lean `Piece.tiledL`, linear in the pieces, through a loop's `@[irreducible]` trip theorem too), so they cover it. -/
theorem cover0_A_16 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S2x1x2x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.1 S1x1x1x256x128.size (by sl_kernel_rfl) y

/-- What the run leaves in output 16's staging buffer: its pieces read back over junk. -/
def out0_A_16 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S2x1x2x256x128 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.1)

/-- The run's pieces for output 17 tile its block (4 stores of `S1x1x1x256x128`, checked by the kernel's evaluation: Lib/Ring.lean `Piece.tiledL`, linear in the pieces, through a loop's `@[irreducible]` trip theorem too), so they cover it. -/
theorem cover0_A_17 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S2x1x2x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.1 S1x1x1x256x128.size (by sl_kernel_rfl) y

/-- What the run leaves in output 17's staging buffer: its pieces read back over junk. -/
def out0_A_17 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S2x1x2x256x128 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.1)

/-- The run's pieces for output 18 are of SEVERAL sizes (4 stores of `S1x1x256x256`, `S1x1x256x64`): cut into blocks of `![1, 1, 256, 64]` they tile its block (checked by the kernel's evaluation: Lib/Ring.lean `Piece.tiledBy`), so they cover it. -/
theorem cover0_A_18 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S2x1x256x320.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.1 ![1, 1, 256, 64] (by sl_kernel_rfl) y

/-- What the run leaves in output 18's staging buffer: its pieces read back over junk. -/
def out0_A_18 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S2x1x256x320 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.1)

/-- The run's pieces for output 19 tile its block (4 stores of `S1x1x1x256x128`, checked by the kernel's evaluation: Lib/Ring.lean `Piece.tiledL`, linear in the pieces, through a loop's `@[irreducible]` trip theorem too), so they cover it. -/
theorem cover0_A_19 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S2x1x2x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.1 S1x1x1x256x128.size (by sl_kernel_rfl) y

/-- What the run leaves in output 19's staging buffer: its pieces read back over junk. -/
def out0_A_19 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S2x1x2x256x128 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.1)

/-- The run's pieces for output 20 tile its block (4 stores of `S1x1x1x256x128`, checked by the kernel's evaluation: Lib/Ring.lean `Piece.tiledL`, linear in the pieces, through a loop's `@[irreducible]` trip theorem too), so they cover it. -/
theorem cover0_A_20 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S2x1x2x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.1 S1x1x1x256x128.size (by sl_kernel_rfl) y

/-- What the run leaves in output 20's staging buffer: its pieces read back over junk. -/
def out0_A_20 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S2x1x2x256x128 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.1)

/-- The run's pieces for output 21 tile its block (8 stores of `S1x1x1x256x128`, checked by the kernel's evaluation: Lib/Ring.lean `Piece.tiledL`, linear in the pieces, through a loop's `@[irreducible]` trip theorem too), so they cover it. -/
theorem cover0_A_21 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S2x1x4x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.2.1 S1x1x1x256x128.size (by sl_kernel_rfl) y

/-- What the run leaves in output 21's staging buffer: its pieces read back over junk. -/
def out0_A_21 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S2x1x4x256x128 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.2.1)

/-- The run's pieces for output 22 tile its block (8 stores of `S1x1x1x256x128`, checked by the kernel's evaluation: Lib/Ring.lean `Piece.tiledL`, linear in the pieces, through a loop's `@[irreducible]` trip theorem too), so they cover it. -/
theorem cover0_A_22 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) (y : S2x1x4x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.2.2.1 S1x1x1x256x128.size (by sl_kernel_rfl) y

/-- What the run leaves in output 22's staging buffer: its pieces read back over junk. -/
def out0_A_22 (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole)
    (x0 : Vec F S512x2048 .f32) (x1 : Vec F S1x1x6x2048 .f32) (x2 : Vec F S1x2048 .f32) (x3 : Vec F S1x2048x4864 .bf16) (x4 : Vec F S4 .f32) (x5 : Vec F S1x256 .f32) (x6 : Vec F S256x512 .bf16) (x7 : Vec F S256x512 .bf16) (x8 : Vec F S1x128 .f32) (x9 : Vec F S1x128 .f32) (x10 : Vec F S4x64 .f32) (x11 : Vec F S1x128 .f32) : Vec F S2x1x4x256x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11).2.2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S512x512 .bf16 × Vec F S512x512 .bf16 × Vec F S512x512 .bf16 × Vec F S512x512 .bf16 × Vec F S2x1x2x256x128 .f32 × Vec F S2x1x2x256x128 .f32 × Vec F S2x1x256x320 .f32 × Vec F S2x1x2x256x128 .f32 × Vec F S2x1x2x256x128 .f32 × Vec F S2x1x4x256x128 .f32 × Vec F S2x1x4x256x128 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t).1
    | ⟨13, _⟩ => (outsAt0 m c t).2.1
    | ⟨14, _⟩ => (outsAt0 m c t).2.2.1
    | ⟨15, _⟩ => (outsAt0 m c t).2.2.2.1
    | ⟨16, _⟩ => (outsAt0 m c t).2.2.2.2.1
    | ⟨17, _⟩ => (outsAt0 m c t).2.2.2.2.2.1
    | ⟨18, _⟩ => (outsAt0 m c t).2.2.2.2.2.2.1
    | ⟨19, _⟩ => (outsAt0 m c t).2.2.2.2.2.2.2.1
    | ⟨20, _⟩ => (outsAt0 m c t).2.2.2.2.2.2.2.2.1
    | ⟨21, _⟩ => (outsAt0 m c t).2.2.2.2.2.2.2.2.2.1
    | ⟨22, _⟩ => (outsAt0 m c t).2.2.2.2.2.2.2.2.2.2
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t).1 := by dsimp only [dats]
theorem after0_13 (c : Dev nD) (t : Fin cfg0.N) : (dats m 0 c).after 13 t = (outsAt0 m c t).2.1 := by dsimp only [dats]
theorem after0_14 (c : Dev nD) (t : Fin cfg0.N) : (dats m 0 c).after 14 t = (outsAt0 m c t).2.2.1 := by dsimp only [dats]
theorem after0_15 (c : Dev nD) (t : Fin cfg0.N) : (dats m 0 c).after 15 t = (outsAt0 m c t).2.2.2.1 := by dsimp only [dats]
theorem after0_16 (c : Dev nD) (t : Fin cfg0.N) : (dats m 0 c).after 16 t = (outsAt0 m c t).2.2.2.2.1 := by dsimp only [dats]
theorem after0_17 (c : Dev nD) (t : Fin cfg0.N) : (dats m 0 c).after 17 t = (outsAt0 m c t).2.2.2.2.2.1 := by dsimp only [dats]
theorem after0_18 (c : Dev nD) (t : Fin cfg0.N) : (dats m 0 c).after 18 t = (outsAt0 m c t).2.2.2.2.2.2.1 := by dsimp only [dats]
theorem after0_19 (c : Dev nD) (t : Fin cfg0.N) : (dats m 0 c).after 19 t = (outsAt0 m c t).2.2.2.2.2.2.2.1 := by dsimp only [dats]
theorem after0_20 (c : Dev nD) (t : Fin cfg0.N) : (dats m 0 c).after 20 t = (outsAt0 m c t).2.2.2.2.2.2.2.2.1 := by dsimp only [dats]
theorem after0_21 (c : Dev nD) (t : Fin cfg0.N) : (dats m 0 c).after 21 t = (outsAt0 m c t).2.2.2.2.2.2.2.2.2.1 := by dsimp only [dats]
theorem after0_22 (c : Dev nD) (t : Fin cfg0.N) : (dats m 0 c).after 22 t = (outsAt0 m c t).2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  unfold outsAt0
  unfold out0_A_12 out0_A_13 out0_A_14 out0_A_15 out0_A_16 out0_A_17 out0_A_18 out0_A_19 out0_A_20 out0_A_21 out0_A_22; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Gen

end
-- ==== Proof.OutRef.lean ====
module

public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

/-! # The output projection's reference, entry by entry

The projection of the four mixers' outputs, its root-mean-square norm and gated residual, and the norm and modulation
in front of the MLP. -/

namespace Cert.OutRef

open Cert.Reference3Ideal Cert.Reference3Ideal.Gen
open Idealize.ShloMosaic Idealize.ShloMosaic.TcCoe Idealize.SL.Sem

/-- Token `r`'s four mixer outputs side by side. -/
def cat4 (A B C D : FVec Ideal S8192x512 .bf16) (r : Fin 8192) (e : Fin 2048) : EReal :=
  if h : (e : ℕ) < 512 then A (ix2 r ⟨e, h⟩) else
  if h : (e : ℕ) - 512 < 512 then B (ix2 r ⟨(e : ℕ) - 512, h⟩) else
  if h : (e : ℕ) - 512 - 512 < 512 then C (ix2 r ⟨(e : ℕ) - 512 - 512, h⟩) else
  D (ix2 r ⟨(e : ℕ) - 512 - 512 - 512, by omega⟩)

/-- The projected token. -/
def proj (A B C D : FVec Ideal S8192x512 .bf16) (W : FVec Ideal S2x2048x2048 .f32) (r : Fin 8192) (d : Fin 2048) : EReal :=
  ∑ e : Fin 2048, cat4 A B C D r e * W (ix3 1 e d)

/-- The root-mean-square norm of a row of 2048 numbers, at one of them. -/
def rms (x : Fin 2048 → EReal) (g : EReal) (d : Fin 2048) : EReal :=
  x d * Ideal.rsqrt (Ideal.div (∑ k : Fin 2048, x k * x k) (Ideal.ofBits FTy.f32 1157627904#32) + Ideal.ofBits FTy.f32 897988541#32) * g

/-- The token after the mixers' residual. -/
def tok (A B C D : FVec Ideal S8192x512 .bf16) (X : FVec Ideal S8192x2048 .f32) (M : FVec Ideal S2x16x6x2048 .f32)
    (G : FVec Ideal S2x2048 .f32) (W : FVec Ideal S2x2048x2048 .f32) (r : Fin 8192) (d : Fin 2048) : EReal :=
  X (ix2 r d) + M (ix4 1 ⟨1 + (r : ℕ) / 1024, by omega⟩ 2 d) * rms (proj A B C D W r) (G (ix2 1 d)) d

/-- The MLP's input. -/
def hid (A B C D : FVec Ideal S8192x512 .bf16) (X : FVec Ideal S8192x2048 .f32) (M : FVec Ideal S2x16x6x2048 .f32)
    (G G2 : FVec Ideal S2x2048 .f32) (W : FVec Ideal S2x2048x2048 .f32) (r : Fin 8192) (d : Fin 2048) : EReal :=
  rms (tok A B C D X M G W r) (G2 (ix2 1 d)) d * (1 + M (ix4 1 ⟨1 + (r : ℕ) / 1024, by omega⟩ 4 d))
    + M (ix4 1 ⟨1 + (r : ℕ) / 1024, by omega⟩ 3 d)

/-- The projection as a block of frames. -/
def projT (A B C D : FVec Ideal S8192x512 .bf16) (W : FVec Ideal S2x2048x2048 .f32) : FVec Ideal S8x1024x2048 .f32 :=
  Host.dotGeneral dot_S8x1024x2048_S2048x2048_S8x1024x2048_2_0_01_1_n_n none (extf .f32 ((concatenate S8x1024x2048 2 [⟨S8x1024x512, ((shapeCast _ A shapeCasts_S8192x512_S8x1024x512) : (⟨S8x1024x512, .bf16⟩ : BufTy).Contents (Elt Ideal))⟩, ⟨S8x1024x512, ((shapeCast _ B shapeCasts_S8192x512_S8x1024x512) : (⟨S8x1024x512, .bf16⟩ : BufTy).Contents (Elt Ideal))⟩, ⟨S8x1024x512, ((shapeCast _ C shapeCasts_S8192x512_S8x1024x512) : (⟨S8x1024x512, .bf16⟩ : BufTy).Contents (Elt Ideal))⟩, ⟨S8x1024x512, ((shapeCast _ D shapeCasts_S8192x512_S8x1024x512) : (⟨S8x1024x512, .bf16⟩ : BufTy).Contents (Elt Ideal))⟩] (by exact concatenates_S8x1024x512_S8x1024x512_S8x1024x512_S8x1024x512_S8x1024x2048_d2) : (⟨S8x1024x2048, .bf16⟩ : BufTy).Contents (Elt Ideal))) bitsLt_bf16_f32) (shapeCast _ (extractStridedSlice S1x2048x2048 ![1, 0, 0] W slices_S2x2048x2048_S1x2048x2048_1_0_0) shapeCasts_S1x2048x2048_S2048x2048)

/-- The residual stream after the projection. -/
def tokT (X : FVec Ideal S8192x2048 .f32) (M : FVec Ideal S2x16x6x2048 .f32) (G : FVec Ideal S2x2048 .f32) (P : FVec Ideal S8x1024x2048 .f32) : FVec Ideal S8x1024x2048 .f32 :=
  addf (shapeCast _ X shapeCasts_S8192x2048_S8x1024x2048) (mulf (broadcastInDim S8x1024x2048 ![0, 1, 2] bcast_S8x1x2048_S8x1024x2048_0_1_2 (broadcastInDim S8x1x2048 ![0, 2] bcast_S8x2048_S8x1x2048_0_2 (shapeCast _ (extractStridedSlice S1x8x1x2048 ![1, 1, 2, 0] M slices_S2x16x6x2048_S1x8x1x2048_1_1_2_0) shapeCasts_S1x8x1x2048_S8x2048))) (mulf (mulf P (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf P P) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 (shapeCast _ (extractStridedSlice S1x2048 ![1, 0] G slices_S2x2048_S1x2048_1_0) shapeCasts_S1x2048_S2048)))))

/-- The MLP's input. -/
def hidT (M : FVec Ideal S2x16x6x2048 .f32) (G2 : FVec Ideal S2x2048 .f32) (T : FVec Ideal S8x1024x2048 .f32) : FVec Ideal S8192x2048 .bf16 :=
  truncf .bf16 (shapeCast _ (addf (mulf (mulf (mulf T (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf T T) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 (shapeCast _ (extractStridedSlice S1x2048 ![1, 0] G2 slices_S2x2048_S1x2048_1_0) shapeCasts_S1x2048_S2048)))) (broadcastInDim S8x1024x2048 ![0, 1, 2] bcast_S8x1x2048_S8x1024x2048_0_1_2 (addf (broadcastInDim S8x1x2048 ![] bcast_S_S8x1x2048 (constant S_ .f32 0x3F800000#32)) (broadcastInDim S8x1x2048 ![0, 2] bcast_S8x2048_S8x1x2048_0_2 (shapeCast _ (extractStridedSlice S1x8x1x2048 ![1, 1, 4, 0] M slices_S2x16x6x2048_S1x8x1x2048_1_1_4_0) shapeCasts_S1x8x1x2048_S8x2048))))) (broadcastInDim S8x1024x2048 ![0, 1, 2] bcast_S8x1x2048_S8x1024x2048_0_1_2 (broadcastInDim S8x1x2048 ![0, 2] bcast_S8x2048_S8x1x2048_0_2 (shapeCast _ (extractStridedSlice S1x8x1x2048 ![1, 1, 3, 0] M slices_S2x16x6x2048_S1x8x1x2048_1_1_3_0) shapeCasts_S1x8x1x2048_S8x2048)))) shapeCasts_S8x1024x2048_S8192x2048) bitsLt_bf16_f32

/-- Token `t` of frame `b`. -/
def row (b : Fin 8) (t : Fin 1024) : Fin 8192 := ⟨(b : ℕ) * 1024 + t, by omega⟩

theorem cat_at (A B C D : FVec Ideal S8x1024x512 .bf16) (b : Fin 8) (t : Fin 1024) (e : Fin 2048) :
    (concatenate S8x1024x2048 2 [⟨S8x1024x512, (A : (⟨S8x1024x512, .bf16⟩ : BufTy).Contents (Elt Ideal))⟩, ⟨S8x1024x512, (B : (⟨S8x1024x512, .bf16⟩ : BufTy).Contents (Elt Ideal))⟩, ⟨S8x1024x512, (C : (⟨S8x1024x512, .bf16⟩ : BufTy).Contents (Elt Ideal))⟩, ⟨S8x1024x512, (D : (⟨S8x1024x512, .bf16⟩ : BufTy).Contents (Elt Ideal))⟩]
      (by exact concatenates_S8x1024x512_S8x1024x512_S8x1024x512_S8x1024x512_S8x1024x2048_d2)
        : (⟨S8x1024x2048, .bf16⟩ : BufTy).Contents (Elt Ideal)) (ix3 b t e)
      = if h : (e : ℕ) < 512 then A (ix3 b t ⟨e, h⟩) else
        if h : (e : ℕ) - 512 < 512 then B (ix3 b t ⟨(e : ℕ) - 512, h⟩) else
        if h : (e : ℕ) - 512 - 512 < 512 then C (ix3 b t ⟨(e : ℕ) - 512 - 512, h⟩) else
        D (ix3 b t ⟨(e : ℕ) - 512 - 512 - 512, by omega⟩) := by
  pointwise

theorem row_at (R : FVec Ideal S8192x512 .bf16) (b : Fin 8) (t : Fin 1024) (e : Fin 512) :
    shapeCast S8x1024x512 R shapeCasts_S8192x512_S8x1024x512 (ix3 b t e) = R (ix2 (row b t) e) := by
  pointwise [row]

theorem dot_at (L : FVec Ideal S8x1024x2048 .f32) (R : FVec Ideal S2048x2048 .f32) (b : Fin 8) (t : Fin 1024) (e : Fin 2048) :
    Host.dotGeneral dot_S8x1024x2048_S2048x2048_S8x1024x2048_2_0_01_1_n_n none L R (ix3 b t e)
      = ∑ k : Fin 2048, L (ix3 b t k) * R (ix2 k e) := by
  pointwise

theorem weight_at (R : FVec Ideal S2x2048x2048 .f32) (k e : Fin 2048) :
    shapeCast S2048x2048 (extractStridedSlice S1x2048x2048 ![1, 0, 0] R slices_S2x2048x2048_S1x2048x2048_1_0_0)
      shapeCasts_S1x2048x2048_S2048x2048 (ix2 k e) = R (ix3 1 k e) := by
  pointwise

theorem projT_at (A B C D : FVec Ideal S8192x512 .bf16) (W : FVec Ideal S2x2048x2048 .f32) (b : Fin 8) (t : Fin 1024) (e : Fin 2048) :
    projT A B C D W (ix3 b t e) = proj A B C D W (row b t) e := by
  unfold projT
  refine (dot_at _ _ b t e).trans (Finset.sum_congr rfl fun k _ => congrArg₂ (· * ·) ?_ (weight_at _ k e))
  refine (cat_at _ _ _ _ b t k).trans ?_
  unfold cat4
  split_ifs <;> exact row_at _ b t _

theorem tokT_at (X : FVec Ideal S8192x2048 .f32) (M : FVec Ideal S2x16x6x2048 .f32) (G : FVec Ideal S2x2048 .f32) (P : FVec Ideal S8x1024x2048 .f32)
    (b : Fin 8) (t : Fin 1024) (d : Fin 2048) :
    tokT X M G P (ix3 b t d)
      = X (ix2 (row b t) d) + M (ix4 1 ⟨1 + (b : ℕ), by omega⟩ 2 d) * rms (fun e => P (ix3 b t e)) (G (ix2 1 d)) d := by
  pointwise [tokT, rms, row]

theorem hidT_at (M : FVec Ideal S2x16x6x2048 .f32) (G2 : FVec Ideal S2x2048 .f32) (T : FVec Ideal S8x1024x2048 .f32)
    (r : Fin 8192) (d : Fin 2048) :
    hidT M G2 T (ix2 r d)
      = rms (fun e => T (ix3 ⟨(r : ℕ) / 1024, by omega⟩ ⟨(r : ℕ) % 1024, by omega⟩ e)) (G2 (ix2 1 d)) d * (1 + M (ix4 1 ⟨1 + (r : ℕ) / 1024, by omega⟩ 4 d))
    + M (ix4 1 ⟨1 + (r : ℕ) / 1024, by omega⟩ 3 d) := by
  pointwise [hidT, rms]

theorem row_self (r : Fin 8192) : row ⟨(r : ℕ) / 1024, by omega⟩ ⟨(r : ℕ) % 1024, by omega⟩ = r :=
  Fin.ext (Nat.div_add_mod' _ _)

theorem tok_at (A B C D : FVec Ideal S8192x512 .bf16) (X : FVec Ideal S8192x2048 .f32) (M : FVec Ideal S2x16x6x2048 .f32) (G : FVec Ideal S2x2048 .f32) (W : FVec Ideal S2x2048x2048 .f32)
    (r : Fin 8192) (d : Fin 2048) :
    tokT X M G (projT A B C D W) (ix3 ⟨(r : ℕ) / 1024, by omega⟩ ⟨(r : ℕ) % 1024, by omega⟩ d) = tok A B C D X M G W r d := by
  rw [tokT_at, row_self]
  simp only [projT_at, row_self]
  rfl

variable (m : (ℓ : Loc nD τ sig) → Buf (Elt Ideal) ℓ)

theorem ref58 (c : Dev nD) (r : Fin 8192) (d : Fin 2048) :
    Value.res_main_v58 m c (ix2 r d)
      = tok (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg8)) r d := by
  rw [← tok_at]
  generalize hT : tokT _ _ _ _ = T
  have e : Value.res_main_v58 m c = shapeCast S8192x2048 T shapeCasts_S8x1024x2048_S8192x2048 := by rw [← hT]; rfl
  rw [e]
  pointwise

theorem ref60 (c : Dev nD) (r : Fin 8192) (d : Fin 2048) :
    Value.res_main_v60 m c (ix2 r d)
      = hid (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) (m (c.tc.loc main_arg8)) r d := by
  have e : Value.res_main_v60 m c = hidT (m (c.tc.loc main_arg5)) (m (c.tc.loc main_arg7))
      (tokT (m (c.tc.loc main_arg4)) (m (c.tc.loc main_arg5)) (m (c.tc.loc main_arg6))
        (projT (m (c.tc.loc main_arg0)) (m (c.tc.loc main_arg1)) (m (c.tc.loc main_arg2)) (m (c.tc.loc main_arg3)) (m (c.tc.loc main_arg8)))) := rfl
  rw [e, hidT_at]
  simp only [tok_at]
  rfl

end Cert.OutRef

end
-- ==== Proof.MlpRef.lean ====
module

public import proofs.«01_k».proof.Proof.OutRef
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

/-! # The MLP's reference, entry by entry

Up-projection, squared rectifier, down-projection, root-mean-square norm and gated residual. -/

namespace Cert.MlpRef

open Cert.Reference2Ideal Cert.Reference2Ideal.Gen
open Cert.OutRef (rms)
open Idealize.ShloMosaic Idealize.ShloMosaic.TcCoe Idealize.SL.Sem

/-- Hidden unit `f` of token `r` after the rectifier. -/
def act (H : FVec Ideal S8192x2048 .bf16) (U : FVec Ideal S2x2048x8192 .f32) (r : Fin 8192) (f : Fin 8192) : EReal :=
  max (∑ e : Fin 2048, H (ix2 r e) * U (ix3 1 e f)) 0

/-- The MLP's output of token `r`. -/
def ff (H : FVec Ideal S8192x2048 .bf16) (U : FVec Ideal S2x2048x8192 .f32) (D : FVec Ideal S2x8192x2048 .f32)
    (r : Fin 8192) (d : Fin 2048) : EReal :=
  ∑ f : Fin 8192, act H U r f * act H U r f * D (ix3 1 f d)

/-- The residual stream after the MLP. -/
def out (H : FVec Ideal S8192x2048 .bf16) (X : FVec Ideal S8192x2048 .f32) (M : FVec Ideal S2x16x6x2048 .f32)
    (G : FVec Ideal S2x2048 .f32) (U : FVec Ideal S2x2048x8192 .f32) (D : FVec Ideal S2x8192x2048 .f32)
    (r : Fin 8192) (d : Fin 2048) : EReal :=
  X (ix2 r d) + M (ix4 1 ⟨1 + (r : ℕ) / 1024, by omega⟩ 5 d) * rms (ff H U D r) (G (ix2 1 d)) d

/-- The rectified hidden layer as a block of frames. -/
def actT (H : FVec Ideal S8192x2048 .bf16) (U : FVec Ideal S2x2048x8192 .f32) : FVec Ideal S8x1024x8192 .f32 :=
  maximumf (Host.dotGeneral dot_S8x1024x2048_S2048x8192_S8x1024x8192_2_0_01_1_n_n none (shapeCast _ (extf .f32 H bitsLt_bf16_f32) shapeCasts_S8192x2048_S8x1024x2048) (shapeCast _ (extractStridedSlice S1x2048x8192 ![1, 0, 0] U slices_S2x2048x8192_S1x2048x8192_1_0_0) shapeCasts_S1x2048x8192_S2048x8192)) (broadcastInDim S8x1024x8192 ![] bcast_S_S8x1024x8192 (constant S_ .f32 0x00000000#32))

/-- The down-projection of the squared hidden layer. -/
def ffT (A : FVec Ideal S8x1024x8192 .f32) (D : FVec Ideal S2x8192x2048 .f32) : FVec Ideal S8x1024x2048 .f32 :=
  Host.dotGeneral dot_S8x1024x8192_S8192x2048_S8x1024x2048_2_0_01_1_n_n none (mulf A A) (shapeCast _ (extractStridedSlice S1x8192x2048 ![1, 0, 0] D slices_S2x8192x2048_S1x8192x2048_1_0_0) shapeCasts_S1x8192x2048_S8192x2048)

/-- The norm and the gated residual. -/
def outT (X : FVec Ideal S8192x2048 .f32) (M : FVec Ideal S2x16x6x2048 .f32) (G : FVec Ideal S2x2048 .f32)
    (P : FVec Ideal S8x1024x2048 .f32) : FVec Ideal S8192x2048 .f32 :=
  shapeCast _ (addf (shapeCast _ X shapeCasts_S8192x2048_S8x1024x2048) (mulf (broadcastInDim S8x1024x2048 ![0, 1, 2] bcast_S8x1x2048_S8x1024x2048_0_1_2 (broadcastInDim S8x1x2048 ![0, 2] bcast_S8x2048_S8x1x2048_0_2 (shapeCast _ (extractStridedSlice S1x8x1x2048 ![1, 1, 5, 0] M slices_S2x16x6x2048_S1x8x1x2048_1_1_5_0) shapeCasts_S1x8x1x2048_S8x2048))) (mulf (mulf P (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf P P) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 (shapeCast _ (extractStridedSlice S1x2048 ![1, 0] G slices_S2x2048_S1x2048_1_0) shapeCasts_S1x2048_S2048)))))) shapeCasts_S8x1024x2048_S8192x2048

/-- Token `t` of frame `b`. -/
def row (b : Fin 8) (t : Fin 1024) : Fin 8192 := ⟨(b : ℕ) * 1024 + t, by omega⟩

theorem row_self (r : Fin 8192) : row ⟨(r : ℕ) / 1024, by omega⟩ ⟨(r : ℕ) % 1024, by omega⟩ = r :=
  Fin.ext (Nat.div_add_mod' _ _)

theorem actT_at (H : FVec Ideal S8192x2048 .bf16) (U : FVec Ideal S2x2048x8192 .f32) (b : Fin 8) (t : Fin 1024) (f : Fin 8192) :
    actT H U (ix3 b t f) = act H U (row b t) f := by
  pointwise [actT, act, row]

theorem ffT_at (A : FVec Ideal S8x1024x8192 .f32) (D : FVec Ideal S2x8192x2048 .f32) (b : Fin 8) (t : Fin 1024) (d : Fin 2048) :
    ffT A D (ix3 b t d) = ∑ f : Fin 8192, A (ix3 b t f) * A (ix3 b t f) * D (ix3 1 f d) := by
  pointwise [ffT]

theorem outT_at (X : FVec Ideal S8192x2048 .f32) (M : FVec Ideal S2x16x6x2048 .f32) (G : FVec Ideal S2x2048 .f32)
    (P : FVec Ideal S8x1024x2048 .f32) (r : Fin 8192) (d : Fin 2048) :
    outT X M G P (ix2 r d)
      = X (ix2 r d) + M (ix4 1 ⟨1 + (r : ℕ) / 1024, by omega⟩ 5 d)
        * rms (fun e => P (ix3 ⟨(r : ℕ) / 1024, by omega⟩ ⟨(r : ℕ) % 1024, by omega⟩ e)) (G (ix2 1 d)) d := by
  pointwise [outT, rms]

variable (m : (ℓ : Loc nD τ sig) → Buf (Elt Ideal) ℓ)

theorem ref32 (c : Dev nD) (r : Fin 8192) (d : Fin 2048) :
    Value.res_main_v32 m c (ix2 r d)
      = out (m (c.tc.loc main_arg0)) (m (c.tc.loc main_arg1)) (m (c.tc.loc main_arg2)) (m (c.tc.loc main_arg3))
        (m (c.tc.loc main_arg4)) (m (c.tc.loc main_arg5)) r d := by
  have e : Value.res_main_v32 m c = outT (m (c.tc.loc main_arg1)) (m (c.tc.loc main_arg2)) (m (c.tc.loc main_arg3))
      (ffT (actT (m (c.tc.loc main_arg0)) (m (c.tc.loc main_arg4))) (m (c.tc.loc main_arg5))) := rfl
  rw [e, outT_at]
  simp only [ffT_at, actT_at, row_self]
  rfl

end Cert.MlpRef

end
-- ==== Proof.Mlp.lean ====
module

public import proofs.«01_k».proof.Proof.Gen.Kernel2Ideal.Value
public import proofs.«01_k».proof.Proof.MlpRef
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

/-! # The MLP kernel's value

Each block of 1024 tokens is visited by sixteen steps of 512 hidden units; the last step norms the sum and adds the gated
residual. -/

namespace Cert.Mlp

open Cert.Kernel2Ideal Cert.Kernel2Ideal.Gen
open Cert.OutRef (rms)
open Cert.MlpRef (act ff out)
open Idealize.ShloMosaic Idealize.ShloMosaic.TcCoe Idealize.SL.Sem
open Idealize.ShloMosaic.Pipeline (Dat Window)

variable (m : (ℓ : Loc nD τ sig) → Buf (Elt Ideal) ℓ)
variable (m' : (ℓ : Loc Cert.Reference2Ideal.nD Cert.Reference2Ideal.τ Cert.Reference2Ideal.sig) → Buf (Elt Ideal) ℓ)

theorem idx : ∀ t : Fin cfg0.N, win0_0.index t = ![t.val / 16, 0] ∧ win0_1.index t = ![t.val / 16, 0]
    ∧ win0_2.index t = ![1, 1 + t.val / 16, 0, 0] ∧ win0_3.index t = ![0, 0] ∧ win0_4.index t = ![0, t.val % 16]
    ∧ win0_5.index t = ![t.val % 16, 0] ∧ win0_6.index t = ![t.val / 16, 0] :=
  (by decide +kernel : ∀ t : Fin grid0.N, _)

/-- What the sixteenth `k` of the hidden units adds to the sum. -/
def part (H : FVec Ideal S8192x2048 .bf16) (U : FVec Ideal S2x2048x8192 .f32) (D : FVec Ideal S2x8192x2048 .f32)
    (r : Fin 8192) (d : Fin 2048) (k : Fin 16) : EReal :=
  ∑ f : Fin 512, act H U r ⟨(k : ℕ) * 512 + f, by omega⟩ * act H U r ⟨(k : ℕ) * 512 + f, by omega⟩ * D (ix3 1 ⟨(k : ℕ) * 512 + f, by omega⟩ d)

theorem sum_part (H : FVec Ideal S8192x2048 .bf16) (U : FVec Ideal S2x2048x8192 .f32) (D : FVec Ideal S2x8192x2048 .f32)
    (r : Fin 8192) (d : Fin 2048) : ∑ k : Fin 16, part H U D r d k = ff H U D r d := by
  unfold part ff
  refine Fin.sum_mul_add_congr fun s k hl => ?_
  rfl

section blocks
variable (c : Dev nD) (t : Fin cfg0.N)
theorem tlt : t.val < 128 := t.isLt

/-- The token in row `a` of point `t`'s blocks. -/
def tokenAt (a : Fin 1024) : Fin 8192 := ⟨t.val / 16 * 1024 + a, by have := tlt t; omega⟩
/-- The step of point `t`. -/
def stepAt : Fin 16 := ⟨t.val % 16, by omega⟩

theorem rd0 (a : Fin 1024) (b : Fin 2048) : iblk m c 0 t (ix2 a b) = m (c.tc.loc main_arg0) (ix2 (tokenAt t a) b) := by
  have := tlt t
  unfold tokenAt
  blk_ext [iblk, V, idx t]
theorem rd1 (a : Fin 1024) (b : Fin 2048) : iblk m c 1 t (ix2 a b) = m (c.tc.loc main_arg1) (ix2 (tokenAt t a) b) := by
  have := tlt t
  unfold tokenAt
  blk_ext [iblk, V, idx t]
theorem rd2 (k : Fin 6) (b : Fin 2048) : iblk m c 2 t (ix4 0 0 k b) = m (c.tc.loc main_arg2) (ix4 1 ⟨1 + t.val / 16, by have := tlt t; omega⟩ k b) := by
  have := tlt t
  blk_ext [iblk, V, idx t]
theorem rd3 (b : Fin 2048) : iblk m c 3 t (ix2 0 b) = m (c.tc.loc main_arg3) (ix2 1 b) := by
  have := tlt t
  blk_simp [iblk, idx t]
  entry_read
  pointwise
  blk_ext [idx t]
theorem rd4 (a : Fin 2048) (f : Fin 512) : iblk m c 4 t (ix2 a f) = m (c.tc.loc main_arg4) (ix3 1 a ⟨(stepAt t : ℕ) * 512 + f, by omega⟩) := by
  have := tlt t
  unfold stepAt
  blk_simp [iblk, idx t]
  entry_read
  pointwise
  blk_ext [idx t]
theorem rd5 (f : Fin 512) (b : Fin 2048) : iblk m c 5 t (ix2 f b) = m (c.tc.loc main_arg5) (ix3 1 ⟨(stepAt t : ℕ) * 512 + f, by omega⟩ b) := by
  have := tlt t
  unfold stepAt
  blk_simp [iblk, idx t]
  entry_read
  pointwise
  blk_ext [idx t]

/-- What a step adds, from its blocks. -/
def stepSum (v11 : FVec Ideal S1024x2048 .bf16) (v12 : FVec Ideal S2048x512 .bf16) (v19 : FVec Ideal S512x2048 .bf16) (a : Fin 1024) (b : Fin 2048) : EReal :=
  ∑ f : Fin 512, max (∑ e : Fin 2048, v11 (ix2 a e) * v12 (ix2 e f)) 0 * max (∑ e : Fin 2048, v11 (ix2 a e) * v12 (ix2 e f)) 0 * v19 (ix2 f b)

theorem pay1_at (v11 : FVec Ideal S1024x2048 .bf16) (v12 : FVec Ideal S2048x512 .bf16) (v19 : FVec Ideal S512x2048 .bf16) (a : Fin 1024) (b : Fin 2048) :
    k0_pay1 (F := Ideal) v11 v12 v19 (ix2 a b) = stepSum v11 v12 v19 a b := by
  pointwise [k0_pay1, stepSum]

theorem pay2_at (v0 : FVec Ideal S1024x2048 .f32) (v11 : FVec Ideal S1024x2048 .bf16) (v12 : FVec Ideal S2048x512 .bf16) (v19 : FVec Ideal S512x2048 .bf16) (a : Fin 1024) (b : Fin 2048) :
    k0_pay2 (F := Ideal) v0 v11 v12 v19 (ix2 a b) = v0 (ix2 a b) + stepSum v11 v12 v19 a b := by
  pointwise [k0_pay2, stepSum]

/-- One step's addend, read from the arrays. -/
theorem part_at (a : Fin 1024) (b : Fin 2048) :
    stepSum (iblk m c 0 t) (iblk m c 4 t) (iblk m c 5 t) a b
      = part (m (c.tc.loc main_arg0)) (m (c.tc.loc main_arg4)) (m (c.tc.loc main_arg5)) (tokenAt t a) b (stepAt t) := by
  simp only [stepSum, rd0, rd4, rd5]
  rfl

/-- The sum over the first `s + 1` steps, for `s` below the last step. -/
theorem acc (i : Fin 8) (s : ℕ) (hs : s < 15) (h : 16 * (i : ℕ) + s < cfg0.N) (a : Fin 1024) (b : Fin 2048) :
    outsAt0 m c (16 * (i : ℕ) + s) h (ix2 a b)
      = ∑ k : Fin (s + 1), part (m (c.tc.loc main_arg0)) (m (c.tc.loc main_arg4)) (m (c.tc.loc main_arg5)) ⟨(i : ℕ) * 1024 + a, by omega⟩ b ⟨k, by omega⟩ := by
  induction s with
  | zero =>
    have e := outsAt0_A m c ⟨16 * (i : ℕ) + 0, h⟩ (by simp only; omega) (by simp only; omega) (by simp only; omega)
    refine (congrFun e (ix2 a b)).trans ?_
    frame_out
    refine (pay1_at _ _ _ a b).trans ((part_at m c _ a b).trans ?_)
    rw [Fin.sum_univ_one]
    congr 1 <;> apply Fin.ext <;> simp only [tokenAt, stepAt, Fin.val_zero] <;> omega
  | succ s ih =>
    have hp : 16 * (i : ℕ) + s < cfg0.N := by omega
    have e := outsAt0_B m c ⟨16 * (i : ℕ) + (s + 1), h⟩ (by simp only; omega) (by simp only; omega) (by simp only; omega)
    refine (congrFun e (ix2 a b)).trans ?_
    frame_out
    refine (pay2_at _ _ _ _ a b).trans ?_
    rw [Fin.sum_univ_castSucc]
    refine congrArg₂ (· + ·) (ih (by omega) hp) ((part_at m c _ a b).trans ?_)
    congr 1 <;> apply Fin.ext <;> simp only [tokenAt, stepAt, Fin.val_last] <;> omega

end blocks

set_option maxHeartbeats 1600000 in
theorem last (c : Dev nD) (t : Fin cfg0.N) (ht : t.val % 16 = 15) (y : S1024x2048.Idx) (a : Fin 1024) (b : Fin 2048)
    (ha : (a : ℕ) = y 0) (hb : (b : ℕ) = y 1) :
    outsAt0 m c t.val t.isLt y
      = out (m (c.tc.loc main_arg0)) (m (c.tc.loc main_arg1)) (m (c.tc.loc main_arg2)) (m (c.tc.loc main_arg3)) (m (c.tc.loc main_arg4)) (m (c.tc.loc main_arg5)) (tokenAt t a) b := by
  have hN := tlt t
  have hk : (⟨1 + (t.val / 16 * 1024 + (a : ℕ)) / 1024, by omega⟩ : Fin 16) = ⟨1 + t.val / 16, by omega⟩ :=
    Fin.ext (by simp only; omega)
  have hacc : ∀ d : Fin 2048, outsAt0 m c (t.val - 1) (Nat.lt_of_le_of_lt (Nat.sub_le _ _) t.isLt) (ix2 a d)
      + stepSum (iblk m c 0 t) (iblk m c 4 t) (iblk m c 5 t) a d
      = ff (m (c.tc.loc main_arg0)) (m (c.tc.loc main_arg4)) (m (c.tc.loc main_arg5)) (tokenAt t a) d := by
    intro d
    rw [← sum_part, Fin.sum_univ_castSucc, part_at]
    have e : t.val - 1 = 16 * (t.val / 16) + 14 := by omega
    have e' := acc m c ⟨t.val / 16, by omega⟩ 14 (by omega) (by simp only; omega) a d
    refine congrArg₂ (· + ·) ?_ ?_
    · refine Eq.trans ?_ (e'.trans ?_)
      · congr 1
      · rfl
    · congr 1
      apply Fin.ext
      simp only [stepAt, Fin.val_last]
      omega
  rw [outsAt0_C m c t (by omega) (by omega) ht]
  generalize outsAt0 m c (t.val - 1) _ = Y at hacc ⊢
  simp only [stepSum] at hacc
  frame_out
  canon_tiles y h
  all_goals open_payloads
  all_goals
    have ha' := ha.trans h0
    have hb' : y 1 = b := Fin.ext (hb.trans h1).symm
    pointwise
    simp only [hb']
    simp only [← ha', Fin.eta, hacc, rd1, rd2, rd3]
    simp only [out, rms, tokenAt, hk]

theorem final6 (c : Dev nD) : (dats m 0 c).arrAt 6 (cfgs 0).N
    = fun i => out (m (c.tc.loc main_arg0)) (m (c.tc.loc main_arg1)) (m (c.tc.loc main_arg2)) (m (c.tc.loc main_arg3)) (m (c.tc.loc main_arg4)) (m (c.tc.loc main_arg5)) (i 0) (i 1) := by
  refine (dats m 0 c).arrAt_eq_of_covers 6 _ (by decide +kernel) fun t hf y => ?_
  blk_simp
  rw [after0_6]
  refine (last m c t ((flush0_6 t).mp hf) _ (y 0) (y 1) rfl rfl).trans ?_
  refine congrArg₂ (out (m (c.tc.loc main_arg0)) (m (c.tc.loc main_arg1)) (m (c.tc.loc main_arg2)) (m (c.tc.loc main_arg3)) (m (c.tc.loc main_arg4)) (m (c.tc.loc main_arg5))) ?_ ?_ <;> apply Fin.ext <;> blk_simp [tokenAt, idx t]

/-- The MLP's result is the reference's. -/
theorem algebraic : Cert.algebraic_Kernel2Ideal_Reference2Ideal := by
  intro m g m' g' _ hag
  refine ⟨fun c => (dats m 0 c).arrAt 6 (cfgs 0).N, Cert.Kernel2Ideal.Value.run_blocks m g, ?_⟩
  refine (θ_run Cert.Reference2Ideal.defs _ _).mono (fun r h c => ?_) (Cert.Reference2Ideal.Value.run m' g')
  obtain ⟨a0, a1, a2, a3, a4, a5⟩ := hag c
  refine ⟨(h c).1.trans ?_, (h c).2⟩
  refine Eq.trans ?_ (final6 m c).symm
  funext i
  obtain ⟨r, d, rfl⟩ : ∃ (r : Fin 8192) (d : Fin 2048), i = ix2 r d := ⟨i 0, i 1, eq_ix2 i⟩
  refine (Cert.MlpRef.ref32 m' c r d).trans ?_
  rw [a0, a1, a2, a3, a4, a5]
  rfl

end Cert.Mlp

end
-- ==== Proof.OutProj.lean ====
module

public import proofs.«01_k».proof.Proof.Gen.Kernel3Ideal.Value
public import proofs.«01_k».proof.Proof.OutRef
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.OutProj

open Cert.Kernel3Ideal Cert.Kernel3Ideal.Gen
open Cert.OutRef (cat4 proj rms tok hid)
open Idealize.ShloMosaic Idealize.ShloMosaic.TcCoe Idealize.SL.Sem
open Idealize.ShloMosaic.Pipeline (Dat Window)

variable (m : (ℓ : Loc nD τ sig) → Buf (Elt Ideal) ℓ)
variable (m' : (ℓ : Loc Cert.Reference3Ideal.nD Cert.Reference3Ideal.τ Cert.Reference3Ideal.sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0]
    ∧ win0_6.index t = ![1, 1 + t.val / 2, 0, 0] ∧ win0_7.index t = ![0, 0] ∧ win0_8.index t = ![0, 0]
    ∧ win0_9.index t = ![t.val, 0] ∧ win0_10.index t = ![t.val, 0] :=
  (by decide +kernel : ∀ t : Fin grid0.N, _)

section blocks
variable (c : Dev nD) (t : Fin cfg0.N)
theorem tlt : t.val < 16 := t.isLt
theorem rd0 (a : Fin 512) (b : Fin 512) : iblk m c 0 t (ix2 a b) = m (c.tc.loc main_arg0) (ix2 ⟨t.val * 512 + a, by have := tlt t; omega⟩ b) := by
  have := tlt t
  blk_ext [iblk, V, idx t]
theorem rd1 (a : Fin 512) (b : Fin 512) : iblk m c 1 t (ix2 a b) = m (c.tc.loc main_arg1) (ix2 ⟨t.val * 512 + a, by have := tlt t; omega⟩ b) := by
  have := tlt t
  blk_ext [iblk, V, idx t]
theorem rd2 (a : Fin 512) (b : Fin 512) : iblk m c 2 t (ix2 a b) = m (c.tc.loc main_arg2) (ix2 ⟨t.val * 512 + a, by have := tlt t; omega⟩ b) := by
  have := tlt t
  blk_ext [iblk, V, idx t]
theorem rd3 (a : Fin 512) (b : Fin 512) : iblk m c 3 t (ix2 a b) = m (c.tc.loc main_arg3) (ix2 ⟨t.val * 512 + a, by have := tlt t; omega⟩ b) := by
  have := tlt t
  blk_ext [iblk, V, idx t]
theorem rd4 (a : Fin 2048) (b : Fin 2048) : iblk m c 4 t (ix2 a b) = m (c.tc.loc main_arg8) (ix3 1 a b) := by
  have := tlt t
  blk_simp [iblk, idx t]
  entry_read
  pointwise
  blk_ext [idx t]
theorem rd6 (k : Fin 6) (b : Fin 2048) : iblk m c 6 t (ix4 0 0 k b) = m (c.tc.loc main_arg5) (ix4 1 ⟨1 + (t.val * 512) / 1024, by have := tlt t; omega⟩ k b) := by
  have := tlt t
  blk_ext [iblk, V, idx t]
theorem rd7 (b : Fin 2048) : iblk m c 7 t (ix2 0 b) = m (c.tc.loc main_arg6) (ix2 1 b) := by
  have := tlt t
  blk_simp [iblk, idx t]
  entry_read
  pointwise
  blk_ext [idx t]
theorem rd5 (a : Fin 512) (b : Fin 2048) : iblk m c 5 t (ix2 a b) = m (c.tc.loc main_arg4) (ix2 ⟨t.val * 512 + a, by have := tlt t; omega⟩ b) := by
  have := tlt t
  blk_ext [iblk, V, idx t]
theorem rd8 (b : Fin 2048) : iblk m c 8 t (ix2 0 b) = m (c.tc.loc main_arg7) (ix2 1 b) := by
  have := tlt t
  blk_simp [iblk, idx t]
  entry_read
  pointwise
  blk_ext [idx t]

/-- The token row `a` of point `t`'s blocks. -/
def tokenAt (a : Fin 512) : Fin 8192 := ⟨t.val * 512 + a, by have := tlt t; omega⟩

theorem pt9 (y : S512x2048.Idx) (a : Fin 512) (b : Fin 2048) (ha : (a : ℕ) = y 0) (hb : (b : ℕ) = y 1) :
    out0_9 (iblk m c 0 t) (iblk m c 1 t) (iblk m c 2 t) (iblk m c 3 t) (iblk m c 4 t) (iblk m c 5 t) (iblk m c 6 t) (iblk m c 7 t) (iblk m c 8 t) y
      = tok (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (tokenAt t a) b := by
  have hk : (⟨1 + (t.val * 512 + (a : ℕ)) / 1024, by have := tlt t; omega⟩ : Fin 16) = ⟨1 + t.val * 512 / 1024, by have := tlt t; omega⟩ :=
    Fin.ext (by have := tlt t; simp only; omega)
  frame_out
  canon_tiles y h
  all_goals open_payloads
  all_goals
    have ha' := ha.trans h0
    have hb' : y 1 = b := Fin.ext (hb.trans h1).symm
    pointwise
    simp only [hb']
    simp only [← ha', Fin.eta, rd0, rd1, rd2, rd3, rd4, rd5, rd6, rd7, rd8]
    simp only [hid, tok, rms, proj, cat4, tokenAt, hk]

set_option maxHeartbeats 1600000 in
theorem pt10 (y : S512x2048.Idx) (a : Fin 512) (b : Fin 2048) (ha : (a : ℕ) = y 0) (hb : (b : ℕ) = y 1) :
    out0_10 (iblk m c 0 t) (iblk m c 1 t) (iblk m c 2 t) (iblk m c 3 t) (iblk m c 4 t) (iblk m c 5 t) (iblk m c 6 t) (iblk m c 7 t) (iblk m c 8 t) y
      = hid (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (tokenAt t a) b := by
  have hk : (⟨1 + (t.val * 512 + (a : ℕ)) / 1024, by have := tlt t; omega⟩ : Fin 16) = ⟨1 + t.val * 512 / 1024, by have := tlt t; omega⟩ :=
    Fin.ext (by have := tlt t; simp only; omega)
  frame_out
  canon_tiles y h
  all_goals open_payloads
  all_goals
    have ha' := ha.trans h0
    have hb' : y 1 = b := Fin.ext (hb.trans h1).symm
    pointwise
    simp only [hb']
    simp only [← ha', Fin.eta, rd0, rd1, rd2, rd3, rd4, rd5, rd6, rd7, rd8]
    simp only [hid, tok, rms, proj, cat4, tokenAt, hk]
end blocks

theorem final9 (c : Dev nD) : (dats m 0 c).arrAt 9 (cfgs 0).N
    = fun i => tok (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (i 0) (i 1) := by
  refine (dats m 0 c).arrAt_eq_of_covers 9 _ (by decide +kernel) fun t _ y => ?_
  blk_simp
  rw [after0_9]
  refine (pt9 m c t _ (y 0) (y 1) rfl rfl).trans ?_
  refine congrArg₂ (tok (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8))) ?_ ?_ <;> apply Fin.ext <;> blk_simp [tokenAt, idx t]

theorem final10 (c : Dev nD) : (dats m 0 c).arrAt 10 (cfgs 0).N
    = fun i => hid (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1) := by
  refine (dats m 0 c).arrAt_eq_of_covers 10 _ (by decide +kernel) fun t _ y => ?_
  blk_simp
  rw [after0_10]
  refine (pt10 m c t _ (y 0) (y 1) rfl rfl).trans ?_
  refine congrArg₂ (hid (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))) ?_ ?_ <;> apply Fin.ext <;> blk_simp [tokenAt, idx t]

/-- Both results of the output projection are the reference's. -/
theorem algebraic : Cert.algebraic_Kernel3Ideal_Reference3Ideal := by
  intro m g m' g' _ hag
  refine ⟨fun c => (dats m 0 c).arrAt 9 (cfgs 0).N, fun c => (dats m 0 c).arrAt 10 (cfgs 0).N,
    Cert.Kernel3Ideal.Value.run_blocks m g, ?_⟩
  refine (θ_run Cert.Reference3Ideal.defs _ _).mono (fun r h c => ?_) (Cert.Reference3Ideal.Value.run m' g')
  obtain ⟨a0, a1, a2, a3, a4, a5, a6, a7, a8⟩ := hag c
  refine ⟨(h c).1.trans ?_, (h c).2.1.trans ?_, (h c).2.2⟩
  · refine Eq.trans ?_ (final9 m c).symm
    funext i
    obtain ⟨r, d, rfl⟩ : ∃ (r : Fin 8192) (d : Fin 2048), i = ix2 r d := ⟨i 0, i 1, eq_ix2 i⟩
    refine (Cert.OutRef.ref58 m' c r d).trans ?_
    rw [a0, a1, a2, a3, a4, a5, a6, a8]
    rfl
  · refine Eq.trans ?_ (final10 m c).symm
    funext i
    obtain ⟨r, d, rfl⟩ : ∃ (r : Fin 8192) (d : Fin 2048), i = ix2 r d := ⟨i 0, i 1, eq_ix2 i⟩
    refine (Cert.OutRef.ref60 m' c r d).trans ?_
    rw [a0, a1, a2, a3, a4, a5, a6, a7, a8]
    rfl

end Cert.OutProj

end
-- ==== Proof.InRef.lean ====
module

public import proofs.«01_k».proof.Proof.OutRef
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

/-! # The input projection's reference, entry by entry

The norm and modulation in front of the mixers, the projection, and the order in which the mixers read its columns. -/

namespace Cert.InRef

open Cert.Reference4Ideal Cert.Reference4Ideal.Gen
open Cert.OutRef (rms)
open Idealize.ShloMosaic Idealize.ShloMosaic.TcCoe Idealize.SL.Sem

/-- Token `r` after norm and modulation. -/
def hin (X : FVec Ideal S8192x2048 .f32) (M : FVec Ideal S2x16x6x2048 .f32) (G : FVec Ideal S2x2048 .f32) (r : Fin 8192) (d : Fin 2048) : EReal :=
  rms (fun e => X (ix2 r e)) (G (ix2 1 d)) d * (1 + M (ix4 1 ⟨1 + (r : ℕ) / 1024, by omega⟩ 1 d))
    + M (ix4 1 ⟨1 + (r : ℕ) / 1024, by omega⟩ 0 d)

/-- Column `e` of a row of 4672 numbers in the mixers' order: the rope key's 64 columns come last, then zeros. -/
def col (w : Fin 4672 → EReal) (e : Fin 4864) : EReal :=
  if h : (e : ℕ) < 2048 then w ⟨e, by omega⟩ else
  if h : (e : ℕ) - 2048 < 2560 then w ⟨2112 + ((e : ℕ) - 2048), by omega⟩ else
  if h : (e : ℕ) - 2048 - 2560 < 64 then w ⟨2048 + ((e : ℕ) - 2048 - 2560), by omega⟩ else 0

/-- The projected token, in the mixers' order of columns. -/
def zin (X : FVec Ideal S8192x2048 .f32) (M : FVec Ideal S2x16x6x2048 .f32) (G : FVec Ideal S2x2048 .f32) (W : FVec Ideal S2x2048x4672 .f32)
    (r : Fin 8192) (e : Fin 4864) : EReal :=
  ∑ k : Fin 2048, hin X M G r k * col (fun e' => W (ix3 1 k e')) e

/-- Reordering the columns of the product is reordering the weight's. -/
theorem col_sum (h : Fin 2048 → EReal) (w : Fin 2048 → Fin 4672 → EReal) (e : Fin 4864) :
    col (fun e' => ∑ k : Fin 2048, h k * w k e') e = ∑ k : Fin 2048, h k * col (w k) e := by
  unfold col
  split_ifs <;> first | rfl | simp

/-- The normed and modulated tokens as a block of frames. -/
def hinT (X : FVec Ideal S8192x2048 .f32) (M : FVec Ideal S2x16x6x2048 .f32) (G : FVec Ideal S2x2048 .f32) : FVec Ideal S8x1024x2048 .f32 :=
  addf (mulf (mulf (mulf (shapeCast _ X shapeCasts_S8192x2048_S8x1024x2048) (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf (shapeCast _ X shapeCasts_S8192x2048_S8x1024x2048) (shapeCast _ X shapeCasts_S8192x2048_S8x1024x2048)) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 (shapeCast _ (extractStridedSlice S1x2048 ![1, 0] G slices_S2x2048_S1x2048_1_0) shapeCasts_S1x2048_S2048)))) (broadcastInDim S8x1024x2048 ![0, 1, 2] bcast_S8x1x2048_S8x1024x2048_0_1_2 (addf (broadcastInDim S8x1x2048 ![] bcast_S_S8x1x2048 (constant S_ .f32 0x3F800000#32)) (broadcastInDim S8x1x2048 ![0, 2] bcast_S8x2048_S8x1x2048_0_2 (shapeCast _ (extractStridedSlice S1x8x1x2048 ![1, 1, 1, 0] M slices_S2x16x6x2048_S1x8x1x2048_1_1_1_0) shapeCasts_S1x8x1x2048_S8x2048))))) (broadcastInDim S8x1024x2048 ![0, 1, 2] bcast_S8x1x2048_S8x1024x2048_0_1_2 (broadcastInDim S8x1x2048 ![0, 2] bcast_S8x2048_S8x1x2048_0_2 (shapeCast _ (extractStridedSlice S1x8x1x2048 ![1, 1, 0, 0] M slices_S2x16x6x2048_S1x8x1x2048_1_1_0_0) shapeCasts_S1x8x1x2048_S8x2048)))

/-- The product with the weight. -/
def zT (X : FVec Ideal S8192x2048 .f32) (M : FVec Ideal S2x16x6x2048 .f32) (G : FVec Ideal S2x2048 .f32) (W : FVec Ideal S2x2048x4672 .f32) : FVec Ideal S8192x4672 .f32 :=
  shapeCast _ (Host.dotGeneral dot_S8x1024x2048_S2048x4672_S8x1024x4672_2_0_01_1_n_n none (hinT X M G) (shapeCast _ (extractStridedSlice S1x2048x4672 ![1, 0, 0] W slices_S2x2048x4672_S1x2048x4672_1_0_0) shapeCasts_S1x2048x4672_S2048x4672)) shapeCasts_S8x1024x4672_S8192x4672

theorem hinT_at (X : FVec Ideal S8192x2048 .f32) (M : FVec Ideal S2x16x6x2048 .f32) (G : FVec Ideal S2x2048 .f32) (r : Fin 8192) (d : Fin 2048) :
    hinT X M G (ix3 ⟨(r : ℕ) / 1024, by omega⟩ ⟨(r : ℕ) % 1024, by omega⟩ d) = hin X M G r d := by
  have hr : (r : ℕ) / 1024 * 1024 + (r : ℕ) % 1024 = r := Nat.div_add_mod' _ _
  pointwise [hinT, hin, rms, hr]

theorem dot_at (L : FVec Ideal S8x1024x2048 .f32) (R : FVec Ideal S2048x4672 .f32) (b : Fin 8) (t : Fin 1024) (e : Fin 4672) :
    Host.dotGeneral dot_S8x1024x2048_S2048x4672_S8x1024x4672_2_0_01_1_n_n none L R (ix3 b t e)
      = ∑ k : Fin 2048, L (ix3 b t k) * R (ix2 k e) := by
  pointwise

theorem weight_at (R : FVec Ideal S2x2048x4672 .f32) (k : Fin 2048) (e : Fin 4672) :
    shapeCast S2048x4672 (extractStridedSlice S1x2048x4672 ![1, 0, 0] R slices_S2x2048x4672_S1x2048x4672_1_0_0)
      shapeCasts_S1x2048x4672_S2048x4672 (ix2 k e) = R (ix3 1 k e) := by
  pointwise

theorem row_at (R : FVec Ideal S8x1024x4672 .f32) (r : Fin 8192) (e : Fin 4672) :
    shapeCast S8192x4672 R shapeCasts_S8x1024x4672_S8192x4672 (ix2 r e) = R (ix3 ⟨(r : ℕ) / 1024, by omega⟩ ⟨(r : ℕ) % 1024, by omega⟩ e) := by
  pointwise

theorem zT_at (X : FVec Ideal S8192x2048 .f32) (M : FVec Ideal S2x16x6x2048 .f32) (G : FVec Ideal S2x2048 .f32) (W : FVec Ideal S2x2048x4672 .f32)
    (r : Fin 8192) (e : Fin 4672) :
    zT X M G W (ix2 r e) = ∑ k : Fin 2048, hin X M G r k * W (ix3 1 k e) := by
  unfold zT
  refine (row_at _ r e).trans ((dot_at _ _ _ _ e).trans (Finset.sum_congr rfl fun k _ => congrArg₂ (· * ·) (hinT_at X M G r k) (weight_at W k e)))

/-- The zeros after the last column. -/
def padT : FVec Ideal S8192x192 .f32 := broadcastInDim S8192x192 ![] bcast_S_S8192x192 (constant S_ .f32 0x00000000#32)

theorem padT_at (i : S8192x192.Idx) : padT i = 0 := by
  pointwise [padT]

/-- The reordered columns, entry by entry. -/
theorem cat_at (T : FVec Ideal S8192x4672 .f32) (r : Fin 8192) (e : Fin 4864) :
    (concatenate S8192x4864 1 [⟨S8192x2048, ((extractStridedSlice S8192x2048 ![0, 0] T slices_S8192x4672_S8192x2048_0_0) : (⟨S8192x2048, .f32⟩ : BufTy).Contents (Elt Ideal))⟩, ⟨S8192x2560, ((extractStridedSlice S8192x2560 ![0, 2112] T slices_S8192x4672_S8192x2560_0_2112) : (⟨S8192x2560, .f32⟩ : BufTy).Contents (Elt Ideal))⟩, ⟨S8192x64, ((extractStridedSlice S8192x64 ![0, 2048] T slices_S8192x4672_S8192x64_0_2048) : (⟨S8192x64, .f32⟩ : BufTy).Contents (Elt Ideal))⟩, ⟨S8192x192, (padT : (⟨S8192x192, .f32⟩ : BufTy).Contents (Elt Ideal))⟩] concatenates_S8192x2048_S8192x2560_S8192x64_S8192x192_S8192x4864_d1 : (⟨S8192x4864, .f32⟩ : BufTy).Contents (Elt Ideal)) (ix2 r e)
      = col (fun e' => T (ix2 r e')) e := by
  unfold col
  pointwise [padT_at]

variable (m : (ℓ : Loc nD τ sig) → Buf (Elt Ideal) ℓ)

theorem ref36 (c : Dev nD) (r : Fin 8192) (e : Fin 4864) :
    Value.res_main_v36 m c (ix2 r e)
      = zin (m (c.tc.loc main_arg0)) (m (c.tc.loc main_arg1)) (m (c.tc.loc main_arg2)) (m (c.tc.loc main_arg3)) r e := by
  refine (cat_at (zT (m (c.tc.loc main_arg0)) (m (c.tc.loc main_arg1)) (m (c.tc.loc main_arg2)) (m (c.tc.loc main_arg3))) r e).trans ?_
  simp only [zT_at]
  exact col_sum _ _ e

end Cert.InRef

end
-- ==== Proof.InProj.lean ====
module

public import proofs.«01_k».proof.Proof.Gen.Kernel4Ideal.Value
public import proofs.«01_k».proof.Proof.InRef
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

/-! # The input projection's kernel, block by block -/

namespace Cert.InProj

open Cert.Kernel4Ideal Cert.Kernel4Ideal.Gen
open Cert.OutRef (rms)
open Cert.InRef (hin col zin)
open Idealize.ShloMosaic Idealize.ShloMosaic.TcCoe Idealize.SL.Sem
open Idealize.ShloMosaic.Pipeline (Dat Window)

variable (m : (ℓ : Loc nD τ sig) → Buf (Elt Ideal) ℓ)
variable (m' : (ℓ : Loc Cert.Reference4Ideal.nD Cert.Reference4Ideal.τ Cert.Reference4Ideal.sig) → Buf (Elt Ideal) ℓ)

theorem idx : ∀ t : Fin cfg0.N, win0_0.index t = ![t.val, 0] ∧ win0_1.index t = ![1, 1 + t.val / 2, 0, 0] ∧ win0_2.index t = ![0, 0]
    ∧ win0_3.index t = ![1, 0, 0] ∧ win0_4.index t = ![t.val, 0] :=
  (by decide +kernel : ∀ t : Fin grid0.N, _)

/-- The padding columns of the weight. -/
def padW : FVec Ideal S2x2048x192 .bf16 := broadcastInDim S2x2048x192 ![] bcast_S_S2x2048x192 (constant S_ .bf16 0x0000#16)

theorem padW_at (i : S2x2048x192.Idx) : padW i = 0 := by
  pointwise [padW]

/-- The reordered and padded weight, as the host line computes it. -/
theorem wpad (c : Dev nD) : V m c main_v5
    = concatenate S2x2048x4864 2 [⟨S2x2048x2048, extractStridedSlice S2x2048x2048 ![0, 0, 0] (m (c.tc.loc main_arg3)) slices_S2x2048x4672_S2x2048x2048_0_0_0⟩,
        ⟨S2x2048x2560, extractStridedSlice S2x2048x2560 ![0, 0, 2112] (m (c.tc.loc main_arg3)) slices_S2x2048x4672_S2x2048x2560_0_0_2112⟩,
        ⟨S2x2048x64, extractStridedSlice S2x2048x64 ![0, 0, 2048] (m (c.tc.loc main_arg3)) slices_S2x2048x4672_S2x2048x64_0_0_2048⟩,
        ⟨S2x2048x192, padW⟩] concatenates_S2x2048x2048_S2x2048x2560_S2x2048x64_S2x2048x192_S2x2048x4864_d2 := rfl

theorem cat_at (w : S2x2048x4672.Idx → EReal) (z : S2x2048x192.Idx → EReal) (hz : ∀ i, z i = 0) (x : Fin 2048) (e : Fin 4864) :
    concatenate S2x2048x4864 2 [⟨S2x2048x2048, extractStridedSlice S2x2048x2048 ![0, 0, 0] w slices_S2x2048x4672_S2x2048x2048_0_0_0⟩,
        ⟨S2x2048x2560, extractStridedSlice S2x2048x2560 ![0, 0, 2112] w slices_S2x2048x4672_S2x2048x2560_0_0_2112⟩,
        ⟨S2x2048x64, extractStridedSlice S2x2048x64 ![0, 0, 2048] w slices_S2x2048x4672_S2x2048x64_0_0_2048⟩,
        ⟨S2x2048x192, z⟩] concatenates_S2x2048x2048_S2x2048x2560_S2x2048x64_S2x2048x192_S2x2048x4864_d2 (ix3 1 x e)
      = col (fun e' => w (ix3 1 x e')) e := by
  unfold col
  pointwise [hz]

section blocks
variable (c : Dev nD) (t : Fin cfg0.N)
theorem tlt : t.val < 16 := t.isLt
theorem rd0 (a : Fin 512) (b : Fin 2048) : iblk m c 0 t (ix2 a b) = m (c.tc.loc main_arg0) (ix2 ⟨t.val * 512 + a, by have := tlt t; omega⟩ b) := by
  have := tlt t
  blk_ext [iblk, V, idx t]
theorem rd1 (k : Fin 6) (b : Fin 2048) : iblk m c 1 t (ix4 0 0 k b) = m (c.tc.loc main_arg1) (ix4 1 ⟨1 + (t.val * 512) / 1024, by have := tlt t; omega⟩ k b) := by
  have := tlt t
  blk_ext [iblk, V, idx t]
theorem rd2 (b : Fin 2048) : iblk m c 2 t (ix2 0 b) = m (c.tc.loc main_arg2) (ix2 1 b) := by
  have := tlt t
  blk_simp [iblk, idx t]
  entry_read
  pointwise
  blk_ext [idx t]
theorem rd3 (x : Fin 2048) (e : Fin 4864) : iblk m c 3 t (ix3 0 x e) = col (fun e' => m (c.tc.loc main_arg3) (ix3 1 x e')) e := by
  have he : ((View.whole main_v5).slice (win0_3.rect t)).emb (ix3 0 x e) = ix3 1 x e := by blk_ext [idx t]
  blk_simp [iblk, idx t]
  refine Eq.trans ?_ (cat_at (m (c.tc.loc main_arg3)) padW padW_at x e)
  rw [← wpad m c]
  exact congrArg _ he

/-- The token row `a` of point `t`'s blocks. -/
def tokenAt (a : Fin 512) : Fin 8192 := ⟨t.val * 512 + a, by have := tlt t; omega⟩

set_option maxHeartbeats 1000000 in
theorem pt4 (y : S512x4864.Idx) (a : Fin 512) (b : Fin 4864) (ha : (a : ℕ) = y 0) (hb : (b : ℕ) = y 1) :
    out0_4 (iblk m c 0 t) (iblk m c 1 t) (iblk m c 2 t) (iblk m c 3 t) y
      = zin (m (c.tc.loc main_arg0)) (m (c.tc.loc main_arg1)) (m (c.tc.loc main_arg2)) (m (c.tc.loc main_arg3)) (tokenAt t a) b := by
  have hk : (⟨1 + (t.val * 512 + (a : ℕ)) / 1024, by have := tlt t; omega⟩ : Fin 16) = ⟨1 + t.val * 512 / 1024, by have := tlt t; omega⟩ :=
    Fin.ext (by have := tlt t; simp only; omega)
  frame_out
  canon_tiles y h
  all_goals open_payloads
  all_goals
    have ha' := ha.trans h0
    have hb' : y 1 = b := Fin.ext (hb.trans h1).symm
    pointwise
    simp only [hb']
    simp only [← ha', Fin.eta, rd0, rd1, rd2, rd3]
    simp only [zin, hin, rms, tokenAt, hk]
end blocks

theorem final4 (c : Dev nD) : (dats m 0 c).arrAt 4 (cfgs 0).N
    = fun i => zin (m (c.tc.loc main_arg0)) (m (c.tc.loc main_arg1)) (m (c.tc.loc main_arg2)) (m (c.tc.loc main_arg3)) (i 0) (i 1) := by
  refine (dats m 0 c).arrAt_eq_of_covers 4 _ (by decide +kernel) fun t _ y => ?_
  blk_simp
  rw [after0_4]
  refine (pt4 m c t _ (y 0) (y 1) rfl rfl).trans ?_
  refine congrArg₂ (zin (m (c.tc.loc main_arg0)) (m (c.tc.loc main_arg1)) (m (c.tc.loc main_arg2)) (m (c.tc.loc main_arg3))) ?_ ?_ <;> apply Fin.ext <;> blk_simp [tokenAt, idx t]

/-- The result of the input projection is the reference's. -/
theorem algebraic : Cert.algebraic_Kernel4Ideal_Reference4Ideal := by
  intro m g m' g' _ hag
  refine ⟨fun c => (dats m 0 c).arrAt 4 (cfgs 0).N, Cert.Kernel4Ideal.Value.run_blocks m g, ?_⟩
  refine (θ_run Cert.Reference4Ideal.defs _ _).mono (fun r h c => ?_) (Cert.Reference4Ideal.Value.run m' g')
  obtain ⟨a0, a1, a2, a3⟩ := hag c
  refine ⟨(h c).1.trans ?_, (h c).2⟩
  refine Eq.trans ?_ (final4 m c).symm
  funext i
  obtain ⟨r, d, rfl⟩ : ∃ (r : Fin 8192) (d : Fin 4864), i = ix2 r d := ⟨i 0, i 1, eq_ix2 i⟩
  refine (Cert.InRef.ref36 m' c r d).trans ?_
  rw [a0, a1, a2, a3]
  rfl

end Cert.InProj

end
-- ==== Proof.Ctx.Value.lean ====
/- The layer kernel's run with each output array named, and what each output block of an array holds.  It follows
   the set-up of the other programs. -/
module

public import proofs.«01_k».proof.Proof.Ctx.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t).1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — the kernel's one case, `Gen.outsAt0` by definition. -/
theorem flushed12_A (c : Dev nD) (t : Fin cfg0.N) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0]

/-- The index map sends distinct grid points to distinct block indices (decided over the 16 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S8192x512.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 1), read through the window's block. -/
theorem flushed13 (c : Dev nD) (t : Fin cfg0.N) :
    (dats m 0 c).flushed 13 t = (cfg0.win 13).cut (grid0.coords t) ((outsAt0 m c t).2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — the kernel's one case, `Gen.outsAt0` by definition. -/
theorem flushed13_A (c : Dev nD) (t : Fin cfg0.N) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed13, outsAt0]

/-- The index map sends distinct grid points to distinct block indices (decided over the 16 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S8192x512.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 2), read through the window's block. -/
theorem flushed14 (c : Dev nD) (t : Fin cfg0.N) :
    (dats m 0 c).flushed 14 t = (cfg0.win 14).cut (grid0.coords t) ((outsAt0 m c t).2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — the kernel's one case, `Gen.outsAt0` by definition. -/
theorem flushed14_A (c : Dev nD) (t : Fin cfg0.N) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed14, outsAt0]

/-- The index map sends distinct grid points to distinct block indices (decided over the 16 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S8192x512.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 3), read through the window's block. -/
theorem flushed15 (c : Dev nD) (t : Fin cfg0.N) :
    (dats m 0 c).flushed 15 t = (cfg0.win 15).cut (grid0.coords t) ((outsAt0 m c t).2.2.2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — the kernel's one case, `Gen.outsAt0` by definition. -/
theorem flushed15_A (c : Dev nD) (t : Fin cfg0.N) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed15, outsAt0]

/-- The index map sends distinct grid points to distinct block indices (decided over the 16 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S8192x512.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 4), read through the window's block. -/
theorem flushed16 (c : Dev nD) (t : Fin cfg0.N) :
    (dats m 0 c).flushed 16 t = (cfg0.win 16).cut (grid0.coords t) ((outsAt0 m c t).2.2.2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — the kernel's one case, `Gen.outsAt0` by definition. -/
theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed16, outsAt0]

/-- The index map sends distinct grid points to distinct block indices (decided over the 16 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S32x2x2x256x128.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 5), read through the window's block. -/
theorem flushed17 (c : Dev nD) (t : Fin cfg0.N) :
    (dats m 0 c).flushed 17 t = (cfg0.win 17).cut (grid0.coords t) ((outsAt0 m c t).2.2.2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed17, outsAt0]

/-- The index map sends distinct grid points to distinct block indices (decided over the 16 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S32x2x2x256x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 6), read through the window's block. -/
theorem flushed18 (c : Dev nD) (t : Fin cfg0.N) :
    (dats m 0 c).flushed 18 t = (cfg0.win 18).cut (grid0.coords t) ((outsAt0 m c t).2.2.2.2.2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed18, outsAt0]

/-- The index map sends distinct grid points to distinct block indices (decided over the 16 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S32x2x256x320.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 7), read through the window's block. -/
theorem flushed19 (c : Dev nD) (t : Fin cfg0.N) :
    (dats m 0 c).flushed 19 t = (cfg0.win 19).cut (grid0.coords t) ((outsAt0 m c t).2.2.2.2.2.2.2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed19, outsAt0]

/-- The index map sends distinct grid points to distinct block indices (decided over the 16 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S32x2x2x256x128.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 8), read through the window's block. -/
theorem flushed20 (c : Dev nD) (t : Fin cfg0.N) :
    (dats m 0 c).flushed 20 t = (cfg0.win 20).cut (grid0.coords t) ((outsAt0 m c t).2.2.2.2.2.2.2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed20, outsAt0]

/-- The index map sends distinct grid points to distinct block indices (decided over the 16 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S32x2x2x256x128.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 9), read through the window's block. -/
theorem flushed21 (c : Dev nD) (t : Fin cfg0.N) :
    (dats m 0 c).flushed 21 t = (cfg0.win 21).cut (grid0.coords t) ((outsAt0 m c t).2.2.2.2.2.2.2.2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed21, outsAt0]

/-- The index map sends distinct grid points to distinct block indices (decided over the 16 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S32x2x4x256x128.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 10), read through the window's block. -/
theorem flushed22 (c : Dev nD) (t : Fin cfg0.N) :
    (dats m 0 c).flushed 22 t = (cfg0.win 22).cut (grid0.coords t) ((outsAt0 m c t).2.2.2.2.2.2.2.2.2.2) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed22, outsAt0]

/-- The index map sends distinct grid points to distinct block indices (decided over the 16 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S32x2x4x256x128.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v33_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v33_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v33_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v33_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v33_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v33_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v33_6) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v33_7) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v33_8) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v33_9) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v33_10) = (dats m 0 c).arrAt 22 cfg0.N :=
  (h c).1 22

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

set_option maxHeartbeats 231340 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v33_0) = (dats m 0 c).arrAt 12 cfg0.N
      ∧ r.2.mem ((c : Thread nD τ).loc main_v33_1) = (dats m 0 c).arrAt 13 cfg0.N
      ∧ r.2.mem ((c : Thread nD τ).loc main_v33_2) = (dats m 0 c).arrAt 14 cfg0.N
      ∧ r.2.mem ((c : Thread nD τ).loc main_v33_3) = (dats m 0 c).arrAt 15 cfg0.N
      ∧ r.2.mem ((c : Thread nD τ).loc main_v33_4) = (dats m 0 c).arrAt 16 cfg0.N
      ∧ r.2.mem ((c : Thread nD τ).loc main_v33_5) = (dats m 0 c).arrAt 17 cfg0.N
      ∧ r.2.mem ((c : Thread nD τ).loc main_v33_6) = (dats m 0 c).arrAt 18 cfg0.N
      ∧ r.2.mem ((c : Thread nD τ).loc main_v33_7) = (dats m 0 c).arrAt 19 cfg0.N
      ∧ r.2.mem ((c : Thread nD τ).loc main_v33_8) = (dats m 0 c).arrAt 20 cfg0.N
      ∧ r.2.mem ((c : Thread nD τ).loc main_v33_9) = (dats m 0 c).arrAt 21 cfg0.N
      ∧ r.2.mem ((c : Thread nD τ).loc main_v33_10) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨post12 m r h c,
      post13 m r h c,
      post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c⟩)
    (run_main m ρ)

end Cert.KernelIdeal.Value

end
-- ==== Proof.Ctx.Soft.lean ====
module

public import Idealize.ShloMosaic.Lib.Pipeline.ValueKit
public import Idealize.ShloMosaic.Lib.Pointwise
public import Idealize.ShloMosaic.Lib.Claim

@[expose] public section

noncomputable section

/-! # Attention over the extended reals

A row of attention weights taken to base two and normalised after the weighted sum, against the softmax taken to base
`e` and normalised before it. -/

namespace Cert.Soft

open Idealize.ShloMosaic
open scoped BigOperators

/-- The word of minus infinity. -/
theorem ofBits_bot : Ideal.ofBits FTy.f32 4286578688#32 = ⊥ := by
  simp [Ideal.ofBits, Ideal.ieee]

/-- The greatest of finitely many reals, also after a scaling by a positive number. -/
theorem top_real {n : ℕ} (hn : 0 < n) (s : Fin n → ℝ) :
    ∃ M : ℝ, ∀ l : ℝ, 0 < l → Finset.fold max (⊥ : EReal) (fun k => ((s k * l : ℝ) : EReal)) Finset.univ = ((M * l : ℝ) : EReal) := by
  haveI : Nonempty (Fin n) := ⟨⟨0, hn⟩⟩
  obtain ⟨k, _, hk⟩ := Finset.exists_max_image Finset.univ s Finset.univ_nonempty
  refine ⟨s k, fun l hl => ?_⟩
  change Finset.univ.sup (fun k => ((s k * l : ℝ) : EReal)) = _
  refine le_antisymm (Finset.sup_le fun j _ => ?_) (Finset.le_sup (f := fun k => ((s k * l : ℝ) : EReal)) (Finset.mem_univ k))
  exact EReal.coe_le_coe_iff.mpr (mul_le_mul_of_nonneg_right (hk j (Finset.mem_univ j)) hl.le)

/-- A sum of reals, read in the extended reals. -/
theorem coe_sum {ι : Type*} (S : Finset ι) (f : ι → ℝ) : ∑ k ∈ S, ((f k : ℝ) : EReal) = ((∑ k ∈ S, f k : ℝ) : EReal) := by
  classical
  induction S using Finset.induction_on with
  | empty => simp
  | insert a S h ih => rw [Finset.sum_insert h, Finset.sum_insert h, ih, EReal.coe_add]

/-- A nonnegative real factor moves into a sum. -/
theorem sum_mul_coe {ι : Type*} (S : Finset ι) (f : ι → EReal) (r : ℝ) (hr : 0 ≤ r) :
    (∑ k ∈ S, f k) * (r : EReal) = ∑ k ∈ S, f k * (r : EReal) := by
  classical
  induction S using Finset.induction_on with
  | empty => simp
  | insert a S h ih =>
    rw [Finset.sum_insert h, Finset.sum_insert h, ← ih,
      EReal.right_distrib_of_nonneg_of_ne_top (EReal.coe_nonneg.mpr hr) (EReal.coe_ne_top r)]

theorem div_pos (x : EReal) (D : ℝ) (hD : 0 < D) : Ideal.div x (D : EReal) = x * ((D⁻¹ : ℝ) : EReal) := by
  unfold Ideal.div
  rw [if_neg (by exact_mod_cast hD.ne'), EReal.coe_inv]

theorem exp2_real (l : ℝ) (hl : l = (Real.log 2)⁻¹) (a : ℝ) : Ideal.exp2 ((a * l : ℝ) : EReal) = ((Real.exp a : ℝ) : EReal) := by
  change ((Real.rpow 2 (a * l) : ℝ) : EReal) = _
  have h2 : Real.log 2 ≠ 0 := (Real.log_pos one_lt_two).ne'
  have h : Real.rpow 2 (a * l) = Real.exp a := by
    change (2 : ℝ) ^ (a * l) = _
    rw [Real.rpow_def_of_pos two_pos, hl, mul_comm a, ← mul_assoc, mul_inv_cancel₀ h2, one_mul]
  rw [h]

theorem exp_real (a : ℝ) : Ideal.exp (a : EReal) = ((Real.exp a : ℝ) : EReal) := rfl

theorem coe_max (a b : ℝ) : ((max a b : ℝ) : EReal) = max (a : EReal) (b : EReal) := EReal.coe_strictMono.monotone.map_max

/-- Normalising after the weighted sum or before it. -/
theorem norm_after {n : ℕ} (p : Fin n → ℝ) (D : ℝ) (hD : 0 < D) (v : Fin n → EReal) :
    Ideal.div (∑ k, ((p k : ℝ) : EReal) * v k) (D : EReal) = ∑ k, Ideal.div ((p k : ℝ) : EReal) (D : EReal) * v k := by
  rw [div_pos _ _ hD, sum_mul_coe _ _ _ (inv_pos.mpr hD).le]
  refine Finset.sum_congr rfl fun k _ => ?_
  rw [div_pos _ _ hD, mul_assoc, mul_comm (v k), ← mul_assoc]

/-- A row divided by its root mean square and scaled. -/
def rms {n : ℕ} (c : BitVec 32) (f g : Fin n → EReal) (i : Fin n) : EReal :=
  f i * Ideal.rsqrt (Ideal.div (∑ x, f x * f x) (Ideal.ofBits FTy.f32 c) + Ideal.ofBits FTy.f32 897988541#32) * g i

/-- Attention weights to base two, normalised after the sum. -/
def kern {n : ℕ} (s v : Fin n → EReal) : EReal :=
  Ideal.div (∑ x, FloatOps.exp2 (F := Ideal) (φ := .f32) (s x - Finset.fold max (Ideal.ofBits FTy.f32 4286578688#32) (fun y => s y) Finset.univ) * v x)
    (∑ x, FloatOps.exp2 (F := Ideal) (φ := .f32) (s x - Finset.fold max (Ideal.ofBits FTy.f32 4286578688#32) (fun y => s y) Finset.univ) * 1)

/-- The softmax's weights, not yet normalised. -/
def wt {n : ℕ} (s : Fin n → EReal) (x : Fin n) : EReal :=
  Ideal.exp (s x - max (Ideal.ofBits FTy.f32 4286578688#32) (Finset.fold max (Ideal.ofBits FTy.f32 4286578688#32) (fun y => s y) Finset.univ))

/-- Softmax attention. -/
def soft {n : ℕ} (s v : Fin n → EReal) : EReal := ∑ x, Ideal.div (wt s x) (∑ y, wt s y) * v x

/-- Attention weights to base two with a sink, normalised after the sum. -/
def kernSink {n : ℕ} (s v : Fin n → EReal) (z : EReal) : EReal :=
  Ideal.div (∑ x, FloatOps.exp2 (F := Ideal) (φ := .f32) (s x - max (Finset.fold max (Ideal.ofBits FTy.f32 4286578688#32) (fun y => s y) Finset.univ) z) * v x)
    (∑ x, FloatOps.exp2 (F := Ideal) (φ := .f32) (s x - max (Finset.fold max (Ideal.ofBits FTy.f32 4286578688#32) (fun y => s y) Finset.univ) z) * 1
      + FloatOps.exp2 (F := Ideal) (φ := .f32) (z - max (Finset.fold max (Ideal.ofBits FTy.f32 4286578688#32) (fun y => s y) Finset.univ) z))

/-- Scores with the sink appended. -/
def app {n : ℕ} (s : Fin n → EReal) (z : EReal) (x : Fin (n + 1)) : EReal := if h : (x : ℕ) < n then s ⟨x, h⟩ else z

theorem app_castSucc {n : ℕ} (s : Fin n → EReal) (z : EReal) (x : Fin n) : app s z x.castSucc = s x := by
  simp [app]

theorem app_last {n : ℕ} (s : Fin n → EReal) (z : EReal) : app s z (Fin.last n) = z := by
  simp [app]

/-- Softmax attention with a sink. -/
def softSink {n : ℕ} (s v : Fin n → EReal) (z : EReal) : EReal :=
  ∑ x : Fin n, Ideal.div (wt (app s z) x.castSucc) (∑ y, wt (app s z) y) * v x

theorem wt_real {n : ℕ} (s : Fin n → ℝ) (M : ℝ)
    (hM : Finset.fold max (⊥ : EReal) (fun k => ((s k : ℝ) : EReal)) Finset.univ = (M : EReal)) (x : Fin n) :
    wt (fun k => ((s k : ℝ) : EReal)) x = ((Real.exp (s x - M) : ℝ) : EReal) := by
  unfold wt
  rw [ofBits_bot, hM, max_eq_right bot_le, ← EReal.coe_sub, exp_real]

theorem exp2_sub (l : ℝ) (hl : l = (Real.log 2)⁻¹) (a M : ℝ) :
    FloatOps.exp2 (F := Ideal) (φ := .f32) (((a * l : ℝ) : EReal) - ((M * l : ℝ) : EReal)) = ((Real.exp (a - M) : ℝ) : EReal) := by
  rw [← EReal.coe_sub, ← sub_mul]
  exact exp2_real l hl _

theorem log2_pos : 0 < (Real.log 2)⁻¹ := inv_pos.mpr (Real.log_pos one_lt_two)

/-- The two attentions agree on real scores. -/
theorem kern_eq_soft {n : ℕ} (hn : 0 < n) (s : Fin n → ℝ) (l : ℝ) (hl : l = (Real.log 2)⁻¹) (v : Fin n → EReal) :
    kern (fun k => ((s k * l : ℝ) : EReal)) v = soft (fun k => ((s k : ℝ) : EReal)) v := by
  obtain ⟨M, hM⟩ := top_real hn s
  have h1 := hM 1 one_pos
  simp only [mul_one] at h1
  have hl0 : 0 < l := hl ▸ log2_pos
  have hD : 0 < ∑ x, Real.exp (s x - M) := Finset.sum_pos (fun x _ => Real.exp_pos _) ⟨⟨0, hn⟩, Finset.mem_univ _⟩
  unfold kern soft
  simp only [ofBits_bot, hM l hl0, exp2_sub l hl, wt_real s M h1, coe_sum, mul_one]
  exact norm_after _ _ hD v

/-- The two attentions with a sink agree on real scores. -/
theorem kernSink_eq_softSink {n : ℕ} (hn : 0 < n) (s : Fin n → ℝ) (z l : ℝ) (hl : l = (Real.log 2)⁻¹) (v : Fin n → EReal) :
    kernSink (fun k => ((s k * l : ℝ) : EReal)) v ((z * l : ℝ) : EReal) = softSink (fun k => ((s k : ℝ) : EReal)) v (z : EReal) := by
  obtain ⟨M, hM⟩ := top_real hn s
  have hl0 : 0 < l := hl ▸ log2_pos
  let S : Fin (n + 1) → ℝ := fun x => if h : (x : ℕ) < n then s ⟨x, h⟩ else z
  have hS : app (fun k => ((s k : ℝ) : EReal)) (z : EReal) = fun x => ((S x : ℝ) : EReal) := by
    funext x
    by_cases h : (x : ℕ) < n <;> simp [app, S, h]
  have hk : max ((M * l : ℝ) : EReal) ((z * l : ℝ) : EReal) = ((max M z * l : ℝ) : EReal) := by
    rw [max_mul_of_nonneg _ _ hl0.le, coe_max]
  have h1 := hM 1 one_pos
  simp only [mul_one] at h1
  have hr : Finset.fold max (⊥ : EReal) (fun k => ((S k : ℝ) : EReal)) Finset.univ = ((max M z : ℝ) : EReal) := by
    rw [coe_max, ← h1]
    change Finset.univ.sup (fun k => ((S k : ℝ) : EReal)) = Finset.univ.sup (fun k => ((s k : ℝ) : EReal)) ⊔ _
    refine le_antisymm (Finset.sup_le fun j _ => ?_) (sup_le (Finset.sup_le fun j _ => ?_) ?_)
    · by_cases h : (j : ℕ) < n
      · refine le_sup_of_le_left ?_
        simp only [S, h, dif_pos]
        exact Finset.le_sup (f := fun k => ((s k : ℝ) : EReal)) (Finset.mem_univ (⟨j, h⟩ : Fin n))
      · refine le_sup_of_le_right ?_
        simp only [S, h, dif_neg, not_false_eq_true, le_refl]
    · refine le_trans (le_of_eq ?_) (Finset.le_sup (f := fun k => ((S k : ℝ) : EReal)) (Finset.mem_univ j.castSucc))
      simp [S]
    · refine le_trans (le_of_eq ?_) (Finset.le_sup (f := fun k => ((S k : ℝ) : EReal)) (Finset.mem_univ (Fin.last n)))
      simp [S]
  have hD : 0 < ∑ x, Real.exp (s x - max M z) + Real.exp (z - max M z) :=
    add_pos_of_nonneg_of_pos (Finset.sum_nonneg fun x _ => (Real.exp_pos _).le) (Real.exp_pos _)
  unfold kernSink softSink
  rw [hS]
  simp only [ofBits_bot, hM l hl0, hk, exp2_sub l hl, wt_real S _ hr, coe_sum, mul_one]
  rw [← EReal.coe_add, norm_after _ _ hD v, Fin.sum_univ_castSucc]
  simp [S]

end Cert.Soft
-- ==== Proof.Ctx.Tile.lean ====
module

public import proofs.«01_k».proof.Proof.Ctx.Frame
public import proofs.«01_k».proof.Proof.Ctx.Soft
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Idealize.ShloMosaic Idealize.ShloMosaic.TcCoe Idealize.SL.Sem
open Idealize.ShloMosaic.Pipeline (Dat Window)

/-! ### The kernel's attention on one frame's tile -/

/-- Scores: scaled queries against keys. -/
def scoreT (q k : FVec Ideal S256x128 .bf16) : FVec Ideal S256x256 .f32 :=
  matmul dot_S256x128_S256x128_S256x256_1_1_0_0_n_n none q k (constant S256x256 .f32 0x00000000#32)

/-- Values beside a block of ones. -/
def onesT (v : FVec Ideal S256x128 .f32) : FVec Ideal S256x256 .bf16 :=
  concatenate S256x256 1 [⟨S256x128, truncf .bf16 v bitsLt_bf16_f32⟩, ⟨S256x128, broadcast S256x128 (Scalar.ofBits .bf16 0x3F80#16)⟩]
    concatenates_S256x128_S256x128_S256x256_d1

/-- The greatest score of each row. -/
def topT (s : FVec Ideal S256x256 .f32) : FVec Ideal S256x1 .f32 :=
  shapeCast S256x1 (multiReduction .maximumf [1] S256 s 0xFF800000#32 reduces_S256x256_S256 (.inl rfl) rfl) shapeCasts_S256_S256x1

/-- The weights, not yet normalised, against the values and the ones. -/
def mixT (s : FVec Ideal S256x256 .f32) (m : FVec Ideal S256x1 .f32) (v1 : FVec Ideal S256x256 .bf16) : FVec Ideal S256x256 .f32 :=
  matmul dot_S256x256_S256x256_S256x256_1_0_0_1_n_n none
    (truncf .bf16 (exp2 (subf s (broadcastTo S256x256 m broadcasts_S256x1_S256x256))) bitsLt_bf16_f32) v1
    (constant S256x256 .f32 0x00000000#32)

/-- Attention without a sink. -/
def attnT (s : FVec Ideal S256x256 .f32) (v : FVec Ideal S256x128 .f32) : FVec Ideal S256x128 .f32 :=
  divf (extractStridedSlice S256x128 ![0, 0] (mixT s (topT s) (onesT v)) slices_S256x256_o0_0_S256x128)
    (extractStridedSlice S256x128 ![0, 128] (mixT s (topT s) (onesT v)) slices_S256x256_o0_128_S256x128)

/-- Attention with a sink. -/
def sinkT (s : FVec Ideal S256x256 .f32) (v : FVec Ideal S256x128 .f32) (z : Ideal .f32) : FVec Ideal S256x128 .f32 :=
  divf (extractStridedSlice S256x128 ![0, 0] (mixT s (maximumf (topT s) (broadcast S256x1 z)) (onesT v)) slices_S256x256_o0_0_S256x128)
    (addf (extractStridedSlice S256x128 ![0, 128] (mixT s (maximumf (topT s) (broadcast S256x1 z)) (onesT v)) slices_S256x256_o0_128_S256x128)
      (broadcastTo S256x128 (exp2 (subf (broadcast S256x1 z) (maximumf (topT s) (broadcast S256x1 z)))) broadcasts_S256x1_S256x128))

open Cert.Soft (rms kern kernSink)

theorem scoreT_at (q k : FVec Ideal S256x128 .bf16) (a b : Fin 256) :
    scoreT q k (ix2 a b) = ∑ x, q (ix2 a x) * k (ix2 b x) := by
  pointwise [scoreT]

theorem onesT_lo (v : FVec Ideal S256x128 .f32) (x : Fin 256) (d : Fin 128) : onesT v (ix2 x ⟨d, by omega⟩) = v (ix2 x d) := by
  pointwise [onesT]
  all_goals simp

theorem onesT_hi (v : FVec Ideal S256x128 .f32) (x : Fin 256) (d : Fin 128) : onesT v (ix2 x ⟨128 + d, by omega⟩) = 1 := by
  pointwise [onesT]
  all_goals simp

theorem topT_at (s : FVec Ideal S256x256 .f32) (a : Fin 256) :
    topT s (ix2 a 0) = Finset.fold max (Ideal.ofBits FTy.f32 4286578688#32) (fun y => s (ix2 a y)) Finset.univ := by
  pointwise [topT]

theorem mixT_at (s : FVec Ideal S256x256 .f32) (m : FVec Ideal S256x1 .f32) (v1 : FVec Ideal S256x256 .bf16) (a d : Fin 256) :
    mixT s m v1 (ix2 a d) = ∑ x, FloatOps.exp2 (F := Ideal) (φ := .f32) (s (ix2 a x) - m (ix2 a 0)) * v1 (ix2 x d) := by
  pointwise [mixT]

theorem attnT_at (s : FVec Ideal S256x256 .f32) (v : FVec Ideal S256x128 .f32) (a : Fin 256) (d : Fin 128) :
    attnT s v (ix2 a d) = kern (fun x => s (ix2 a x)) (fun x => v (ix2 x d)) := by
  have e : attnT s v (ix2 a d) = Ideal.div (mixT s (topT s) (onesT v) (ix2 a ⟨d, by omega⟩)) (mixT s (topT s) (onesT v) (ix2 a ⟨128 + d, by omega⟩)) := by
    pointwise [attnT]
  rw [e]
  simp only [mixT_at, topT_at, onesT_lo, onesT_hi]
  rfl

theorem sinkT_at (s : FVec Ideal S256x256 .f32) (v : FVec Ideal S256x128 .f32) (z : Ideal .f32) (a : Fin 256) (d : Fin 128) :
    sinkT s v z (ix2 a d) = kernSink (fun x => s (ix2 a x)) (fun x => v (ix2 x d)) z := by
  have e : sinkT s v z (ix2 a d) = Ideal.div (mixT s (maximumf (topT s) (broadcast S256x1 z)) (onesT v) (ix2 a ⟨d, by omega⟩))
      (mixT s (maximumf (topT s) (broadcast S256x1 z)) (onesT v) (ix2 a ⟨128 + d, by omega⟩)
        + FloatOps.exp2 (F := Ideal) (φ := .f32) (z - max (topT s (ix2 a 0)) z)) := by
    pointwise [sinkT]
  have e2 : maximumf (topT s) (broadcast S256x1 z) (ix2 a 0) = max (topT s (ix2 a 0)) z := rfl
  rw [e]
  simp only [mixT_at, e2, topT_at, onesT_lo, onesT_hi]
  rfl

/-- A tile's rows divided by their root mean square. -/
def rmsT (v : FVec Ideal S256x128 .f32) (g : FVec Ideal S1x128 .f32) : FVec Ideal S256x128 .f32 := k0_pay42 v g

theorem rmsT_at (v : FVec Ideal S256x128 .f32) (g : FVec Ideal S1x128 .f32) (a : Fin 256) (d : Fin 128) :
    rmsT v g (ix2 a d) = rms 1124073472#32 (fun x => v (ix2 a x)) (fun x => g (ix2 0 x)) d := by
  pointwise [rmsT, k0_pay42]
  all_goals rfl

/-- The latent's tile after its norm. -/
def latT (v : FVec Ideal S256x256 .f32) (g : FVec Ideal S1x256 .f32) : FVec Ideal S256x256 .f32 := k0_pay25 v g

theorem latT_at (v : FVec Ideal S256x256 .f32) (g : FVec Ideal S1x256 .f32) (a : Fin 256) (d : Fin 256) :
    latT v g (ix2 a d) = rms 1132462080#32 (fun x => v (ix2 a x)) (fun x => g (ix2 0 x)) d := by
  pointwise [latT, k0_pay25]
  all_goals rfl

/-- The scale of the scores over 128 entries, to base two. -/
def c128 : Ideal .f32 := Named.named κ "s128_log2e" 0x3E0293EE#32
/-- The scale of the scores over 192 entries, to base two. -/
def c192 : Ideal .f32 := Named.named κ "s192_log2e" 0x3DD53B95#32
/-- The scale of the scores over 64 entries, to base two. -/
def c64 : Ideal .f32 := Named.named κ "s64_log2e" 0x3E38AA3B#32
/-- The base two logarithm of `e`. -/
def c1 : Ideal .f32 := Named.named κ "log2e" 0x3FB8AA3B#32

/-- One head of the grouped attention. -/
def headA (k q v : FVec Ideal S256x128 .f32) (z : Ideal .f32) : FVec Ideal S256x128 .bf16 :=
  k0_pay11 (F := Ideal) (k0_pay6 v) (k0_pay7 z) (k0_pay9 k q z) (k0_pay10 k q z)

theorem headA_at (k q v : FVec Ideal S256x128 .f32) (z : Ideal .f32) (a : Fin 256) (d : Fin 128) :
    headA k q v z (ix2 a d) = kernSink (fun s => ∑ x : Fin 128, (q (ix2 a x) * c128) * k (ix2 s x)) (fun s => v (ix2 s d)) (z * c1) := by
  have e : headA k q v z = truncf .bf16 (sinkT (scoreT (truncf .bf16 (mulf q (broadcast S256x128 c128)) bitsLt_bf16_f32) (truncf .bf16 k bitsLt_bf16_f32)) v
    (Scalar.mulf z c1)) bitsLt_bf16_f32 := rfl
  have e3 : ∀ (u : FVec Ideal S256x128 .f32) (i : S256x128.Idx), truncf .bf16 u bitsLt_bf16_f32 i = u i := fun _ _ => rfl
  rw [e, e3, sinkT_at]
  simp only [scoreT_at]
  rfl

/-- One head of the latent attention. -/
def headB (cl : FVec Ideal S256x256 .f32) (kr : FVec Ideal S256x64 .f32) (wk wv : FVec Ideal S256x128 .bf16) (qn : FVec Ideal S256x128 .f32)
    (qr : FVec Ideal S256x64 .f32) : FVec Ideal S256x128 .bf16 :=
  k0_pay30 (F := Ideal) (k0_pay28 cl wv) (k0_pay29 cl kr wk qn qr) (constant S256x256 .f32 0x00000000#32)

/-- The latent expanded by a head's weights. -/
def expandT (cl : FVec Ideal S256x256 .f32) (w : FVec Ideal S256x128 .bf16) : FVec Ideal S256x128 .f32 :=
  matmul dot_S256x256_S256x128_S256x128_1_0_0_1_n_n none (truncf .bf16 cl bitsLt_bf16_f32) (shapeCast S256x128 w shapeCasts_S256x128_S256x128)
    (constant S256x128 .f32 0x00000000#32)

theorem expandT_at (cl : FVec Ideal S256x256 .f32) (w : FVec Ideal S256x128 .bf16) (a : Fin 256) (d : Fin 128) :
    expandT cl w (ix2 a d) = ∑ x, cl (ix2 a x) * w (ix2 x d) := by
  pointwise [expandT]

/-- Scores of the second, shared part. -/
def sharedT (q k : FVec Ideal S256x64 .bf16) : FVec Ideal S256x256 .f32 :=
  matmul dot_S256x64_S256x64_S256x256_1_1_0_0_n_n none q k (constant S256x256 .f32 0x00000000#32)

theorem sharedT_at (q k : FVec Ideal S256x64 .bf16) (a b : Fin 256) :
    sharedT q k (ix2 a b) = ∑ x, q (ix2 a x) * k (ix2 b x) := by
  pointwise [sharedT]

theorem headB_at (cl : FVec Ideal S256x256 .f32) (kr : FVec Ideal S256x64 .f32) (wk wv : FVec Ideal S256x128 .bf16) (qn : FVec Ideal S256x128 .f32)
    (qr : FVec Ideal S256x64 .f32) (a : Fin 256) (d : Fin 128) :
    headB cl kr wk wv qn qr (ix2 a d)
      = kern (fun s => ∑ x, (qn (ix2 a x) * c192) * (∑ y, cl (ix2 s y) * wk (ix2 y x)) + ∑ x, (qr (ix2 a x) * c192) * kr (ix2 s x))
        (fun s => ∑ y, cl (ix2 s y) * wv (ix2 y d)) := by
  have e : headB cl kr wk wv qn qr = truncf .bf16 (attnT (addf
      (scoreT (truncf .bf16 (mulf qn (broadcast S256x128 c192)) bitsLt_bf16_f32) (truncf .bf16 (expandT cl wk) bitsLt_bf16_f32))
      (sharedT (truncf .bf16 (mulf qr (broadcast S256x64 c192)) bitsLt_bf16_f32) (truncf .bf16 kr bitsLt_bf16_f32))) (expandT cl wv)) bitsLt_bf16_f32 := rfl
  have e3 : ∀ (u : FVec Ideal S256x128 .f32) (i : S256x128.Idx), truncf .bf16 u bitsLt_bf16_f32 i = u i := fun _ _ => rfl
  have e4 : ∀ (u w : FVec Ideal S256x256 .f32) (i : S256x256.Idx), addf u w i = u i + w i := fun _ _ _ => rfl
  rw [e, e3, attnT_at]
  simp only [e4, scoreT_at, sharedT_at, e3, expandT_at]
  rfl

/-- One head of the normed attention, its keys normed already. -/
def headC (k q : FVec Ideal S256x128 .f32) (g : FVec Ideal S1x128 .f32) (v : FVec Ideal S256x128 .f32) : FVec Ideal S256x128 .bf16 :=
  k0_pay49 (F := Ideal) (k0_pay46 v) (k0_pay47 k q g) (k0_pay48 k q g)

theorem headC_at (k q : FVec Ideal S256x128 .f32) (g : FVec Ideal S1x128 .f32) (v : FVec Ideal S256x128 .f32) (a : Fin 256) (d : Fin 128) :
    headC k q g v (ix2 a d)
      = kern (fun s => ∑ x, (rms 1124073472#32 (fun y => q (ix2 a y)) (fun y => g (ix2 0 y)) x * c128) * k (ix2 s x)) (fun s => v (ix2 s d)) := by
  have e : headC k q g v = truncf .bf16 (attnT (scoreT (truncf .bf16 (mulf (rmsT q g) (broadcast S256x128 c128)) bitsLt_bf16_f32)
    (truncf .bf16 k bitsLt_bf16_f32)) v) bitsLt_bf16_f32 := rfl
  have e3 : ∀ (u : FVec Ideal S256x128 .f32) (i : S256x128.Idx), truncf .bf16 u bitsLt_bf16_f32 i = u i := fun _ _ => rfl
  have e5 : ∀ (u : FVec Ideal S256x128 .f32) (i : S256x128.Idx), mulf u (broadcast S256x128 c128) i = u i * c128 := fun _ _ => rfl
  rw [e, e3, attnT_at]
  simp only [scoreT_at, e3, e5, rmsT_at]

/-- The queries of the first half, the other entries set to zero. -/
def loT (q : FVec Ideal S256x128 .f32) : FVec Ideal S256x128 .f32 :=
  select (cmpi .slt (iota .tc S256x128 32 [1] iota_S256x128_d1_w32) (broadcast S256x128 64#32)) (mulf q (broadcast S256x128 c64)) (broadcast S256x128 (Scalar.ofBits .f32 0x00000000#32))

/-- The queries of the second half, the other entries set to zero. -/
def hiT (q : FVec Ideal S256x128 .f32) : FVec Ideal S256x128 .f32 :=
  select (cmpi .sge (iota .tc S256x128 32 [1] iota_S256x128_d1_w32) (broadcast S256x128 64#32)) (mulf q (broadcast S256x128 c64)) (broadcast S256x128 (Scalar.ofBits .f32 0x00000000#32))

theorem lane_lt : ∀ x : Fin 128, IntOp.cmpi CmpIPredicate.slt (BitVec.ofNat 32 x.val) 64#32 = if (x : ℕ) < 64 then 1#1 else 0#1 := by
  decide +kernel

theorem lane_ge : ∀ x : Fin 128, IntOp.cmpi CmpIPredicate.sge (BitVec.ofNat 32 x.val) 64#32 = if (x : ℕ) < 64 then 0#1 else 1#1 := by
  decide +kernel

theorem loT_at (q : FVec Ideal S256x128 .f32) (a : Fin 256) (x : Fin 128) : loT q (ix2 a x) = if (x : ℕ) < 64 then q (ix2 a x) * c64 else 0 := by
  pointwise [loT]
  rw [lane_lt]
  split <;> rfl

theorem hiT_at (q : FVec Ideal S256x128 .f32) (a : Fin 256) (x : Fin 128) : hiT q (ix2 a x) = if (x : ℕ) < 64 then 0 else q (ix2 a x) * c64 := by
  pointwise [hiT]
  rw [lane_ge]
  split <;> rfl

/-- The difference of a head's two attentions. -/
def diffT (lam : FVec Ideal S1x1 .f32) (k v q : FVec Ideal S256x128 .f32) : FVec Ideal S256x128 .f32 :=
  k0_pay65 (F := Ideal) lam (iota .tc S256x128 32 [1] iota_S256x128_d1_w32) k v q

theorem diffT_at (lam : FVec Ideal S1x1 .f32) (k v q : FVec Ideal S256x128 .f32) (a : Fin 256) (d : Fin 128) :
    diffT lam k v q (ix2 a d)
      = kern (fun s => ∑ x : Fin 128, (if (x : ℕ) < 64 then q (ix2 a x) * c64 else 0) * k (ix2 s x)) (fun s => v (ix2 s d))
        - lam (ix2 0 0) * kern (fun s => ∑ x : Fin 128, (if (x : ℕ) < 64 then 0 else q (ix2 a x) * c64) * k (ix2 s x)) (fun s => v (ix2 s d)) := by
  have e : diffT lam k v q = subf (attnT (scoreT (truncf .bf16 (loT q) bitsLt_bf16_f32) (truncf .bf16 k bitsLt_bf16_f32)) v)
      (mulf (broadcastTo S256x128 lam broadcasts_S1x1_S256x128)
        (attnT (scoreT (truncf .bf16 (hiT q) bitsLt_bf16_f32) (truncf .bf16 k bitsLt_bf16_f32)) v)) := rfl
  have e3 : ∀ (u : FVec Ideal S256x128 .f32) (i : S256x128.Idx), truncf .bf16 u bitsLt_bf16_f32 i = u i := fun _ _ => rfl
  have e4 : ∀ (u w : FVec Ideal S256x128 .f32), subf u (mulf (broadcastTo S256x128 lam broadcasts_S1x1_S256x128) w) (ix2 a d)
      = u (ix2 a d) - lam (ix2 0 0) * w (ix2 a d) := by
    intro u w
    pointwise
  rw [e, e4, attnT_at, attnT_at]
  simp only [scoreT_at, e3, loT_at, hiT_at]

/-- One head of the differential attention. -/
def headD (lam : FVec Ideal S1x1 .f32) (k v q : FVec Ideal S256x128 .f32) (g : FVec Ideal S1x128 .f32) : FVec Ideal S256x128 .bf16 :=
  k0_pay66 (F := Ideal) (diffT lam k v q) g

theorem headD_at (lam : FVec Ideal S1x1 .f32) (k v q : FVec Ideal S256x128 .f32) (g : FVec Ideal S1x128 .f32) (a : Fin 256) (d : Fin 128) :
    headD lam k v q g (ix2 a d)
      = rms 1124073472#32 (fun x => diffT lam k v q (ix2 a x)) (fun x => g (ix2 0 x)) d * Ideal.ofBits FTy.f32 1059388764#32 := by
  have e : headD lam k v q g = truncf .bf16 (mulf (rmsT (diffT lam k v q) g) (broadcast S256x128 (Scalar.ofBits .f32 0x3F24FD5C#32))) bitsLt_bf16_f32 := rfl
  have e3 : ∀ (u : FVec Ideal S256x128 .f32) (i : S256x128.Idx), truncf .bf16 (mulf u (broadcast S256x128 (Scalar.ofBits .f32 0x3F24FD5C#32))) bitsLt_bf16_f32 i
    = u i * Ideal.ofBits FTy.f32 1059388764#32 := fun _ _ => rfl
  rw [e, e3, rmsT_at]

/-- Lambda. -/
def lamT (l : FVec Ideal S4x64 .f32) : FVec Ideal S1x1 .f32 := k0_pay62 (F := Ideal) l

theorem lamT_at (l : FVec Ideal S4x64 .f32) :
    lamT l (ix2 0 0) = Ideal.exp (∑ x, l (ix2 0 x) * l (ix2 1 x)) - Ideal.exp (∑ x, l (ix2 2 x) * l (ix2 3 x)) + Ideal.ofBits FTy.f32 1052116297#32 := by
  pointwise [lamT, k0_pay62]
  all_goals rfl

/-- The input projection of one sequence. -/
def zT (x : FVec Ideal S256x2048 .f32) (g : FVec Ideal S1x2048 .f32) (sc sh : FVec Ideal S1x1x1x2048 .f32) (w : FVec Ideal S1x2048x4864 .bf16) :
    FVec Ideal S256x4864 .f32 := k0_pay1 (F := Ideal) x g sc sh w

theorem zT_at (x : FVec Ideal S256x2048 .f32) (g : FVec Ideal S1x2048 .f32) (sc sh : FVec Ideal S1x1x1x2048 .f32) (w : FVec Ideal S1x2048x4864 .bf16)
    (a : Fin 256) (e : Fin 4864) :
    zT x g sc sh w (ix2 a e) = ∑ y, (rms 1157627904#32 (fun y => x (ix2 a y)) (fun y => g (ix2 0 y)) y * (1 + sc (ix4 0 0 0 y)) + sh (ix4 0 0 0 y)) * w (ix3 0 y e) := by
  pointwise [zT, k0_pay1]
  all_goals rfl

/-- A part of the newest write read back. -/
theorem read_new {σ : RefSig} {κ : Kind} {sp : Space} {s : Shape} {e : EltTy} (v : View σ κ sp s e) (r : Rect s) (z : r.shape.Idx → Elt Ideal e)
    (L : List (View.Piece (Elt Ideal) s e)) (B : Rect r.shape) (h : ∀ a, r.stride a = 1) (j : B.shape.Idx) :
    v.readCov (⟨r, z⟩ :: L) (r.withinL B.toLoadRect h) j = z (B.emb j) := by
  rw [View.readCov_eq_canon']
  exact (congrArg (View.canon _) (Rect.idx_withinL r B.toLoadRect h j)).trans (View.canon_cons_emb r z L _)

/-- A part of an older write read back, the newest lying elsewhere. -/
theorem read_old {σ : RefSig} {κ : Kind} {sp : Space} {s : Shape} {e : EltTy} (v : View σ κ sp s e) (r r' : Rect s) (z : r.shape.Idx → Elt Ideal e)
    (z' : r'.shape.Idx → Elt Ideal e) (L : List (View.Piece (Elt Ideal) s e)) (B : Rect r.shape) (h : ∀ a, r.stride a = 1) (hd : Disjoint r'.set r.set)
    (j : B.shape.Idx) :
    v.readCov (⟨r', z'⟩ :: ⟨r, z⟩ :: L) (r.withinL B.toLoadRect h) j = z (B.emb j) := by
  rw [View.readCov_eq_canon']
  refine (congrArg (View.canon _) (Rect.idx_withinL r B.toLoadRect h j)).trans ?_
  refine (View.canon_cons_of_not_mem _ _ ?_).trans (View.canon_cons_emb r z L _)
  exact fun hm => Finset.disjoint_left.mp hd hm (r.mem_set.mpr fun a => ⟨_, (B.idx j a).isLt, rfl⟩)

/-- The columns read, in the tile. -/
theorem emb_col {o w : ℕ} (iB) (a : Fin 256) (d : Fin w) (ho : o + w ≤ 4864) :
    (Rect.unit (s := S256x4864) ![0, o] ![256, w] iB).emb (ix2 a d) = ix2 a ⟨o + d, by omega⟩ := by
  funext i
  refine Fin.ext ((Rect.idx_unit_val _ _ iB (ix2 a d) i).trans ?_)
  fin_cases i <;> simp

/-- Columns of the second sequence's projection. -/
theorem read1 {σ : RefSig} {κ : Kind} {sp : Space} (v : View σ κ sp S512x4864 .f32) {o w : ℕ} (i2) (z2 : FVec Ideal S256x4864 .f32)
    (L : List (View.Piece (Elt Ideal) S512x4864 .f32)) (iB) (h) (a : Fin 256) (d : Fin w) (ho : o + w ≤ 4864) :
    v.readCov (⟨Rect.unit (s := S512x4864) ![256, 0] ![256, 4864] i2, z2⟩ :: L)
      ((Rect.unit (s := S512x4864) ![256, 0] ![256, 4864] i2).withinL (Rect.unit (s := S256x4864) ![0, o] ![256, w] iB).toLoadRect h) (ix2 a d)
      = z2 (ix2 a ⟨o + d, by omega⟩) :=
  (read_new v (Rect.unit (s := S512x4864) ![256, 0] ![256, 4864] i2) z2 L (Rect.unit (s := S256x4864) ![0, o] ![256, w] iB) h (ix2 a d)).trans
    (congrArg z2 (emb_col iB a d ho))

/-- Columns of the first sequence's projection. -/
theorem read0 {σ : RefSig} {κ : Kind} {sp : Space} (v : View σ κ sp S512x4864 .f32) {o w : ℕ} (i1 i2) (z1 z2 : FVec Ideal S256x4864 .f32)
    (L : List (View.Piece (Elt Ideal) S512x4864 .f32)) (iB) (h) (a : Fin 256) (d : Fin w) (ho : o + w ≤ 4864) :
    v.readCov (⟨Rect.unit (s := S512x4864) ![256, 0] ![256, 4864] i2, z2⟩ :: ⟨Rect.unit (s := S512x4864) ![0, 0] ![256, 4864] i1, z1⟩ :: L)
      ((Rect.unit (s := S512x4864) ![0, 0] ![256, 4864] i1).withinL (Rect.unit (s := S256x4864) ![0, o] ![256, w] iB).toLoadRect h) (ix2 a d)
      = z1 (ix2 a ⟨o + d, by omega⟩) :=
  (read_old v (Rect.unit (s := S512x4864) ![0, 0] ![256, 4864] i1) (Rect.unit (s := S512x4864) ![256, 0] ![256, 4864] i2) z1 z2 L
    (Rect.unit (s := S256x4864) ![0, o] ![256, w] iB) h (Rect.unit_disjoint 0 (Or.inr (by decide))) (ix2 a d)).trans
    (congrArg z1 (emb_col iB a d ho))

end Cert.Ctx
-- ==== Proof.Ctx.RefDefs.lean ====
module

public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.CtxRef

open Cert.ReferenceIdeal Cert.ReferenceIdeal.Gen
open Idealize.ShloMosaic Idealize.ShloMosaic.TcCoe Idealize.SL.Sem

/-! # The reference of the attention call, in stages -/

/-- The tokens by sequence. -/
def Tx3 (a0 : FVec Ideal S8192x2048 .f32) : FVec Ideal S32x256x2048 .f32 :=
  shapeCast _ a0 shapeCasts_S8192x2048_S32x256x2048

/-- The input projection. -/
def Tz (a3 : FVec Ideal S2x2048x4672 .f32) (hT : FVec Ideal S32x256x2048 .f32) : FVec Ideal S32x256x4672 .f32 :=
  Host.dotGeneral dot_S32x256x2048_S2048x4672_S32x256x4672_2_0_01_1_n_n none hT (shapeCast _ (extractStridedSlice S1x2048x4672 ![1, 0, 0] a3 slices_S2x2048x4672_S1x2048x4672_1_0_0) shapeCasts_S1x2048x4672_S2048x4672)

/-- The latent part of the projection, before its norm. -/
def Tbckv (z : FVec Ideal S32x256x4672 .f32) : FVec Ideal S32x256x256 .f32 :=
  extractStridedSlice S32x256x256 ![0, 0, 1792] z slices_S32x256x4672_S32x256x256_0_0_1792

/-- The shared rotary-part keys. -/
def Tbkr (z : FVec Ideal S32x256x4672 .f32) : FVec Ideal S32x256x64 .f32 :=
  extractStridedSlice S32x256x64 ![0, 0, 2048] z slices_S32x256x4672_S32x256x64_0_0_2048

/-- The keys of the grouped attention. -/
def TkA (z : FVec Ideal S32x256x4672 .f32) : FVec Ideal S32x2x256x128 .f32 :=
  transpose S32x2x256x128 [0, 2, 1, 3] (shapeCast _ (extractStridedSlice S32x256x256 ![0, 0, 512] z slices_S32x256x4672_S32x256x256_0_0_512) shapeCasts_S32x256x256_S32x256x2x128) transposes_S32x256x2x128_S32x2x256x128_0_2_1_3

/-- The values of the grouped attention. -/
def TvA (z : FVec Ideal S32x256x4672 .f32) : FVec Ideal S32x2x256x128 .f32 :=
  transpose S32x2x256x128 [0, 2, 1, 3] (shapeCast _ (extractStridedSlice S32x256x256 ![0, 0, 768] z slices_S32x256x4672_S32x256x256_0_0_768) shapeCasts_S32x256x256_S32x256x2x128) transposes_S32x256x2x128_S32x2x256x128_0_2_1_3

/-- The scores with the sink beside them. -/
def TsA1 (a4 : FVec Ideal S2x4 .f32) (sA : FVec Ideal S32x2x2x256x256 .f32) : FVec Ideal S32x2x2x256x257 .f32 :=
  concatenate S32x2x2x256x257 4 [⟨S32x2x2x256x256, (sA : (⟨S32x2x2x256x256, .f32⟩ : BufTy).Contents (Elt Ideal))⟩, ⟨S32x2x2x256x1, ((broadcastInDim S32x2x2x256x1 ![0, 1, 2, 3, 4] bcast_S1x2x2x1x1_S32x2x2x256x1_0_1_2_3_4 (shapeCast _ (shapeCast _ (extractStridedSlice S1x4 ![1, 0] a4 slices_S2x4_S1x4_1_0) shapeCasts_S1x4_S4) shapeCasts_S4_S1x2x2x1x1)) : (⟨S32x2x2x256x1, .f32⟩ : BufTy).Contents (Elt Ideal))⟩] (by exact concatenates_S32x2x2x256x256_S32x2x2x256x1_S32x2x2x256x257_d4)

/-- The weights, not yet normalised. -/
def TeA (sA1 : FVec Ideal S32x2x2x256x257 .f32) (meA : FVec Ideal S32x2x2x256 .f32) : FVec Ideal S32x2x2x256x257 .f32 :=
  Host.exp (subf sA1 (broadcastInDim S32x2x2x256x257 ![0, 1, 2, 3, 4] bcast_S32x2x2x256x1_S32x2x2x256x257_0_1_2_3_4 (broadcastInDim S32x2x2x256x1 ![0, 1, 2, 3] bcast_S32x2x2x256_S32x2x2x256x1_0_1_2_3 (maximumf (broadcastInDim S32x2x2x256 ![] bcast_S_S32x2x2x256 (constant S_ .f32 0xFF800000#32)) meA))))

/-- The latent after its norm. -/
def Tlat (a5 : FVec Ideal S2x256 .f32) (bckv : FVec Ideal S32x256x256 .f32) : FVec Ideal S32x256x256 .f32 :=
  mulf (mulf bckv (broadcastInDim S32x256x256 ![0, 1, 2] bcast_S32x256x1_S32x256x256_0_1_2 (Host.rsqrt (addf (Host.divf (broadcastInDim S32x256x1 ![0, 1] bcast_S32x256_S32x256x1_0_1 (Host.reduceAdd (mulf bckv bckv) (constant S_ .f32 0x00000000#32) reducesTo_S32x256x256_S32x256_d2 h_S_)) (broadcastInDim S32x256x1 ![] bcast_S_S32x256x1 (constant S_ .f32 0x43800000#32))) (broadcastInDim S32x256x1 ![] bcast_S_S32x256x1 (constant S_ .f32 0x358637BD#32)))))) (broadcastInDim S32x256x256 ![0, 1, 2] bcast_S1x1x256_S32x256x256_0_1_2 (broadcastInDim S1x1x256 ![2] bcast_S256_S1x1x256_2 (shapeCast _ (extractStridedSlice S1x256 ![1, 0] a5 slices_S2x256_S1x256_1_0) shapeCasts_S1x256_S256)))

/-- Scores of the latent attention. -/
def TsB (qB : FVec Ideal S32x4x256x192 .f32) (kB : FVec Ideal S32x4x256x192 .f32) : FVec Ideal S32x4x1x256x256 .f32 :=
  mulf (Host.dotGeneral dot_S32x4x1x256x192_S32x4x256x192_S32x4x1x256x256_4_3_23_2_01_01 none (shapeCast _ qB shapeCasts_S32x4x256x192_S32x4x1x256x192) kB) (broadcastInDim S32x4x1x256x256 ![] bcast_S_S32x4x1x256x256 (Host.rsqrt (constant S_ .f32 0x43400000#32)))

/-- The weights, not yet normalised. -/
def TeB (sB : FVec Ideal S32x4x1x256x256 .f32) (meB : FVec Ideal S32x4x1x256 .f32) : FVec Ideal S32x4x1x256x256 .f32 :=
  Host.exp (subf sB (broadcastInDim S32x4x1x256x256 ![0, 1, 2, 3, 4] bcast_S32x4x1x256x1_S32x4x1x256x256_0_1_2_3_4 (broadcastInDim S32x4x1x256x1 ![0, 1, 2, 3] bcast_S32x4x1x256_S32x4x1x256x1_0_1_2_3 (maximumf (broadcastInDim S32x4x1x256 ![] bcast_S_S32x4x1x256 (constant S_ .f32 0xFF800000#32)) meB))))

/-- The queries before their norm. -/
def Tcq (z : FVec Ideal S32x256x4672 .f32) : FVec Ideal S32x4x256x128 .f32 :=
  transpose S32x4x256x128 [0, 2, 1, 3] (shapeCast _ (extractStridedSlice S32x256x512 ![0, 0, 2112] z slices_S32x256x4672_S32x256x512_0_0_2112) shapeCasts_S32x256x512_S32x256x4x128) transposes_S32x256x4x128_S32x4x256x128_0_2_1_3

/-- The keys before their norm. -/
def Tck (z : FVec Ideal S32x256x4672 .f32) : FVec Ideal S32x2x256x128 .f32 :=
  transpose S32x2x256x128 [0, 2, 1, 3] (shapeCast _ (extractStridedSlice S32x256x256 ![0, 0, 2624] z slices_S32x256x4672_S32x256x256_0_0_2624) shapeCasts_S32x256x256_S32x256x2x128) transposes_S32x256x2x128_S32x2x256x128_0_2_1_3

/-- The normed keys. -/
def TkC (a9 : FVec Ideal S2x128 .f32) (ck : FVec Ideal S32x2x256x128 .f32) : FVec Ideal S32x2x256x128 .f32 :=
  mulf (mulf ck (broadcastInDim S32x2x256x128 ![0, 1, 2, 3] bcast_S32x2x256x1_S32x2x256x128_0_1_2_3 (Host.rsqrt (addf (Host.divf (broadcastInDim S32x2x256x1 ![0, 1, 2] bcast_S32x2x256_S32x2x256x1_0_1_2 (Host.reduceAdd (mulf ck ck) (constant S_ .f32 0x00000000#32) reducesTo_S32x2x256x128_S32x2x256_d3 h_S_)) (broadcastInDim S32x2x256x1 ![] bcast_S_S32x2x256x1 (constant S_ .f32 0x43000000#32))) (broadcastInDim S32x2x256x1 ![] bcast_S_S32x2x256x1 (constant S_ .f32 0x358637BD#32)))))) (broadcastInDim S32x2x256x128 ![0, 1, 2, 3] bcast_S1x1x1x128_S32x2x256x128_0_1_2_3 (broadcastInDim S1x1x1x128 ![3] bcast_S128_S1x1x1x128_3 (shapeCast _ (extractStridedSlice S1x128 ![1, 0] a9 slices_S2x128_S1x128_1_0) shapeCasts_S1x128_S128)))

/-- Values of the normed attention. -/
def TvC (z : FVec Ideal S32x256x4672 .f32) : FVec Ideal S32x2x256x128 .f32 :=
  transpose S32x2x256x128 [0, 2, 1, 3] (shapeCast _ (extractStridedSlice S32x256x256 ![0, 0, 2880] z slices_S32x256x4672_S32x256x256_0_0_2880) shapeCasts_S32x256x256_S32x256x2x128) transposes_S32x256x2x128_S32x2x256x128_0_2_1_3

/-- Scores of the normed attention. -/
def TsC (kC : FVec Ideal S32x2x256x128 .f32) (qC : FVec Ideal S32x4x256x128 .f32) : FVec Ideal S32x2x2x256x256 .f32 :=
  mulf (Host.dotGeneral dot_S32x2x2x256x128_S32x2x256x128_S32x2x2x256x256_4_3_23_2_01_01 none (shapeCast _ qC shapeCasts_S32x4x256x128_S32x2x2x256x128) kC) (broadcastInDim S32x2x2x256x256 ![] bcast_S_S32x2x2x256x256 (Host.rsqrt (constant S_ .f32 0x43000000#32)))

/-- The weights, not yet normalised. -/
def TeC (sC : FVec Ideal S32x2x2x256x256 .f32) (meC : FVec Ideal S32x2x2x256 .f32) : FVec Ideal S32x2x2x256x256 .f32 :=
  Host.exp (subf sC (broadcastInDim S32x2x2x256x256 ![0, 1, 2, 3, 4] bcast_S32x2x2x256x1_S32x2x2x256x256_0_1_2_3_4 (broadcastInDim S32x2x2x256x1 ![0, 1, 2, 3] bcast_S32x2x2x256_S32x2x2x256x1_0_1_2_3 (maximumf (broadcastInDim S32x2x2x256 ![] bcast_S_S32x2x2x256 (constant S_ .f32 0xFF800000#32)) meC))))

/-- Queries of the differential attention. -/
def TqD (z : FVec Ideal S32x256x4672 .f32) : FVec Ideal S32x4x256x128 .f32 :=
  transpose S32x4x256x128 [0, 2, 1, 3] (shapeCast _ (extractStridedSlice S32x256x512 ![0, 0, 3136] z slices_S32x256x4672_S32x256x512_0_0_3136) shapeCasts_S32x256x512_S32x256x4x128) transposes_S32x256x4x128_S32x4x256x128_0_2_1_3

/-- Keys of the differential attention. -/
def TkD (z : FVec Ideal S32x256x4672 .f32) : FVec Ideal S32x4x256x128 .f32 :=
  transpose S32x4x256x128 [0, 2, 1, 3] (shapeCast _ (extractStridedSlice S32x256x512 ![0, 0, 3648] z slices_S32x256x4672_S32x256x512_0_0_3648) shapeCasts_S32x256x512_S32x256x4x128) transposes_S32x256x4x128_S32x4x256x128_0_2_1_3

/-- Values of the differential attention. -/
def TvD (z : FVec Ideal S32x256x4672 .f32) : FVec Ideal S32x4x256x128 .f32 :=
  transpose S32x4x256x128 [0, 2, 1, 3] (shapeCast _ (extractStridedSlice S32x256x512 ![0, 0, 4160] z slices_S32x256x4672_S32x256x512_0_0_4160) shapeCasts_S32x256x512_S32x256x4x128) transposes_S32x256x4x128_S32x4x256x128_0_2_1_3

/-- The vectors of lambda. -/
def Tlamp (a10 : FVec Ideal S2x4x64 .f32) : FVec Ideal S4x64 .f32 :=
  shapeCast _ (extractStridedSlice S1x4x64 ![1, 0, 0] a10 slices_S2x4x64_S1x4x64_1_0_0) shapeCasts_S1x4x64_S4x64

/-- Scores of the first half. -/
def Ts1 (qD : FVec Ideal S32x4x256x128 .f32) (kD : FVec Ideal S32x4x256x128 .f32) : FVec Ideal S32x4x1x256x256 .f32 :=
  mulf (Host.dotGeneral dot_S32x4x1x256x64_S32x4x256x64_S32x4x1x256x256_4_3_23_2_01_01 none (shapeCast _ (extractStridedSlice S32x4x256x64 ![0, 0, 0, 0] qD slices_S32x4x256x128_S32x4x256x64_0_0_0_0) shapeCasts_S32x4x256x64_S32x4x1x256x64) (extractStridedSlice S32x4x256x64 ![0, 0, 0, 0] kD slices_S32x4x256x128_S32x4x256x64_0_0_0_0)) (broadcastInDim S32x4x1x256x256 ![] bcast_S_S32x4x1x256x256 (constant S_ .f32 0x3E000000#32))

/-- The weights of the first half, not yet normalised. -/
def Te1 (s1 : FVec Ideal S32x4x1x256x256 .f32) (me1 : FVec Ideal S32x4x1x256 .f32) : FVec Ideal S32x4x1x256x256 .f32 :=
  Host.exp (subf s1 (broadcastInDim S32x4x1x256x256 ![0, 1, 2, 3, 4] bcast_S32x4x1x256x1_S32x4x1x256x256_0_1_2_3_4 (broadcastInDim S32x4x1x256x1 ![0, 1, 2, 3] bcast_S32x4x1x256_S32x4x1x256x1_0_1_2_3 (maximumf (broadcastInDim S32x4x1x256 ![] bcast_S_S32x4x1x256 (constant S_ .f32 0xFF800000#32)) me1))))

/-- Scores of the second half. -/
def Ts2 (qD : FVec Ideal S32x4x256x128 .f32) (kD : FVec Ideal S32x4x256x128 .f32) : FVec Ideal S32x4x1x256x256 .f32 :=
  mulf (Host.dotGeneral dot_S32x4x1x256x64_S32x4x256x64_S32x4x1x256x256_4_3_23_2_01_01 none (shapeCast _ (extractStridedSlice S32x4x256x64 ![0, 0, 0, 64] qD slices_S32x4x256x128_S32x4x256x64_0_0_0_64) shapeCasts_S32x4x256x64_S32x4x1x256x64) (extractStridedSlice S32x4x256x64 ![0, 0, 0, 64] kD slices_S32x4x256x128_S32x4x256x64_0_0_0_64)) (broadcastInDim S32x4x1x256x256 ![] bcast_S_S32x4x1x256x256 (constant S_ .f32 0x3E000000#32))

/-- The weights of the second half, not yet normalised. -/
def Te2 (s2 : FVec Ideal S32x4x1x256x256 .f32) (me2 : FVec Ideal S32x4x1x256 .f32) : FVec Ideal S32x4x1x256x256 .f32 :=
  Host.exp (subf s2 (broadcastInDim S32x4x1x256x256 ![0, 1, 2, 3, 4] bcast_S32x4x1x256x1_S32x4x1x256x256_0_1_2_3_4 (broadcastInDim S32x4x1x256x1 ![0, 1, 2, 3] bcast_S32x4x1x256_S32x4x1x256x1_0_1_2_3 (maximumf (broadcastInDim S32x4x1x256 ![] bcast_S_S32x4x1x256 (constant S_ .f32 0xFF800000#32)) me2))))

/-- The difference of the two attentions. -/
def ToDiff (o1 : FVec Ideal S32x4x256x128 .f32) (o2 : FVec Ideal S32x4x256x128 .f32) (lam : FVec Ideal S_ .f32) : FVec Ideal S32x4x256x128 .f32 :=
  subf o1 (mulf (broadcastInDim S32x4x256x128 ![] bcast_S_S32x4x256x128 lam) o2)

/-- The grouped attention's output. -/
def ToA (vA : FVec Ideal S32x2x256x128 .f32) (eA : FVec Ideal S32x2x2x256x257 .f32) : FVec Ideal S8192x512 .bf16 :=
  truncf .bf16 (shapeCast _ (transpose S32x256x4x128 [0, 2, 1, 3] (shapeCast _ (Host.dotGeneral dot_S32x2x2x256x256_S32x2x256x128_S32x2x2x256x128_4_2_23_3_01_01 none (extractStridedSlice S32x2x2x256x256 ![0, 0, 0, 0, 0] (Host.divf eA (broadcastInDim S32x2x2x256x257 ![0, 1, 2, 3, 4] bcast_S32x2x2x256x1_S32x2x2x256x257_0_1_2_3_4 (broadcastInDim S32x2x2x256x1 ![0, 1, 2, 3] bcast_S32x2x2x256_S32x2x2x256x1_0_1_2_3 (Host.reduceAdd eA (constant S_ .f32 0x00000000#32) reducesTo_S32x2x2x256x257_S32x2x2x256_d4 h_S_)))) slices_S32x2x2x256x257_S32x2x2x256x256_0_0_0_0_0) vA) shapeCasts_S32x2x2x256x128_S32x4x256x128) transposes_S32x4x256x128_S32x256x4x128_0_2_1_3) shapeCasts_S32x256x4x128_S8192x512) bitsLt_bf16_f32

/-- The latent attention's output. -/
def ToB (eB : FVec Ideal S32x4x1x256x256 .f32) (vB : FVec Ideal S32x4x256x128 .f32) : FVec Ideal S8192x512 .bf16 :=
  truncf .bf16 (shapeCast _ (transpose S32x256x4x128 [0, 2, 1, 3] (shapeCast _ (Host.dotGeneral dot_S32x4x1x256x256_S32x4x256x128_S32x4x1x256x128_4_2_23_3_01_01 none (Host.divf eB (broadcastInDim S32x4x1x256x256 ![0, 1, 2, 3, 4] bcast_S32x4x1x256x1_S32x4x1x256x256_0_1_2_3_4 (broadcastInDim S32x4x1x256x1 ![0, 1, 2, 3] bcast_S32x4x1x256_S32x4x1x256x1_0_1_2_3 (Host.reduceAdd eB (constant S_ .f32 0x00000000#32) reducesTo_S32x4x1x256x256_S32x4x1x256_d4 h_S_)))) vB) shapeCasts_S32x4x1x256x128_S32x4x256x128) transposes_S32x4x256x128_S32x256x4x128_0_2_1_3) shapeCasts_S32x256x4x128_S8192x512) bitsLt_bf16_f32

/-- The normed attention's output. -/
def ToC (vC : FVec Ideal S32x2x256x128 .f32) (eC : FVec Ideal S32x2x2x256x256 .f32) : FVec Ideal S8192x512 .bf16 :=
  truncf .bf16 (shapeCast _ (transpose S32x256x4x128 [0, 2, 1, 3] (shapeCast _ (Host.dotGeneral dot_S32x2x2x256x256_S32x2x256x128_S32x2x2x256x128_4_2_23_3_01_01 none (Host.divf eC (broadcastInDim S32x2x2x256x256 ![0, 1, 2, 3, 4] bcast_S32x2x2x256x1_S32x2x2x256x256_0_1_2_3_4 (broadcastInDim S32x2x2x256x1 ![0, 1, 2, 3] bcast_S32x2x2x256_S32x2x2x256x1_0_1_2_3 (Host.reduceAdd eC (constant S_ .f32 0x00000000#32) reducesTo_S32x2x2x256x256_S32x2x2x256_d4 h_S_)))) vC) shapeCasts_S32x2x2x256x128_S32x4x256x128) transposes_S32x4x256x128_S32x256x4x128_0_2_1_3) shapeCasts_S32x256x4x128_S8192x512) bitsLt_bf16_f32

/-- The differential attention's output. -/
def ToD (a11 : FVec Ideal S2x128 .f32) (oDiff : FVec Ideal S32x4x256x128 .f32) : FVec Ideal S8192x512 .bf16 :=
  truncf .bf16 (shapeCast _ (transpose S32x256x4x128 [0, 2, 1, 3] (mulf (mulf (mulf oDiff (broadcastInDim S32x4x256x128 ![0, 1, 2, 3] bcast_S32x4x256x1_S32x4x256x128_0_1_2_3 (Host.rsqrt (addf (Host.divf (broadcastInDim S32x4x256x1 ![0, 1, 2] bcast_S32x4x256_S32x4x256x1_0_1_2 (Host.reduceAdd (mulf oDiff oDiff) (constant S_ .f32 0x00000000#32) reducesTo_S32x4x256x128_S32x4x256_d3 h_S_)) (broadcastInDim S32x4x256x1 ![] bcast_S_S32x4x256x1 (constant S_ .f32 0x43000000#32))) (broadcastInDim S32x4x256x1 ![] bcast_S_S32x4x256x1 (constant S_ .f32 0x358637BD#32)))))) (broadcastInDim S32x4x256x128 ![0, 1, 2, 3] bcast_S1x1x1x128_S32x4x256x128_0_1_2_3 (broadcastInDim S1x1x1x128 ![3] bcast_S128_S1x1x1x128_3 (shapeCast _ (extractStridedSlice S1x128 ![1, 0] a11 slices_S2x128_S1x128_1_0) shapeCasts_S1x128_S128)))) (broadcastInDim S32x4x256x128 ![] bcast_S_S32x4x256x128 (constant S_ .f32 0x3F24FD5C#32))) transposes_S32x4x256x128_S32x256x4x128_0_2_1_3) shapeCasts_S32x256x4x128_S8192x512) bitsLt_bf16_f32

/-- The stacked keys. -/
def TstKa (a12 : FVec Ideal S32x2x2x256x128 .f32) (kA : FVec Ideal S32x2x256x128 .f32) : FVec Ideal S32x2x2x256x128 .f32 :=
  concatenate S32x2x2x256x128 1 [⟨S32x1x2x256x128, ((broadcastInDim S32x1x2x256x128 ![0, 2, 3, 4] bcast_S32x2x256x128_S32x1x2x256x128_0_2_3_4 (shapeCast _ (extractStridedSlice S32x1x2x256x128 ![0, 0, 0, 0, 0] a12 slices_S32x2x2x256x128_S32x1x2x256x128_0_0_0_0_0) shapeCasts_S32x1x2x256x128_S32x2x256x128)) : (⟨S32x1x2x256x128, .f32⟩ : BufTy).Contents (Elt Ideal))⟩, ⟨S32x1x2x256x128, ((broadcastInDim S32x1x2x256x128 ![0, 2, 3, 4] bcast_S32x2x256x128_S32x1x2x256x128_0_2_3_4 kA) : (⟨S32x1x2x256x128, .f32⟩ : BufTy).Contents (Elt Ideal))⟩] (by exact concatenates_S32x1x2x256x128_S32x1x2x256x128_S32x2x2x256x128_d1)

/-- The stacked values. -/
def TstVa (a13 : FVec Ideal S32x2x2x256x128 .f32) (vA : FVec Ideal S32x2x256x128 .f32) : FVec Ideal S32x2x2x256x128 .f32 :=
  concatenate S32x2x2x256x128 1 [⟨S32x1x2x256x128, ((broadcastInDim S32x1x2x256x128 ![0, 2, 3, 4] bcast_S32x2x256x128_S32x1x2x256x128_0_2_3_4 (shapeCast _ (extractStridedSlice S32x1x2x256x128 ![0, 0, 0, 0, 0] a13 slices_S32x2x2x256x128_S32x1x2x256x128_0_0_0_0_0) shapeCasts_S32x1x2x256x128_S32x2x256x128)) : (⟨S32x1x2x256x128, .f32⟩ : BufTy).Contents (Elt Ideal))⟩, ⟨S32x1x2x256x128, ((broadcastInDim S32x1x2x256x128 ![0, 2, 3, 4] bcast_S32x2x256x128_S32x1x2x256x128_0_2_3_4 vA) : (⟨S32x1x2x256x128, .f32⟩ : BufTy).Contents (Elt Ideal))⟩] (by exact concatenates_S32x1x2x256x128_S32x1x2x256x128_S32x2x2x256x128_d1)

/-- The stacked latents. -/
def TstMla (a14 : FVec Ideal S32x2x256x320 .f32) (latT : FVec Ideal S32x256x320 .f32) : FVec Ideal S32x2x256x320 .f32 :=
  concatenate S32x2x256x320 1 [⟨S32x1x256x320, ((broadcastInDim S32x1x256x320 ![0, 2, 3] bcast_S32x256x320_S32x1x256x320_0_2_3 (shapeCast _ (extractStridedSlice S32x1x256x320 ![0, 0, 0, 0] a14 slices_S32x2x256x320_S32x1x256x320_0_0_0_0) shapeCasts_S32x1x256x320_S32x256x320)) : (⟨S32x1x256x320, .f32⟩ : BufTy).Contents (Elt Ideal))⟩, ⟨S32x1x256x320, ((broadcastInDim S32x1x256x320 ![0, 2, 3] bcast_S32x256x320_S32x1x256x320_0_2_3 latT) : (⟨S32x1x256x320, .f32⟩ : BufTy).Contents (Elt Ideal))⟩] (by exact concatenates_S32x1x256x320_S32x1x256x320_S32x2x256x320_d1)

/-- The stacked keys. -/
def TstKc (a15 : FVec Ideal S32x2x2x256x128 .f32) (kC : FVec Ideal S32x2x256x128 .f32) : FVec Ideal S32x2x2x256x128 .f32 :=
  concatenate S32x2x2x256x128 1 [⟨S32x1x2x256x128, ((broadcastInDim S32x1x2x256x128 ![0, 2, 3, 4] bcast_S32x2x256x128_S32x1x2x256x128_0_2_3_4 (shapeCast _ (extractStridedSlice S32x1x2x256x128 ![0, 0, 0, 0, 0] a15 slices_S32x2x2x256x128_S32x1x2x256x128_0_0_0_0_0) shapeCasts_S32x1x2x256x128_S32x2x256x128)) : (⟨S32x1x2x256x128, .f32⟩ : BufTy).Contents (Elt Ideal))⟩, ⟨S32x1x2x256x128, ((broadcastInDim S32x1x2x256x128 ![0, 2, 3, 4] bcast_S32x2x256x128_S32x1x2x256x128_0_2_3_4 kC) : (⟨S32x1x2x256x128, .f32⟩ : BufTy).Contents (Elt Ideal))⟩] (by exact concatenates_S32x1x2x256x128_S32x1x2x256x128_S32x2x2x256x128_d1)

/-- The stacked values. -/
def TstVc (a16 : FVec Ideal S32x2x2x256x128 .f32) (vC : FVec Ideal S32x2x256x128 .f32) : FVec Ideal S32x2x2x256x128 .f32 :=
  concatenate S32x2x2x256x128 1 [⟨S32x1x2x256x128, ((broadcastInDim S32x1x2x256x128 ![0, 2, 3, 4] bcast_S32x2x256x128_S32x1x2x256x128_0_2_3_4 (shapeCast _ (extractStridedSlice S32x1x2x256x128 ![0, 0, 0, 0, 0] a16 slices_S32x2x2x256x128_S32x1x2x256x128_0_0_0_0_0) shapeCasts_S32x1x2x256x128_S32x2x256x128)) : (⟨S32x1x2x256x128, .f32⟩ : BufTy).Contents (Elt Ideal))⟩, ⟨S32x1x2x256x128, ((broadcastInDim S32x1x2x256x128 ![0, 2, 3, 4] bcast_S32x2x256x128_S32x1x2x256x128_0_2_3_4 vC) : (⟨S32x1x2x256x128, .f32⟩ : BufTy).Contents (Elt Ideal))⟩] (by exact concatenates_S32x1x2x256x128_S32x1x2x256x128_S32x2x2x256x128_d1)

/-- The stacked keys. -/
def TstKd (a17 : FVec Ideal S32x2x4x256x128 .f32) (kD : FVec Ideal S32x4x256x128 .f32) : FVec Ideal S32x2x4x256x128 .f32 :=
  concatenate S32x2x4x256x128 1 [⟨S32x1x4x256x128, ((broadcastInDim S32x1x4x256x128 ![0, 2, 3, 4] bcast_S32x4x256x128_S32x1x4x256x128_0_2_3_4 (shapeCast _ (extractStridedSlice S32x1x4x256x128 ![0, 0, 0, 0, 0] a17 slices_S32x2x4x256x128_S32x1x4x256x128_0_0_0_0_0) shapeCasts_S32x1x4x256x128_S32x4x256x128)) : (⟨S32x1x4x256x128, .f32⟩ : BufTy).Contents (Elt Ideal))⟩, ⟨S32x1x4x256x128, ((broadcastInDim S32x1x4x256x128 ![0, 2, 3, 4] bcast_S32x4x256x128_S32x1x4x256x128_0_2_3_4 kD) : (⟨S32x1x4x256x128, .f32⟩ : BufTy).Contents (Elt Ideal))⟩] (by exact concatenates_S32x1x4x256x128_S32x1x4x256x128_S32x2x4x256x128_d1)

/-- The stacked values. -/
def TstVd (a18 : FVec Ideal S32x2x4x256x128 .f32) (vD : FVec Ideal S32x4x256x128 .f32) : FVec Ideal S32x2x4x256x128 .f32 :=
  concatenate S32x2x4x256x128 1 [⟨S32x1x4x256x128, ((broadcastInDim S32x1x4x256x128 ![0, 2, 3, 4] bcast_S32x4x256x128_S32x1x4x256x128_0_2_3_4 (shapeCast _ (extractStridedSlice S32x1x4x256x128 ![0, 0, 0, 0, 0] a18 slices_S32x2x4x256x128_S32x1x4x256x128_0_0_0_0_0) shapeCasts_S32x1x4x256x128_S32x4x256x128)) : (⟨S32x1x4x256x128, .f32⟩ : BufTy).Contents (Elt Ideal))⟩, ⟨S32x1x4x256x128, ((broadcastInDim S32x1x4x256x128 ![0, 2, 3, 4] bcast_S32x4x256x128_S32x1x4x256x128_0_2_3_4 vD) : (⟨S32x1x4x256x128, .f32⟩ : BufTy).Contents (Elt Ideal))⟩] (by exact concatenates_S32x1x4x256x128_S32x1x4x256x128_S32x2x4x256x128_d1)

/-- The modulated, normalised hidden state. -/
def ThT (a1 : FVec Ideal S2x16x6x2048 .f32) (a2 : FVec Ideal S2x2048 .f32) (x3 : FVec Ideal S32x256x2048 .f32) : FVec Ideal S32x256x2048 .f32 :=
  addf (mulf (mulf (mulf x3 (broadcastInDim S32x256x2048 ![0, 1, 2] bcast_S32x256x1_S32x256x2048_0_1_2 (Host.rsqrt (addf (Host.divf (broadcastInDim S32x256x1 ![0, 1] bcast_S32x256_S32x256x1_0_1 (Host.reduceAdd (mulf x3 x3) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))))) (broadcastInDim S32x256x2048 ![0, 1, 2] bcast_S1x1x2048_S32x256x2048_0_1_2 (broadcastInDim S1x1x2048 ![2] bcast_S2048_S1x1x2048_2 (shapeCast _ (extractStridedSlice S1x2048 ![1, 0] a2 slices_S2x2048_S1x2048_1_0) shapeCasts_S1x2048_S2048)))) (broadcastInDim S32x256x2048 ![0, 1, 2] bcast_S1x1x2048_S32x256x2048_0_1_2 (broadcastInDim S1x1x2048 ![2] bcast_S2048_S1x1x2048_2 (addf (broadcastInDim S2048 ![] bcast_S_S2048 (constant S_ .f32 0x3F800000#32)) (shapeCast _ (extractStridedSlice S1x1x1x2048 ![1, 0, 1, 0] a1 slices_S2x16x6x2048_S1x1x1x2048_1_0_1_0) shapeCasts_S1x1x1x2048_S2048))))) (broadcastInDim S32x256x2048 ![0, 1, 2] bcast_S1x1x2048_S32x256x2048_0_1_2 (broadcastInDim S1x1x2048 ![2] bcast_S2048_S1x1x2048_2 (shapeCast _ (extractStridedSlice S1x1x1x2048 ![1, 0, 0, 0] a1 slices_S2x16x6x2048_S1x1x1x2048_1_0_0_0) shapeCasts_S1x1x1x2048_S2048)))

/-- Queries of the latent attention, both parts side by side. -/
def TqB (z : FVec Ideal S32x256x4672 .f32) : FVec Ideal S32x4x256x192 .f32 :=
  concatenate S32x4x256x192 3 [⟨S32x4x256x128, ((transpose S32x4x256x128 [0, 2, 1, 3] (shapeCast _ (extractStridedSlice S32x256x512 ![0, 0, 1024] z slices_S32x256x4672_S32x256x512_0_0_1024) shapeCasts_S32x256x512_S32x256x4x128) transposes_S32x256x4x128_S32x4x256x128_0_2_1_3) : (⟨S32x4x256x128, .f32⟩ : BufTy).Contents (Elt Ideal))⟩, ⟨S32x4x256x64, ((transpose S32x4x256x64 [0, 2, 1, 3] (shapeCast _ (extractStridedSlice S32x256x256 ![0, 0, 1536] z slices_S32x256x4672_S32x256x256_0_0_1536) shapeCasts_S32x256x256_S32x256x4x64) transposes_S32x256x4x64_S32x4x256x64_0_2_1_3) : (⟨S32x4x256x64, .f32⟩ : BufTy).Contents (Elt Ideal))⟩] (by exact concatenates_S32x4x256x128_S32x4x256x64_S32x4x256x192_d3)

/-- Keys of the latent attention, both parts side by side. -/
def TkB (bkr : FVec Ideal S32x256x64 .f32) (kN : FVec Ideal S32x4x256x128 .f32) : FVec Ideal S32x4x256x192 .f32 :=
  concatenate S32x4x256x192 3 [⟨S32x4x256x128, (kN : (⟨S32x4x256x128, .f32⟩ : BufTy).Contents (Elt Ideal))⟩, ⟨S32x4x256x64, ((broadcastInDim S32x4x256x64 ![0, 1, 2, 3] bcast_S32x1x256x64_S32x4x256x64_0_1_2_3 (broadcastInDim S32x1x256x64 ![0, 2, 3] bcast_S32x256x64_S32x1x256x64_0_2_3 bkr)) : (⟨S32x4x256x64, .f32⟩ : BufTy).Contents (Elt Ideal))⟩] (by exact concatenates_S32x4x256x128_S32x4x256x64_S32x4x256x192_d3)

/-- Keys drawn from the latent. -/
def TkN (a6 : FVec Ideal S2x256x4x128 .f32) (lat : FVec Ideal S32x256x256 .f32) : FVec Ideal S32x4x256x128 .f32 :=
  transpose S32x4x256x128 [2, 0, 3, 1] (Host.dotGeneral dot_S256x4x128_S32x256x256_S4x128x32x256_0_2_12_01_n_n none (shapeCast _ (extractStridedSlice S1x256x4x128 ![1, 0, 0, 0] a6 slices_S2x256x4x128_S1x256x4x128_1_0_0_0) shapeCasts_S1x256x4x128_S256x4x128) lat) transposes_S4x128x32x256_S32x4x256x128_2_0_3_1

/-- Values drawn from the latent. -/
def TvB (a7 : FVec Ideal S2x256x4x128 .f32) (lat : FVec Ideal S32x256x256 .f32) : FVec Ideal S32x4x256x128 .f32 :=
  transpose S32x4x256x128 [2, 0, 3, 1] (Host.dotGeneral dot_S256x4x128_S32x256x256_S4x128x32x256_0_2_12_01_n_n none (shapeCast _ (extractStridedSlice S1x256x4x128 ![1, 0, 0, 0] a7 slices_S2x256x4x128_S1x256x4x128_1_0_0_0) shapeCasts_S1x256x4x128_S256x4x128) lat) transposes_S4x128x32x256_S32x4x256x128_2_0_3_1

/-- Attention by the first half. -/
def To1 (vD : FVec Ideal S32x4x256x128 .f32) (e1 : FVec Ideal S32x4x1x256x256 .f32) : FVec Ideal S32x4x256x128 .f32 :=
  shapeCast _ (Host.dotGeneral dot_S32x4x1x256x256_S32x4x256x128_S32x4x1x256x128_4_2_23_3_01_01 none (Host.divf e1 (broadcastInDim S32x4x1x256x256 ![0, 1, 2, 3, 4] bcast_S32x4x1x256x1_S32x4x1x256x256_0_1_2_3_4 (broadcastInDim S32x4x1x256x1 ![0, 1, 2, 3] bcast_S32x4x1x256_S32x4x1x256x1_0_1_2_3 (Host.reduceAdd e1 (constant S_ .f32 0x00000000#32) reducesTo_S32x4x1x256x256_S32x4x1x256_d4 h_S_)))) vD) shapeCasts_S32x4x1x256x128_S32x4x256x128

/-- Attention by the second half. -/
def To2 (vD : FVec Ideal S32x4x256x128 .f32) (e2 : FVec Ideal S32x4x1x256x256 .f32) : FVec Ideal S32x4x256x128 .f32 :=
  shapeCast _ (Host.dotGeneral dot_S32x4x1x256x256_S32x4x256x128_S32x4x1x256x128_4_2_23_3_01_01 none (Host.divf e2 (broadcastInDim S32x4x1x256x256 ![0, 1, 2, 3, 4] bcast_S32x4x1x256x1_S32x4x1x256x256_0_1_2_3_4 (broadcastInDim S32x4x1x256x1 ![0, 1, 2, 3] bcast_S32x4x1x256_S32x4x1x256x1_0_1_2_3 (Host.reduceAdd e2 (constant S_ .f32 0x00000000#32) reducesTo_S32x4x1x256x256_S32x4x1x256_d4 h_S_)))) vD) shapeCasts_S32x4x1x256x128_S32x4x256x128

/-- Lambda. -/
def Tlam (lamp : FVec Ideal S4x64 .f32) : FVec Ideal S_ .f32 :=
  addf (subf (Host.exp (Host.reduceAdd (mulf (shapeCast _ (extractStridedSlice S1x64 ![0, 0] lamp slices_S4x64_S1x64_0_0) shapeCasts_S1x64_S64) (shapeCast _ (extractStridedSlice S1x64 ![1, 0] lamp slices_S4x64_S1x64_1_0) shapeCasts_S1x64_S64)) (constant S_ .f32 0x00000000#32) reducesTo_S64_S_d0 h_S_)) (Host.exp (Host.reduceAdd (mulf (shapeCast _ (extractStridedSlice S1x64 ![2, 0] lamp slices_S4x64_S1x64_2_0) shapeCasts_S1x64_S64) (shapeCast _ (extractStridedSlice S1x64 ![3, 0] lamp slices_S4x64_S1x64_3_0) shapeCasts_S1x64_S64)) (constant S_ .f32 0x00000000#32) reducesTo_S64_S_d0 h_S_))) (constant S_ .f32 0x3EB60549#32)

/-- The normed queries. -/
def TqC (a8 : FVec Ideal S2x128 .f32) (cq : FVec Ideal S32x4x256x128 .f32) : FVec Ideal S32x4x256x128 .f32 :=
  mulf (mulf cq (broadcastInDim S32x4x256x128 ![0, 1, 2, 3] bcast_S32x4x256x1_S32x4x256x128_0_1_2_3 (Host.rsqrt (addf (Host.divf (broadcastInDim S32x4x256x1 ![0, 1, 2] bcast_S32x4x256_S32x4x256x1_0_1_2 (Host.reduceAdd (mulf cq cq) (constant S_ .f32 0x00000000#32) reducesTo_S32x4x256x128_S32x4x256_d3 h_S_)) (broadcastInDim S32x4x256x1 ![] bcast_S_S32x4x256x1 (constant S_ .f32 0x43000000#32))) (broadcastInDim S32x4x256x1 ![] bcast_S_S32x4x256x1 (constant S_ .f32 0x358637BD#32)))))) (broadcastInDim S32x4x256x128 ![0, 1, 2, 3] bcast_S1x1x1x128_S32x4x256x128_0_1_2_3 (broadcastInDim S1x1x1x128 ![3] bcast_S128_S1x1x1x128_3 (shapeCast _ (extractStridedSlice S1x128 ![1, 0] a8 slices_S2x128_S1x128_1_0) shapeCasts_S1x128_S128)))

/-- Scores of the grouped attention. -/
def TsA (z : FVec Ideal S32x256x4672 .f32) (kA : FVec Ideal S32x2x256x128 .f32) : FVec Ideal S32x2x2x256x256 .f32 :=
  mulf (Host.dotGeneral dot_S32x2x2x256x128_S32x2x256x128_S32x2x2x256x256_4_3_23_2_01_01 none (shapeCast _ (transpose S32x4x256x128 [0, 2, 1, 3] (shapeCast _ (extractStridedSlice S32x256x512 ![0, 0, 0] z slices_S32x256x4672_S32x256x512_0_0_0) shapeCasts_S32x256x512_S32x256x4x128) transposes_S32x256x4x128_S32x4x256x128_0_2_1_3) shapeCasts_S32x4x256x128_S32x2x2x256x128) kA) (broadcastInDim S32x2x2x256x256 ![] bcast_S_S32x2x2x256x256 (Host.rsqrt (constant S_ .f32 0x43000000#32)))

/-- The latent beside the rotary keys. -/
def TlatT (bkr : FVec Ideal S32x256x64 .f32) (lat : FVec Ideal S32x256x256 .f32) : FVec Ideal S32x256x320 .f32 :=
  concatenate S32x256x320 2 [⟨S32x256x256, (lat : (⟨S32x256x256, .f32⟩ : BufTy).Contents (Elt Ideal))⟩, ⟨S32x256x64, (bkr : (⟨S32x256x64, .f32⟩ : BufTy).Contents (Elt Ideal))⟩] (by exact concatenates_S32x256x256_S32x256x64_S32x256x320_d2)

/-- The greatest score of a row. -/
def TmeA (sA1 : FVec Ideal S32x2x2x256x257 .f32) : FVec Ideal S32x2x2x256 .f32 :=
  Host.reduce FloatOps.maximumf sA1 (constant S_ .f32 0xFF800000#32) reducesTo_S32x2x2x256x257_S32x2x2x256_d4 h_S_

/-- The greatest score of a row. -/
def TmeB (sB : FVec Ideal S32x4x1x256x256 .f32) : FVec Ideal S32x4x1x256 .f32 :=
  Host.reduce FloatOps.maximumf sB (constant S_ .f32 0xFF800000#32) reducesTo_S32x4x1x256x256_S32x4x1x256_d4 h_S_

/-- The greatest score of a row. -/
def TmeC (sC : FVec Ideal S32x2x2x256x256 .f32) : FVec Ideal S32x2x2x256 .f32 :=
  Host.reduce FloatOps.maximumf sC (constant S_ .f32 0xFF800000#32) reducesTo_S32x2x2x256x256_S32x2x2x256_d4 h_S_

/-- The greatest score of a row. -/
def Tme1 (s1 : FVec Ideal S32x4x1x256x256 .f32) : FVec Ideal S32x4x1x256 .f32 :=
  Host.reduce FloatOps.maximumf s1 (constant S_ .f32 0xFF800000#32) reducesTo_S32x4x1x256x256_S32x4x1x256_d4 h_S_

/-- The greatest score of a row. -/
def Tme2 (s2 : FVec Ideal S32x4x1x256x256 .f32) : FVec Ideal S32x4x1x256 .f32 :=
  Host.reduce FloatOps.maximumf s2 (constant S_ .f32 0xFF800000#32) reducesTo_S32x4x1x256x256_S32x4x1x256_d4 h_S_

end Cert.CtxRef
-- ==== Proof.Ctx.RefA.lean ====
module

public import proofs.«01_k».proof.Proof.Ctx.RefDefs
public import proofs.«01_k».proof.Proof.Ctx.Soft
public import Idealize.ShloMosaic.Lib.Pipeline.ValueKit
public import Idealize.ShloMosaic.Lib.Pointwise
public import Idealize.ShloMosaic.Lib.Claim

@[expose] public section

set_option maxRecDepth 16384

noncomputable section

namespace Cert.CtxRef

open Cert.Soft (rms)
open Cert.ReferenceIdeal Cert.ReferenceIdeal.Gen
open Idealize.ShloMosaic Idealize.ShloMosaic.TcCoe Idealize.SL.Sem

/-! Each stage of the reference, entry by entry. -/

set_option maxHeartbeats 800000 in
theorem Tx3_at (a0 : FVec Ideal S8192x2048 .f32) (b : Fin 32) (t : Fin 256) (d : Fin 2048) :
    Tx3 a0 (ix3 b t d)
      = a0 (ix2 ⟨b * 256 + t, by omega⟩ d) := by
  pointwise [Tx3]
  all_goals rfl

set_option maxHeartbeats 800000 in
theorem ThT_at (a1 : FVec Ideal S2x16x6x2048 .f32) (a2 : FVec Ideal S2x2048 .f32) (x3 : FVec Ideal S32x256x2048 .f32) (b : Fin 32) (t : Fin 256) (d : Fin 2048) :
    ThT a1 a2 x3 (ix3 b t d)
      = rms 1157627904#32 (fun x => x3 (ix3 b t x)) (fun x => a2 (ix2 1 x)) d * (1 + a1 (ix4 1 0 1 d)) + a1 (ix4 1 0 0 d) := by
  pointwise [ThT]
  all_goals rfl

set_option maxHeartbeats 800000 in
theorem Tz_at (a3 : FVec Ideal S2x2048x4672 .f32) (hT : FVec Ideal S32x256x2048 .f32) (b : Fin 32) (t : Fin 256) (e : Fin 4672) :
    Tz a3 hT (ix3 b t e)
      = ∑ x, hT (ix3 b t x) * a3 (ix3 1 x e) := by
  pointwise [Tz]
  all_goals rfl

set_option maxHeartbeats 800000 in
theorem Tbckv_at (z : FVec Ideal S32x256x4672 .f32) (b : Fin 32) (t : Fin 256) (e : Fin 256) :
    Tbckv z (ix3 b t e)
      = z (ix3 b t ⟨1792 + e, by omega⟩) := by
  pointwise [Tbckv]
  all_goals rfl

set_option maxHeartbeats 800000 in
theorem Tbkr_at (z : FVec Ideal S32x256x4672 .f32) (b : Fin 32) (t : Fin 256) (e : Fin 64) :
    Tbkr z (ix3 b t e)
      = z (ix3 b t ⟨2048 + e, by omega⟩) := by
  pointwise [Tbkr]
  all_goals rfl

set_option maxHeartbeats 800000 in
theorem TkA_at (z : FVec Ideal S32x256x4672 .f32) (b : Fin 32) (g : Fin 2) (t : Fin 256) (d : Fin 128) :
    TkA z (ix4 b g t d)
      = z (ix3 b t ⟨512 + (g * 128 + d), by omega⟩) := by
  pointwise [TkA]
  all_goals rfl

set_option maxHeartbeats 800000 in
theorem TvA_at (z : FVec Ideal S32x256x4672 .f32) (b : Fin 32) (g : Fin 2) (t : Fin 256) (d : Fin 128) :
    TvA z (ix4 b g t d)
      = z (ix3 b t ⟨768 + (g * 128 + d), by omega⟩) := by
  pointwise [TvA]
  all_goals rfl

set_option maxHeartbeats 800000 in
theorem Tcq_at (z : FVec Ideal S32x256x4672 .f32) (b : Fin 32) (g : Fin 4) (t : Fin 256) (d : Fin 128) :
    Tcq z (ix4 b g t d)
      = z (ix3 b t ⟨2112 + (g * 128 + d), by omega⟩) := by
  pointwise [Tcq]
  all_goals rfl

set_option maxHeartbeats 800000 in
theorem Tck_at (z : FVec Ideal S32x256x4672 .f32) (b : Fin 32) (g : Fin 2) (t : Fin 256) (d : Fin 128) :
    Tck z (ix4 b g t d)
      = z (ix3 b t ⟨2624 + (g * 128 + d), by omega⟩) := by
  pointwise [Tck]
  all_goals rfl

set_option maxHeartbeats 800000 in
theorem TvC_at (z : FVec Ideal S32x256x4672 .f32) (b : Fin 32) (g : Fin 2) (t : Fin 256) (d : Fin 128) :
    TvC z (ix4 b g t d)
      = z (ix3 b t ⟨2880 + (g * 128 + d), by omega⟩) := by
  pointwise [TvC]
  all_goals rfl

set_option maxHeartbeats 800000 in
theorem TqD_at (z : FVec Ideal S32x256x4672 .f32) (b : Fin 32) (g : Fin 4) (t : Fin 256) (d : Fin 128) :
    TqD z (ix4 b g t d)
      = z (ix3 b t ⟨3136 + (g * 128 + d), by omega⟩) := by
  pointwise [TqD]
  all_goals rfl

set_option maxHeartbeats 800000 in
theorem TkD_at (z : FVec Ideal S32x256x4672 .f32) (b : Fin 32) (g : Fin 4) (t : Fin 256) (d : Fin 128) :
    TkD z (ix4 b g t d)
      = z (ix3 b t ⟨3648 + (g * 128 + d), by omega⟩) := by
  pointwise [TkD]
  all_goals rfl

set_option maxHeartbeats 800000 in
theorem TvD_at (z : FVec Ideal S32x256x4672 .f32) (b : Fin 32) (g : Fin 4) (t : Fin 256) (d : Fin 128) :
    TvD z (ix4 b g t d)
      = z (ix3 b t ⟨4160 + (g * 128 + d), by omega⟩) := by
  pointwise [TvD]
  all_goals rfl

end Cert.CtxRef
-- ==== Proof.Ctx.RefB.lean ====
module

public import proofs.«01_k».proof.Proof.Ctx.RefDefs
public import proofs.«01_k».proof.Proof.Ctx.Soft
public import Idealize.ShloMosaic.Lib.Pipeline.ValueKit
public import Idealize.ShloMosaic.Lib.Pointwise
public import Idealize.ShloMosaic.Lib.Claim

@[expose] public section

set_option maxRecDepth 16384

noncomputable section

namespace Cert.CtxRef

open Cert.Soft (rms)
open Cert.ReferenceIdeal Cert.ReferenceIdeal.Gen
open Idealize.ShloMosaic Idealize.ShloMosaic.TcCoe Idealize.SL.Sem

/-! Each stage of the reference, entry by entry. -/

set_option maxHeartbeats 800000 in
theorem Tlat_at (a5 : FVec Ideal S2x256 .f32) (bckv : FVec Ideal S32x256x256 .f32) (b : Fin 32) (t : Fin 256) (e : Fin 256) :
    Tlat a5 bckv (ix3 b t e)
      = rms 1132462080#32 (fun x => bckv (ix3 b t x)) (fun x => a5 (ix2 1 x)) e := by
  pointwise [Tlat]
  all_goals rfl

set_option maxHeartbeats 800000 in
theorem TqC_at (a8 : FVec Ideal S2x128 .f32) (cq : FVec Ideal S32x4x256x128 .f32) (b : Fin 32) (g : Fin 4) (t : Fin 256) (d : Fin 128) :
    TqC a8 cq (ix4 b g t d)
      = rms 1124073472#32 (fun x => cq (ix4 b g t x)) (fun x => a8 (ix2 1 x)) d := by
  pointwise [TqC]
  all_goals rfl

set_option maxHeartbeats 800000 in
theorem TkC_at (a9 : FVec Ideal S2x128 .f32) (ck : FVec Ideal S32x2x256x128 .f32) (b : Fin 32) (g : Fin 2) (t : Fin 256) (d : Fin 128) :
    TkC a9 ck (ix4 b g t d)
      = rms 1124073472#32 (fun x => ck (ix4 b g t x)) (fun x => a9 (ix2 1 x)) d := by
  pointwise [TkC]
  all_goals rfl

set_option maxHeartbeats 800000 in
theorem TqB_at (z : FVec Ideal S32x256x4672 .f32) (b : Fin 32) (g : Fin 4) (t : Fin 256) (j : Fin 192) :
    TqB z (ix4 b g t j)
      = if h : (j : ℕ) < 128 then z (ix3 b t ⟨1024 + (g * 128 + j), by omega⟩) else z (ix3 b t ⟨1536 + (g * 64 + (j - 128)), by omega⟩) := by
  pointwise [TqB]
  all_goals rfl

set_option maxHeartbeats 800000 in
theorem TkN_at (a6 : FVec Ideal S2x256x4x128 .f32) (lat : FVec Ideal S32x256x256 .f32) (b : Fin 32) (g : Fin 4) (t : Fin 256) (d : Fin 128) :
    TkN a6 lat (ix4 b g t d)
      = ∑ x, a6 (ix4 1 x g d) * lat (ix3 b t x) := by
  pointwise [TkN]
  all_goals rfl

set_option maxHeartbeats 800000 in
theorem TvB_at (a7 : FVec Ideal S2x256x4x128 .f32) (lat : FVec Ideal S32x256x256 .f32) (b : Fin 32) (g : Fin 4) (t : Fin 256) (d : Fin 128) :
    TvB a7 lat (ix4 b g t d)
      = ∑ x, a7 (ix4 1 x g d) * lat (ix3 b t x) := by
  pointwise [TvB]
  all_goals rfl

set_option maxHeartbeats 800000 in
theorem TkB_at (bkr : FVec Ideal S32x256x64 .f32) (kN : FVec Ideal S32x4x256x128 .f32) (b : Fin 32) (g : Fin 4) (t : Fin 256) (j : Fin 192) :
    TkB bkr kN (ix4 b g t j)
      = if h : (j : ℕ) < 128 then kN (ix4 b g t ⟨j, h⟩) else bkr (ix3 b t ⟨j - 128, by omega⟩) := by
  pointwise [TkB]
  all_goals rfl

set_option maxHeartbeats 800000 in
theorem TlatT_at (bkr : FVec Ideal S32x256x64 .f32) (lat : FVec Ideal S32x256x256 .f32) (b : Fin 32) (t : Fin 256) (j : Fin 320) :
    TlatT bkr lat (ix3 b t j)
      = if h : (j : ℕ) < 256 then lat (ix3 b t ⟨j, h⟩) else bkr (ix3 b t ⟨j - 256, by omega⟩) := by
  pointwise [TlatT]
  all_goals rfl

set_option maxHeartbeats 800000 in
theorem Tlamp_at (a10 : FVec Ideal S2x4x64 .f32) (i : Fin 4) (j : Fin 64) :
    Tlamp a10 (ix2 i j)
      = a10 (ix3 1 i j) := by
  pointwise [Tlamp]
  all_goals rfl

set_option maxHeartbeats 800000 in
theorem Tlam_at (lamp : FVec Ideal S4x64 .f32)  :
    Tlam lamp ix0
      = Ideal.exp (∑ x, lamp (ix2 0 x) * lamp (ix2 1 x)) - Ideal.exp (∑ x, lamp (ix2 2 x) * lamp (ix2 3 x)) + Ideal.ofBits FTy.f32 1052116297#32 := by
  pointwise [Tlam]
  all_goals rfl

set_option maxHeartbeats 800000 in
theorem TstMla_at (a14 : FVec Ideal S32x2x256x320 .f32) (latT : FVec Ideal S32x256x320 .f32) (b : Fin 32) (l : Fin 2) (t : Fin 256) (j : Fin 320) :
    TstMla a14 latT (ix4 b l t j)
      = if l.val < 1 then a14 (ix4 b 0 t j) else latT (ix3 b t j) := by
  pointwise [TstMla]
  all_goals rfl

set_option maxHeartbeats 800000 in
theorem TstKa_at (a12 : FVec Ideal S32x2x2x256x128 .f32) (kA : FVec Ideal S32x2x256x128 .f32) (b : Fin 32) (l : Fin 2) (g : Fin 2) (t : Fin 256) (d : Fin 128) :
    TstKa a12 kA (ix5 b l g t d)
      = if l.val < 1 then a12 (ix5 b 0 g t d) else kA (ix4 b g t d) := by
  pointwise [TstKa]
  all_goals rfl

set_option maxHeartbeats 800000 in
theorem TstVa_at (a13 : FVec Ideal S32x2x2x256x128 .f32) (vA : FVec Ideal S32x2x256x128 .f32) (b : Fin 32) (l : Fin 2) (g : Fin 2) (t : Fin 256) (d : Fin 128) :
    TstVa a13 vA (ix5 b l g t d)
      = if l.val < 1 then a13 (ix5 b 0 g t d) else vA (ix4 b g t d) := by
  pointwise [TstVa]
  all_goals rfl

set_option maxHeartbeats 800000 in
theorem TstKc_at (a15 : FVec Ideal S32x2x2x256x128 .f32) (kC : FVec Ideal S32x2x256x128 .f32) (b : Fin 32) (l : Fin 2) (g : Fin 2) (t : Fin 256) (d : Fin 128) :
    TstKc a15 kC (ix5 b l g t d)
      = if l.val < 1 then a15 (ix5 b 0 g t d) else kC (ix4 b g t d) := by
  pointwise [TstKc]
  all_goals rfl

set_option maxHeartbeats 800000 in
theorem TstVc_at (a16 : FVec Ideal S32x2x2x256x128 .f32) (vC : FVec Ideal S32x2x256x128 .f32) (b : Fin 32) (l : Fin 2) (g : Fin 2) (t : Fin 256) (d : Fin 128) :
    TstVc a16 vC (ix5 b l g t d)
      = if l.val < 1 then a16 (ix5 b 0 g t d) else vC (ix4 b g t d) := by
  pointwise [TstVc]
  all_goals rfl

set_option maxHeartbeats 800000 in
theorem TstKd_at (a17 : FVec Ideal S32x2x4x256x128 .f32) (kD : FVec Ideal S32x4x256x128 .f32) (b : Fin 32) (l : Fin 2) (g : Fin 4) (t : Fin 256) (d : Fin 128) :
    TstKd a17 kD (ix5 b l g t d)
      = if l.val < 1 then a17 (ix5 b 0 g t d) else kD (ix4 b g t d) := by
  pointwise [TstKd]
  all_goals rfl

set_option maxHeartbeats 800000 in
theorem TstVd_at (a18 : FVec Ideal S32x2x4x256x128 .f32) (vD : FVec Ideal S32x4x256x128 .f32) (b : Fin 32) (l : Fin 2) (g : Fin 4) (t : Fin 256) (d : Fin 128) :
    TstVd a18 vD (ix5 b l g t d)
      = if l.val < 1 then a18 (ix5 b 0 g t d) else vD (ix4 b g t d) := by
  pointwise [TstVd]
  all_goals rfl

end Cert.CtxRef
-- ==== Proof.Ctx.RefC.lean ====
module

public import proofs.«01_k».proof.Proof.Ctx.RefDefs
public import proofs.«01_k».proof.Proof.Ctx.Soft
public import Idealize.ShloMosaic.Lib.Pipeline.ValueKit
public import Idealize.ShloMosaic.Lib.Pointwise
public import Idealize.ShloMosaic.Lib.Claim

@[expose] public section

set_option maxRecDepth 16384

noncomputable section

namespace Cert.CtxRef

open Cert.Soft (rms)
open Cert.ReferenceIdeal Cert.ReferenceIdeal.Gen
open Idealize.ShloMosaic Idealize.ShloMosaic.TcCoe Idealize.SL.Sem

/-! Each stage of the reference, entry by entry. -/

set_option maxHeartbeats 800000 in
theorem TsA_at (z : FVec Ideal S32x256x4672 .f32) (kA : FVec Ideal S32x2x256x128 .f32) (b : Fin 32) (g : Fin 2) (u : Fin 2) (t : Fin 256) (s : Fin 256) :
    TsA z kA (ix5 b g u t s)
      = (∑ x : Fin 128, z (ix3 b t ⟨(g * 2 + u) * 128 + x, by omega⟩) * kA (ix4 b g s x)) * Ideal.rsqrt (Ideal.ofBits FTy.f32 1124073472#32) := by
  pointwise [TsA]
  all_goals rfl

set_option maxHeartbeats 800000 in
theorem TsA1_at (a4 : FVec Ideal S2x4 .f32) (sA : FVec Ideal S32x2x2x256x256 .f32) (b : Fin 32) (g : Fin 2) (u : Fin 2) (t : Fin 256) (s : Fin 257) :
    TsA1 a4 sA (ix5 b g u t s)
      = if h : (s : ℕ) < 256 then sA (ix5 b g u t ⟨s, h⟩) else a4 (ix2 1 ⟨g * 2 + u, by omega⟩) := by
  pointwise [TsA1]
  all_goals rfl

set_option maxHeartbeats 800000 in
theorem TsB_at (qB : FVec Ideal S32x4x256x192 .f32) (kB : FVec Ideal S32x4x256x192 .f32) (b : Fin 32) (g : Fin 4) (t : Fin 256) (s : Fin 256) :
    TsB qB kB (ix5 b g 0 t s)
      = (∑ x, qB (ix4 b g t x) * kB (ix4 b g s x)) * Ideal.rsqrt (Ideal.ofBits FTy.f32 1128267776#32) := by
  pointwise [TsB]
  all_goals rfl

set_option maxHeartbeats 800000 in
theorem TsC_at (kC : FVec Ideal S32x2x256x128 .f32) (qC : FVec Ideal S32x4x256x128 .f32) (b : Fin 32) (g : Fin 2) (u : Fin 2) (t : Fin 256) (s : Fin 256) :
    TsC kC qC (ix5 b g u t s)
      = (∑ x, qC (ix4 b ⟨g * 2 + u, by omega⟩ t x) * kC (ix4 b g s x)) * Ideal.rsqrt (Ideal.ofBits FTy.f32 1124073472#32) := by
  pointwise [TsC]
  all_goals rfl

set_option maxHeartbeats 800000 in
theorem Ts1_at (qD : FVec Ideal S32x4x256x128 .f32) (kD : FVec Ideal S32x4x256x128 .f32) (b : Fin 32) (g : Fin 4) (t : Fin 256) (s : Fin 256) :
    Ts1 qD kD (ix5 b g 0 t s)
      = (∑ x : Fin 64, qD (ix4 b g t ⟨x, by omega⟩) * kD (ix4 b g s ⟨x, by omega⟩)) * Ideal.ofBits FTy.f32 1040187392#32 := by
  pointwise [Ts1]
  all_goals rfl

set_option maxHeartbeats 800000 in
theorem Ts2_at (qD : FVec Ideal S32x4x256x128 .f32) (kD : FVec Ideal S32x4x256x128 .f32) (b : Fin 32) (g : Fin 4) (t : Fin 256) (s : Fin 256) :
    Ts2 qD kD (ix5 b g 0 t s)
      = (∑ x : Fin 64, qD (ix4 b g t ⟨64 + x, by omega⟩) * kD (ix4 b g s ⟨64 + x, by omega⟩)) * Ideal.ofBits FTy.f32 1040187392#32 := by
  pointwise [Ts2]
  all_goals rfl

set_option maxHeartbeats 800000 in
theorem TmeA_at (sA1 : FVec Ideal S32x2x2x256x257 .f32) (b : Fin 32) (g : Fin 2) (u : Fin 2) (t : Fin 256) :
    TmeA sA1 (ix4 b g u t)
      = Finset.fold max (Ideal.ofBits FTy.f32 4286578688#32) (fun k => sA1 (ix5 b g u t k)) Finset.univ := by
  simp only [TmeA, pointwise]

set_option maxHeartbeats 800000 in
theorem TmeB_at (sB : FVec Ideal S32x4x1x256x256 .f32) (b : Fin 32) (g : Fin 4) (t : Fin 256) :
    TmeB sB (ix4 b g 0 t)
      = Finset.fold max (Ideal.ofBits FTy.f32 4286578688#32) (fun k => sB (ix5 b g 0 t k)) Finset.univ := by
  simp only [TmeB, pointwise]

set_option maxHeartbeats 800000 in
theorem TmeC_at (sC : FVec Ideal S32x2x2x256x256 .f32) (b : Fin 32) (g : Fin 2) (u : Fin 2) (t : Fin 256) :
    TmeC sC (ix4 b g u t)
      = Finset.fold max (Ideal.ofBits FTy.f32 4286578688#32) (fun k => sC (ix5 b g u t k)) Finset.univ := by
  simp only [TmeC, pointwise]

set_option maxHeartbeats 800000 in
theorem Tme1_at (s1 : FVec Ideal S32x4x1x256x256 .f32) (b : Fin 32) (g : Fin 4) (t : Fin 256) :
    Tme1 s1 (ix4 b g 0 t)
      = Finset.fold max (Ideal.ofBits FTy.f32 4286578688#32) (fun k => s1 (ix5 b g 0 t k)) Finset.univ := by
  simp only [Tme1, pointwise]

set_option maxHeartbeats 800000 in
theorem Tme2_at (s2 : FVec Ideal S32x4x1x256x256 .f32) (b : Fin 32) (g : Fin 4) (t : Fin 256) :
    Tme2 s2 (ix4 b g 0 t)
      = Finset.fold max (Ideal.ofBits FTy.f32 4286578688#32) (fun k => s2 (ix5 b g 0 t k)) Finset.univ := by
  simp only [Tme2, pointwise]

set_option maxHeartbeats 800000 in
theorem TeA_at (sA1 : FVec Ideal S32x2x2x256x257 .f32) (meA : FVec Ideal S32x2x2x256 .f32) (b : Fin 32) (g : Fin 2) (u : Fin 2) (t : Fin 256) (s : Fin 257) :
    TeA sA1 meA (ix5 b g u t s)
      = Ideal.exp (sA1 (ix5 b g u t s) - max (Ideal.ofBits FTy.f32 4286578688#32) (meA (ix4 b g u t))) := by
  pointwise [TeA]
  all_goals rfl

set_option maxHeartbeats 800000 in
theorem TeB_at (sB : FVec Ideal S32x4x1x256x256 .f32) (meB : FVec Ideal S32x4x1x256 .f32) (b : Fin 32) (g : Fin 4) (t : Fin 256) (s : Fin 256) :
    TeB sB meB (ix5 b g 0 t s)
      = Ideal.exp (sB (ix5 b g 0 t s) - max (Ideal.ofBits FTy.f32 4286578688#32) (meB (ix4 b g 0 t))) := by
  pointwise [TeB]
  all_goals rfl

set_option maxHeartbeats 800000 in
theorem TeC_at (sC : FVec Ideal S32x2x2x256x256 .f32) (meC : FVec Ideal S32x2x2x256 .f32) (b : Fin 32) (g : Fin 2) (u : Fin 2) (t : Fin 256) (s : Fin 256) :
    TeC sC meC (ix5 b g u t s)
      = Ideal.exp (sC (ix5 b g u t s) - max (Ideal.ofBits FTy.f32 4286578688#32) (meC (ix4 b g u t))) := by
  pointwise [TeC]
  all_goals rfl

set_option maxHeartbeats 800000 in
theorem Te1_at (s1 : FVec Ideal S32x4x1x256x256 .f32) (me1 : FVec Ideal S32x4x1x256 .f32) (b : Fin 32) (g : Fin 4) (t : Fin 256) (s : Fin 256) :
    Te1 s1 me1 (ix5 b g 0 t s)
      = Ideal.exp (s1 (ix5 b g 0 t s) - max (Ideal.ofBits FTy.f32 4286578688#32) (me1 (ix4 b g 0 t))) := by
  pointwise [Te1]
  all_goals rfl

set_option maxHeartbeats 800000 in
theorem Te2_at (s2 : FVec Ideal S32x4x1x256x256 .f32) (me2 : FVec Ideal S32x4x1x256 .f32) (b : Fin 32) (g : Fin 4) (t : Fin 256) (s : Fin 256) :
    Te2 s2 me2 (ix5 b g 0 t s)
      = Ideal.exp (s2 (ix5 b g 0 t s) - max (Ideal.ofBits FTy.f32 4286578688#32) (me2 (ix4 b g 0 t))) := by
  pointwise [Te2]
  all_goals rfl

end Cert.CtxRef
-- ==== Proof.Ctx.RefD.lean ====
module

public import proofs.«01_k».proof.Proof.Ctx.RefDefs
public import proofs.«01_k».proof.Proof.Ctx.Soft
public import Idealize.ShloMosaic.Lib.Pipeline.ValueKit
public import Idealize.ShloMosaic.Lib.Pointwise
public import Idealize.ShloMosaic.Lib.Claim

@[expose] public section

set_option maxRecDepth 16384

noncomputable section

namespace Cert.CtxRef

open Cert.Soft (rms)
open Cert.ReferenceIdeal Cert.ReferenceIdeal.Gen
open Idealize.ShloMosaic Idealize.ShloMosaic.TcCoe Idealize.SL.Sem

/-! Each stage of the reference, entry by entry. -/

set_option maxHeartbeats 800000 in
theorem To1_at (vD : FVec Ideal S32x4x256x128 .f32) (e1 : FVec Ideal S32x4x1x256x256 .f32) (b : Fin 32) (g : Fin 4) (t : Fin 256) (d : Fin 128) :
    To1 vD e1 (ix4 b g t d)
      = ∑ x, Ideal.div (e1 (ix5 b g 0 t x)) (∑ y, e1 (ix5 b g 0 t y)) * vD (ix4 b g x d) := by
  pointwise [To1]
  all_goals rfl

set_option maxHeartbeats 800000 in
theorem To2_at (vD : FVec Ideal S32x4x256x128 .f32) (e2 : FVec Ideal S32x4x1x256x256 .f32) (b : Fin 32) (g : Fin 4) (t : Fin 256) (d : Fin 128) :
    To2 vD e2 (ix4 b g t d)
      = ∑ x, Ideal.div (e2 (ix5 b g 0 t x)) (∑ y, e2 (ix5 b g 0 t y)) * vD (ix4 b g x d) := by
  pointwise [To2]
  all_goals rfl

set_option maxHeartbeats 800000 in
theorem ToDiff_at (o1 : FVec Ideal S32x4x256x128 .f32) (o2 : FVec Ideal S32x4x256x128 .f32) (lam : FVec Ideal S_ .f32) (b : Fin 32) (g : Fin 4) (t : Fin 256) (d : Fin 128) :
    ToDiff o1 o2 lam (ix4 b g t d)
      = o1 (ix4 b g t d) - lam ix0 * o2 (ix4 b g t d) := by
  pointwise [ToDiff]
  all_goals rfl

set_option maxHeartbeats 800000 in
theorem ToA_at (vA : FVec Ideal S32x2x256x128 .f32) (eA : FVec Ideal S32x2x2x256x257 .f32) (r : Fin 8192) (c : Fin 512) :
    ToA vA eA (ix2 r c)
      = ∑ x : Fin 256, Ideal.div (eA (ix5 ⟨r / 256, by omega⟩ ⟨c / 128 / 2, by omega⟩ ⟨c / 128 % 2, by omega⟩ ⟨r % 256, by omega⟩ ⟨x, by omega⟩)) (∑ y, eA (ix5 ⟨r / 256, by omega⟩ ⟨c / 128 / 2, by omega⟩ ⟨c / 128 % 2, by omega⟩ ⟨r % 256, by omega⟩ y)) * vA (ix4 ⟨r / 256, by omega⟩ ⟨c / 128 / 2, by omega⟩ x ⟨c % 128, by omega⟩) := by
  pointwise [ToA]
  all_goals rfl

set_option maxHeartbeats 800000 in
theorem ToB_at (eB : FVec Ideal S32x4x1x256x256 .f32) (vB : FVec Ideal S32x4x256x128 .f32) (r : Fin 8192) (c : Fin 512) :
    ToB eB vB (ix2 r c)
      = ∑ x : Fin 256, Ideal.div (eB (ix5 ⟨r / 256, by omega⟩ ⟨c / 128, by omega⟩ 0 ⟨r % 256, by omega⟩ x)) (∑ y, eB (ix5 ⟨r / 256, by omega⟩ ⟨c / 128, by omega⟩ 0 ⟨r % 256, by omega⟩ y)) * vB (ix4 ⟨r / 256, by omega⟩ ⟨c / 128, by omega⟩ x ⟨c % 128, by omega⟩) := by
  pointwise [ToB]
  all_goals rfl

set_option maxHeartbeats 800000 in
theorem ToC_at (vC : FVec Ideal S32x2x256x128 .f32) (eC : FVec Ideal S32x2x2x256x256 .f32) (r : Fin 8192) (c : Fin 512) :
    ToC vC eC (ix2 r c)
      = ∑ x : Fin 256, Ideal.div (eC (ix5 ⟨r / 256, by omega⟩ ⟨c / 128 / 2, by omega⟩ ⟨c / 128 % 2, by omega⟩ ⟨r % 256, by omega⟩ x)) (∑ y, eC (ix5 ⟨r / 256, by omega⟩ ⟨c / 128 / 2, by omega⟩ ⟨c / 128 % 2, by omega⟩ ⟨r % 256, by omega⟩ y)) * vC (ix4 ⟨r / 256, by omega⟩ ⟨c / 128 / 2, by omega⟩ x ⟨c % 128, by omega⟩) := by
  pointwise [ToC]
  all_goals rfl

set_option maxHeartbeats 800000 in
theorem ToD_at (a11 : FVec Ideal S2x128 .f32) (oDiff : FVec Ideal S32x4x256x128 .f32) (r : Fin 8192) (c : Fin 512) :
    ToD a11 oDiff (ix2 r c)
      = rms 1124073472#32 (fun x => oDiff (ix4 ⟨r / 256, by omega⟩ ⟨c / 128, by omega⟩ ⟨r % 256, by omega⟩ x)) (fun x => a11 (ix2 1 x)) ⟨c % 128, by omega⟩ * Ideal.ofBits FTy.f32 1059388764#32 := by
  pointwise [ToD]
  all_goals rfl

end Cert.CtxRef
-- ==== Proof.Ctx.RefSpec.lean ====
module

public import proofs.«01_k».proof.Proof.Ctx.RefA
public import proofs.«01_k».proof.Proof.Ctx.RefB
public import proofs.«01_k».proof.Proof.Ctx.RefC
public import proofs.«01_k».proof.Proof.Ctx.RefD
public import Idealize.ShloMosaic.Lib.Pipeline.ValueKit
public import Idealize.ShloMosaic.Lib.Pointwise
public import Idealize.ShloMosaic.Lib.Claim

@[expose] public section

set_option maxRecDepth 16384

noncomputable section

namespace Cert.CtxRef

open Cert.Soft (rms soft softSink wt app)
open Cert.ReferenceIdeal Cert.ReferenceIdeal.Gen
open Idealize.ShloMosaic Idealize.ShloMosaic.TcCoe Idealize.SL.Sem

/-! # The reference's results, entry by entry -/

/-- The arrays the reference takes. -/
structure Args where
  a0 : FVec Ideal S8192x2048 .f32
  a1 : FVec Ideal S2x16x6x2048 .f32
  a2 : FVec Ideal S2x2048 .f32
  a3 : FVec Ideal S2x2048x4672 .f32
  a4 : FVec Ideal S2x4 .f32
  a5 : FVec Ideal S2x256 .f32
  a6 : FVec Ideal S2x256x4x128 .f32
  a7 : FVec Ideal S2x256x4x128 .f32
  a8 : FVec Ideal S2x128 .f32
  a9 : FVec Ideal S2x128 .f32
  a10 : FVec Ideal S2x4x64 .f32
  a11 : FVec Ideal S2x128 .f32
  a12 : FVec Ideal S32x2x2x256x128 .f32
  a13 : FVec Ideal S32x2x2x256x128 .f32
  a14 : FVec Ideal S32x2x256x320 .f32
  a15 : FVec Ideal S32x2x2x256x128 .f32
  a16 : FVec Ideal S32x2x2x256x128 .f32
  a17 : FVec Ideal S32x2x4x256x128 .f32
  a18 : FVec Ideal S32x2x4x256x128 .f32

variable (A : Args)

/-- The tokens by sequence. -/
def Rx3 : FVec Ideal S32x256x2048 .f32 := Tx3 A.a0

/-- The modulated, normalised hidden state. -/
def RhT : FVec Ideal S32x256x2048 .f32 := ThT A.a1 A.a2 (Rx3 A)

/-- The input projection. -/
def Rz : FVec Ideal S32x256x4672 .f32 := Tz A.a3 (RhT A)

/-- The latent part of the projection, before its norm. -/
def Rbckv : FVec Ideal S32x256x256 .f32 := Tbckv (Rz A)

/-- The shared rotary-part keys. -/
def Rbkr : FVec Ideal S32x256x64 .f32 := Tbkr (Rz A)

/-- The keys of the grouped attention. -/
def RkA : FVec Ideal S32x2x256x128 .f32 := TkA (Rz A)

/-- The values of the grouped attention. -/
def RvA : FVec Ideal S32x2x256x128 .f32 := TvA (Rz A)

/-- Scores of the grouped attention. -/
def RsA : FVec Ideal S32x2x2x256x256 .f32 := TsA (Rz A) (RkA A)

/-- The scores with the sink beside them. -/
def RsA1 : FVec Ideal S32x2x2x256x257 .f32 := TsA1 A.a4 (RsA A)

/-- The greatest score of a row. -/
def RmeA : FVec Ideal S32x2x2x256 .f32 := TmeA (RsA1 A)

/-- The weights, not yet normalised. -/
def ReA : FVec Ideal S32x2x2x256x257 .f32 := TeA (RsA1 A) (RmeA A)

/-- The latent after its norm. -/
def Rlat : FVec Ideal S32x256x256 .f32 := Tlat A.a5 (Rbckv A)

/-- Queries of the latent attention, both parts side by side. -/
def RqB : FVec Ideal S32x4x256x192 .f32 := TqB (Rz A)

/-- Keys drawn from the latent. -/
def RkN : FVec Ideal S32x4x256x128 .f32 := TkN A.a6 (Rlat A)

/-- Keys of the latent attention, both parts side by side. -/
def RkB : FVec Ideal S32x4x256x192 .f32 := TkB (Rbkr A) (RkN A)

/-- Scores of the latent attention. -/
def RsB : FVec Ideal S32x4x1x256x256 .f32 := TsB (RqB A) (RkB A)

/-- The greatest score of a row. -/
def RmeB : FVec Ideal S32x4x1x256 .f32 := TmeB (RsB A)

/-- The weights, not yet normalised. -/
def ReB : FVec Ideal S32x4x1x256x256 .f32 := TeB (RsB A) (RmeB A)

/-- The queries before their norm. -/
def Rcq : FVec Ideal S32x4x256x128 .f32 := Tcq (Rz A)

/-- The keys before their norm. -/
def Rck : FVec Ideal S32x2x256x128 .f32 := Tck (Rz A)

/-- The normed keys. -/
def RkC : FVec Ideal S32x2x256x128 .f32 := TkC A.a9 (Rck A)

/-- Values of the normed attention. -/
def RvC : FVec Ideal S32x2x256x128 .f32 := TvC (Rz A)

/-- The normed queries. -/
def RqC : FVec Ideal S32x4x256x128 .f32 := TqC A.a8 (Rcq A)

/-- Scores of the normed attention. -/
def RsC : FVec Ideal S32x2x2x256x256 .f32 := TsC (RkC A) (RqC A)

/-- The greatest score of a row. -/
def RmeC : FVec Ideal S32x2x2x256 .f32 := TmeC (RsC A)

/-- The weights, not yet normalised. -/
def ReC : FVec Ideal S32x2x2x256x256 .f32 := TeC (RsC A) (RmeC A)

/-- Queries of the differential attention. -/
def RqD : FVec Ideal S32x4x256x128 .f32 := TqD (Rz A)

/-- Keys of the differential attention. -/
def RkD : FVec Ideal S32x4x256x128 .f32 := TkD (Rz A)

/-- Values of the differential attention. -/
def RvD : FVec Ideal S32x4x256x128 .f32 := TvD (Rz A)

/-- The vectors of lambda. -/
def Rlamp : FVec Ideal S4x64 .f32 := Tlamp A.a10

/-- Scores of the first half. -/
def Rs1 : FVec Ideal S32x4x1x256x256 .f32 := Ts1 (RqD A) (RkD A)

/-- The greatest score of a row. -/
def Rme1 : FVec Ideal S32x4x1x256 .f32 := Tme1 (Rs1 A)

/-- The weights of the first half, not yet normalised. -/
def Re1 : FVec Ideal S32x4x1x256x256 .f32 := Te1 (Rs1 A) (Rme1 A)

/-- Scores of the second half. -/
def Rs2 : FVec Ideal S32x4x1x256x256 .f32 := Ts2 (RqD A) (RkD A)

/-- The greatest score of a row. -/
def Rme2 : FVec Ideal S32x4x1x256 .f32 := Tme2 (Rs2 A)

/-- The weights of the second half, not yet normalised. -/
def Re2 : FVec Ideal S32x4x1x256x256 .f32 := Te2 (Rs2 A) (Rme2 A)

/-- Attention by the first half. -/
def Ro1 : FVec Ideal S32x4x256x128 .f32 := To1 (RvD A) (Re1 A)

/-- Attention by the second half. -/
def Ro2 : FVec Ideal S32x4x256x128 .f32 := To2 (RvD A) (Re2 A)

/-- Lambda. -/
def Rlam : FVec Ideal S_ .f32 := Tlam (Rlamp A)

/-- The difference of the two attentions. -/
def RoDiff : FVec Ideal S32x4x256x128 .f32 := ToDiff (Ro1 A) (Ro2 A) (Rlam A)

/-- The grouped attention's output. -/
def RoA : FVec Ideal S8192x512 .bf16 := ToA (RvA A) (ReA A)

/-- Values drawn from the latent. -/
def RvB : FVec Ideal S32x4x256x128 .f32 := TvB A.a7 (Rlat A)

/-- The latent attention's output. -/
def RoB : FVec Ideal S8192x512 .bf16 := ToB (ReB A) (RvB A)

/-- The normed attention's output. -/
def RoC : FVec Ideal S8192x512 .bf16 := ToC (RvC A) (ReC A)

/-- The differential attention's output. -/
def RoD : FVec Ideal S8192x512 .bf16 := ToD A.a11 (RoDiff A)

/-- The stacked keys. -/
def RstKa : FVec Ideal S32x2x2x256x128 .f32 := TstKa A.a12 (RkA A)

/-- The stacked values. -/
def RstVa : FVec Ideal S32x2x2x256x128 .f32 := TstVa A.a13 (RvA A)

/-- The latent beside the rotary keys. -/
def RlatT : FVec Ideal S32x256x320 .f32 := TlatT (Rbkr A) (Rlat A)

/-- The stacked latents. -/
def RstMla : FVec Ideal S32x2x256x320 .f32 := TstMla A.a14 (RlatT A)

/-- The stacked keys. -/
def RstKc : FVec Ideal S32x2x2x256x128 .f32 := TstKc A.a15 (RkC A)

/-- The stacked values. -/
def RstVc : FVec Ideal S32x2x2x256x128 .f32 := TstVc A.a16 (RvC A)

/-- The stacked keys. -/
def RstKd : FVec Ideal S32x2x4x256x128 .f32 := TstKd A.a17 (RkD A)

/-- The stacked values. -/
def RstVd : FVec Ideal S32x2x4x256x128 .f32 := TstVd A.a18 (RvD A)

/-- The projection of token `t` of sequence `b`. -/
def Z (b : Fin 32) (t : Fin 256) (e : Fin 4672) : EReal := Rz A (ix3 b t e)

/-- The normed latent. -/
def latS (b : Fin 32) (t : Fin 256) (e : Fin 256) : EReal :=
  rms 1132462080#32 (fun x : Fin 256 => Z A b t ⟨1792 + x, by omega⟩) (fun x => A.a5 (ix2 1 x)) e

/-- Lambda. -/
def lamS : EReal :=
  Ideal.exp (∑ x, A.a10 (ix3 1 0 x) * A.a10 (ix3 1 1 x)) - Ideal.exp (∑ x, A.a10 (ix3 1 2 x) * A.a10 (ix3 1 3 x)) + Ideal.ofBits FTy.f32 1052116297#32

/-- A query of the latent attention. -/
def qbS (b : Fin 32) (h : Fin 4) (t : Fin 256) (j : Fin 192) : EReal :=
  if h' : (j : ℕ) < 128 then Z A b t ⟨1024 + (h * 128 + j), by omega⟩ else Z A b t ⟨1536 + (h * 64 + (j - 128)), by omega⟩

/-- A key of the latent attention. -/
def kbS (b : Fin 32) (h : Fin 4) (t : Fin 256) (j : Fin 192) : EReal :=
  if h' : (j : ℕ) < 128 then ∑ x, A.a6 (ix4 1 x h ⟨j, h'⟩) * latS A b t x else Z A b t ⟨2048 + (j - 128), by omega⟩

/-- A normed query. -/
def qcS (b : Fin 32) (h : Fin 4) (t : Fin 256) (d : Fin 128) : EReal :=
  rms 1124073472#32 (fun x : Fin 128 => Z A b t ⟨2112 + (h * 128 + x), by omega⟩) (fun x => A.a8 (ix2 1 x)) d

/-- A normed key. -/
def kcS (b : Fin 32) (g : Fin 2) (t : Fin 256) (d : Fin 128) : EReal :=
  rms 1124073472#32 (fun x : Fin 128 => Z A b t ⟨2624 + (g * 128 + x), by omega⟩) (fun x => A.a9 (ix2 1 x)) d

/-- The difference of the two attentions. -/
def diffS (b : Fin 32) (h : Fin 4) (t : Fin 256) (d : Fin 128) : EReal :=
  soft (fun s : Fin 256 => (∑ x : Fin 64, Z A b t ⟨3136 + (h * 128 + x), by omega⟩ * Z A b s ⟨3648 + (h * 128 + x), by omega⟩) * Ideal.ofBits FTy.f32 1040187392#32)
      (fun s => Z A b s ⟨4160 + (h * 128 + d), by omega⟩)
    - lamS A * soft (fun s : Fin 256 => (∑ x : Fin 64, Z A b t ⟨3136 + (h * 128 + (64 + x)), by omega⟩ * Z A b s ⟨3648 + (h * 128 + (64 + x)), by omega⟩) * Ideal.ofBits FTy.f32 1040187392#32)
      (fun s => Z A b s ⟨4160 + (h * 128 + d), by omega⟩)

theorem Z_eq (b : Fin 32) (t : Fin 256) (e : Fin 4672) :
    Z A b t e = ∑ x, (rms 1157627904#32 (fun y => A.a0 (ix2 ⟨b * 256 + t, by omega⟩ y)) (fun y => A.a2 (ix2 1 y)) x
      * (1 + A.a1 (ix4 1 0 1 x)) + A.a1 (ix4 1 0 0 x)) * A.a3 (ix3 1 x e) := by
  simp only [Z, Rz, RhT, Rx3, Tz_at, ThT_at, Tx3_at]

section
variable (b : Fin 32) (h : Fin 4) (t : Fin 256) (d : Fin 128)

/-- The grouped attention's output. -/
theorem oA_at : RoA A (ix2 ⟨b * 256 + t, by omega⟩ ⟨h * 128 + d, by omega⟩)
    = softSink (fun s => (∑ x : Fin 128, Z A b t ⟨h * 128 + x, by omega⟩ * Z A b s ⟨512 + (h / 2 * 128 + x), by omega⟩) * Ideal.rsqrt (Ideal.ofBits FTy.f32 1124073472#32))
        (fun s => Z A b s ⟨768 + (h / 2 * 128 + d), by omega⟩) (A.a4 (ix2 1 h)) := by
  have e1 : ((b : ℕ) * 256 + t) / 256 = b := by omega
  have e2 : ((b : ℕ) * 256 + t) % 256 = t := by omega
  have e3 : ((h : ℕ) * 128 + d) / 128 = h := by omega
  have e4 : ((h : ℕ) * 128 + d) % 128 = d := by omega
  have e5 : (h : ℕ) / 2 * 2 + h % 2 = h := by omega
  simp only [RoA, ReA, RmeA, RsA1, RsA, RkA, RvA, ToA_at, TeA_at, TmeA_at, TsA1_at, TsA_at, TkA_at, TvA_at, e1, e2, e3, e4, e5, Fin.eta]
  rfl

/-- The latent attention's output. -/
theorem oB_at : RoB A (ix2 ⟨b * 256 + t, by omega⟩ ⟨h * 128 + d, by omega⟩)
    = soft (fun s => (∑ x, qbS A b h t x * kbS A b h s x) * Ideal.rsqrt (Ideal.ofBits FTy.f32 1128267776#32))
        (fun s => ∑ x, A.a7 (ix4 1 x h d) * latS A b s x) := by
  have e1 : ((b : ℕ) * 256 + t) / 256 = b := by omega
  have e2 : ((b : ℕ) * 256 + t) % 256 = t := by omega
  have e3 : ((h : ℕ) * 128 + d) / 128 = h := by omega
  have e4 : ((h : ℕ) * 128 + d) % 128 = d := by omega
  have e5 : (h : ℕ) / 2 * 2 + h % 2 = h := by omega
  simp only [RoB, ReB, RmeB, RsB, RqB, RkB, RkN, RvB, Rlat, Rbckv, Rbkr, ToB_at, TeB_at, TmeB_at, TsB_at, TqB_at, TkB_at, TkN_at, TvB_at, Tlat_at, Tbckv_at, Tbkr_at, e1, e2, e3, e4, e5, Fin.eta]
  rfl

/-- The normed attention's output. -/
theorem oC_at : RoC A (ix2 ⟨b * 256 + t, by omega⟩ ⟨h * 128 + d, by omega⟩)
    = soft (fun s => (∑ x, qcS A b h t x * kcS A b ⟨h / 2, by omega⟩ s x) * Ideal.rsqrt (Ideal.ofBits FTy.f32 1124073472#32))
        (fun s => Z A b s ⟨2880 + (h / 2 * 128 + d), by omega⟩) := by
  have e1 : ((b : ℕ) * 256 + t) / 256 = b := by omega
  have e2 : ((b : ℕ) * 256 + t) % 256 = t := by omega
  have e3 : ((h : ℕ) * 128 + d) / 128 = h := by omega
  have e4 : ((h : ℕ) * 128 + d) % 128 = d := by omega
  have e5 : (h : ℕ) / 2 * 2 + h % 2 = h := by omega
  simp only [RoC, ReC, RmeC, RsC, RqC, RkC, Rcq, Rck, RvC, ToC_at, TeC_at, TmeC_at, TsC_at, TqC_at, TkC_at, Tcq_at, Tck_at, TvC_at, e1, e2, e3, e4, e5, Fin.eta]
  rfl

/-- The differential attention's output. -/
theorem oD_at : RoD A (ix2 ⟨b * 256 + t, by omega⟩ ⟨h * 128 + d, by omega⟩)
    = rms 1124073472#32 (fun x => diffS A b h t x) (fun x => A.a11 (ix2 1 x)) d * Ideal.ofBits FTy.f32 1059388764#32 := by
  have e1 : ((b : ℕ) * 256 + t) / 256 = b := by omega
  have e2 : ((b : ℕ) * 256 + t) % 256 = t := by omega
  have e3 : ((h : ℕ) * 128 + d) / 128 = h := by omega
  have e4 : ((h : ℕ) * 128 + d) % 128 = d := by omega
  have e5 : (h : ℕ) / 2 * 2 + h % 2 = h := by omega
  simp only [RoD, RoDiff, Ro1, Ro2, Re1, Re2, Rme1, Rme2, Rs1, Rs2, RqD, RkD, RvD, Rlam, Rlamp, ToD_at, ToDiff_at, To1_at, To2_at, Te1_at, Te2_at, Tme1_at, Tme2_at, Ts1_at, Ts2_at, TqD_at, TkD_at, TvD_at, Tlam_at, Tlamp_at, e1, e2, e3, e4, e5, Fin.eta]
  rfl

end

section
variable (b : Fin 32) (l : Fin 2) (t : Fin 256)

/-- The stacked keys. -/
theorem stKa_at (g : Fin 2) (d : Fin 128) : RstKa A (ix5 b l g t d)
    = if l.val < 1 then A.a12 (ix5 b 0 g t d) else Z A b t ⟨512 + (g * 128 + d), by omega⟩ := by
  simp only [RstKa, RkA, TstKa_at, TkA_at]
  rfl

/-- The stacked values. -/
theorem stVa_at (g : Fin 2) (d : Fin 128) : RstVa A (ix5 b l g t d)
    = if l.val < 1 then A.a13 (ix5 b 0 g t d) else Z A b t ⟨768 + (g * 128 + d), by omega⟩ := by
  simp only [RstVa, RvA, TstVa_at, TvA_at]
  rfl

/-- The stacked keys. -/
theorem stKc_at (g : Fin 2) (d : Fin 128) : RstKc A (ix5 b l g t d)
    = if l.val < 1 then A.a15 (ix5 b 0 g t d) else kcS A b g t d := by
  simp only [RstKc, RkC, Rck, TstKc_at, TkC_at, Tck_at]
  rfl

/-- The stacked values. -/
theorem stVc_at (g : Fin 2) (d : Fin 128) : RstVc A (ix5 b l g t d)
    = if l.val < 1 then A.a16 (ix5 b 0 g t d) else Z A b t ⟨2880 + (g * 128 + d), by omega⟩ := by
  simp only [RstVc, RvC, TstVc_at, TvC_at]
  rfl

/-- The stacked keys. -/
theorem stKd_at (g : Fin 4) (d : Fin 128) : RstKd A (ix5 b l g t d)
    = if l.val < 1 then A.a17 (ix5 b 0 g t d) else Z A b t ⟨3648 + (g * 128 + d), by omega⟩ := by
  simp only [RstKd, RkD, TstKd_at, TkD_at]
  rfl

/-- The stacked values. -/
theorem stVd_at (g : Fin 4) (d : Fin 128) : RstVd A (ix5 b l g t d)
    = if l.val < 1 then A.a18 (ix5 b 0 g t d) else Z A b t ⟨4160 + (g * 128 + d), by omega⟩ := by
  simp only [RstVd, RvD, TstVd_at, TvD_at]
  rfl

/-- The stacked latents. -/
theorem stMla_at (j : Fin 320) : RstMla A (ix4 b l t j)
    = if l.val < 1 then A.a14 (ix4 b 0 t j) else if h : (j : ℕ) < 256 then latS A b t ⟨j, h⟩ else Z A b t ⟨2048 + (j - 256), by omega⟩ := by
  simp only [RstMla, RlatT, Rlat, Rbckv, Rbkr, TstMla_at, TlatT_at, Tlat_at, Tbckv_at, Tbkr_at]
  rfl

end

end Cert.CtxRef
-- ==== Proof.Ctx.Heads.lean ====
module

public import proofs.«01_k».proof.Proof.Ctx.Tile
public import proofs.«01_k».proof.Proof.Ctx.RefSpec
public import Idealize.ShloMosaic.Lib.Pointwise
public import Idealize.ShloMosaic.Lib.Claim

@[expose] public section

set_option maxRecDepth 16384

noncomputable section

namespace Cert.Ctx

open Cert.KernelIdeal Cert.KernelIdeal.Gen
open Cert.Soft
open Cert.CtxRef (Args Z latS lamS qbS kbS qcS kcS diffS RoA RoB RoC RoD oA_at oB_at oC_at oD_at)
open Idealize.ShloMosaic Idealize.ShloMosaic.TcCoe Idealize.SL.Sem

/-! # Each head of the kernel is the reference's -/

/-- Multiplying by the base two logarithm of `e` turns a natural exponent into a binary one. -/
def l2 : ℝ := (Real.log 2)⁻¹

theorem l2_eq : l2 = (Real.log 2)⁻¹ := rfl

theorem c128_eq : c128 = (((Real.sqrt 128)⁻¹ * l2 : ℝ) : EReal) := IdealRules.named_const.ideal_named_scalar _ _ _ _ rfl
theorem c192_eq : c192 = (((Real.sqrt 192)⁻¹ * l2 : ℝ) : EReal) := IdealRules.named_const.ideal_named_scalar _ _ _ _ rfl
theorem c64_eq : c64 = (((8 : ℝ)⁻¹ * l2 : ℝ) : EReal) := IdealRules.named_const.ideal_named_scalar _ _ _ _ rfl
theorem c1_eq : c1 = ((l2 : ℝ) : EReal) := IdealRules.named_const.ideal_named_scalar _ _ _ _ rfl

theorem word128 : Ideal.ofBits FTy.f32 1124073472#32 = ((128 : ℝ) : EReal) := by
  simp [Ideal.ofBits, Ideal.ieee]
  rw [← EReal.coe_mul]
  norm_num
theorem word192 : Ideal.ofBits FTy.f32 1128267776#32 = ((192 : ℝ) : EReal) := by
  simp [Ideal.ofBits, Ideal.ieee]
  rw [← EReal.coe_mul]
  norm_num
theorem word256 : Ideal.ofBits FTy.f32 1132462080#32 = ((256 : ℝ) : EReal) := by
  simp [Ideal.ofBits, Ideal.ieee]
  rw [← EReal.coe_mul]
  norm_num
theorem word2048 : Ideal.ofBits FTy.f32 1157627904#32 = ((2048 : ℝ) : EReal) := by
  simp [Ideal.ofBits, Ideal.ieee]
  rw [← EReal.coe_mul]
  norm_num
theorem word8 : Ideal.ofBits FTy.f32 1040187392#32 = (((8 : ℝ)⁻¹ : ℝ) : EReal) := by
  simp [Ideal.ofBits, Ideal.ieee]
  rw [← EReal.coe_mul]
  norm_num
theorem wordEps : ∃ e : ℝ, 0 < e ∧ Ideal.ofBits FTy.f32 897988541#32 = (e : EReal) := by
  refine ⟨_, ?_, by simp [Ideal.ofBits, Ideal.ieee]; rfl⟩
  norm_num

theorem rsqrt_pos (r : ℝ) (hr : 0 < r) : Ideal.rsqrt (r : EReal) = (((Real.sqrt r)⁻¹ : ℝ) : EReal) := by
  change (if r < 0 then (⊥ : EReal) else if r = 0 then ⊤ else (((Real.sqrt r)⁻¹ : ℝ) : EReal)) = _
  rw [if_neg (not_lt.mpr hr.le), if_neg hr.ne']

theorem s128_eq : Ideal.rsqrt (Ideal.ofBits FTy.f32 1124073472#32) = (((Real.sqrt 128)⁻¹ : ℝ) : EReal) := by
  rw [word128, rsqrt_pos 128 (by norm_num)]
theorem s192_eq : Ideal.rsqrt (Ideal.ofBits FTy.f32 1128267776#32) = (((Real.sqrt 192)⁻¹ : ℝ) : EReal) := by
  rw [word192, rsqrt_pos 192 (by norm_num)]

/-- The root mean square norm of reals is real. -/
theorem rms_real {n : ℕ} (c : BitVec 32) (C : ℝ) (hc : Ideal.ofBits FTy.f32 c = (C : EReal)) (hC : 0 < C) (f g : Fin n → ℝ) :
    ∃ r : Fin n → ℝ, ∀ i, rms c (fun x => (f x : EReal)) (fun x => (g x : EReal)) i = (r i : EReal) := by
  obtain ⟨e, he, hw⟩ := wordEps
  have hp : 0 < (∑ x, f x * f x) * C⁻¹ + e :=
    add_pos_of_nonneg_of_pos (mul_nonneg (Finset.sum_nonneg fun x _ => mul_self_nonneg (f x)) (inv_nonneg.mpr hC.le)) he
  refine ⟨fun i => f i * (Real.sqrt ((∑ x, f x * f x) * C⁻¹ + e))⁻¹ * g i, fun i => ?_⟩
  unfold rms
  rw [hc, hw]
  simp only [← EReal.coe_mul]
  rw [coe_sum, div_pos _ C hC, ← EReal.coe_mul, ← EReal.coe_add, rsqrt_pos _ hp, ← EReal.coe_mul, ← EReal.coe_mul]

/-- What the kernel's attention needs to be the reference's: reals where scores come from. -/
structure Reals (A : Args) : Prop where
  z : ∀ b t e, ∃ r : ℝ, Z A b t e = r
  sink : ∀ h, ∃ r : ℝ, A.a4 (ix2 1 h) = r
  gkv : ∀ x, ∃ r : ℝ, A.a5 (ix2 1 x) = r
  wuk : ∀ x h d, ∃ r : ℝ, A.a6 (ix4 1 x h d) = r
  gq : ∀ x, ∃ r : ℝ, A.a8 (ix2 1 x) = r
  gk : ∀ x, ∃ r : ℝ, A.a9 (ix2 1 x) = r

theorem lat_real {A : Args} (F : Reals A) (b : Fin 32) (t : Fin 256) (e : Fin 256) : ∃ r : ℝ, latS A b t e = r := by
  choose z hz using F.z
  choose g hg using F.gkv
  obtain ⟨r, hr⟩ := rms_real 1132462080#32 256 word256 (by norm_num) (fun x : Fin 256 => z b t ⟨1792 + x, by omega⟩) g
  refine ⟨r e, ?_⟩
  rw [← hr e]
  simp only [latS, hz, hg]

theorem qb_real {A : Args} (F : Reals A) (b : Fin 32) (h : Fin 4) (t : Fin 256) (j : Fin 192) : ∃ r : ℝ, qbS A b h t j = r := by
  unfold qbS
  split
  · exact F.z _ _ _
  · exact F.z _ _ _

theorem kb_real {A : Args} (F : Reals A) (b : Fin 32) (h : Fin 4) (t : Fin 256) (j : Fin 192) : ∃ r : ℝ, kbS A b h t j = r := by
  unfold kbS
  split
  · choose l hl using lat_real F
    choose w hw using F.wuk
    refine ⟨∑ x, w x h ⟨j, by assumption⟩ * l b t x, ?_⟩
    simp only [hl, hw, ← EReal.coe_mul, coe_sum]
  · exact F.z _ _ _

theorem qc_real {A : Args} (F : Reals A) (b : Fin 32) (h : Fin 4) (t : Fin 256) (d : Fin 128) : ∃ r : ℝ, qcS A b h t d = r := by
  choose z hz using F.z
  choose g hg using F.gq
  obtain ⟨r, hr⟩ := rms_real 1124073472#32 128 word128 (by norm_num) (fun x : Fin 128 => z b t ⟨2112 + (h * 128 + x), by omega⟩) g
  refine ⟨r d, ?_⟩
  rw [← hr d]
  simp only [qcS, hz, hg]

theorem kc_real {A : Args} (F : Reals A) (b : Fin 32) (h : Fin 2) (t : Fin 256) (d : Fin 128) : ∃ r : ℝ, kcS A b h t d = r := by
  choose z hz using F.z
  choose g hg using F.gk
  obtain ⟨r, hr⟩ := rms_real 1124073472#32 128 word128 (by norm_num) (fun x : Fin 128 => z b t ⟨2624 + (h * 128 + x), by omega⟩) g
  refine ⟨r d, ?_⟩
  rw [← hr d]
  simp only [kcS, hz, hg]

/-- Scaled queries against keys, all real. -/
theorem score_kern {n : ℕ} (q k : Fin n → ℝ) (s l : ℝ) :
    ∑ x, ((q x : EReal) * ((s * l : ℝ) : EReal)) * (k x : EReal) = ((((∑ x, q x * k x) * s) * l : ℝ) : EReal) := by
  simp only [← EReal.coe_mul]
  rw [coe_sum, Finset.sum_mul, Finset.sum_mul]
  exact congrArg _ (Finset.sum_congr rfl fun x _ => by ring)

/-- Queries against keys, then the scale, all real. -/
theorem score_ref {n : ℕ} (q k : Fin n → ℝ) (s : ℝ) :
    (∑ x, (q x : EReal) * (k x : EReal)) * (s : EReal) = (((∑ x, q x * k x) * s : ℝ) : EReal) := by
  simp only [← EReal.coe_mul]
  rw [coe_sum, ← EReal.coe_mul]

/-- The kernel's attention is the reference's. -/
theorem attend {n : ℕ} (q : Fin n → EReal) (k : Fin 256 → Fin n → EReal) (c s0 : EReal) (s : ℝ) (hc : c = ((s * l2 : ℝ) : EReal)) (hs : s0 = (s : EReal))
    (hq : ∀ x, ∃ r : ℝ, q x = r) (hk : ∀ a x, ∃ r : ℝ, k a x = r) (v : Fin 256 → EReal) :
    kern (fun a => ∑ x, (q x * c) * k a x) v = soft (fun a => (∑ x, q x * k a x) * s0) v := by
  choose qr hq using hq
  choose kr hk using hk
  subst hc hs
  have e1 : (fun a : Fin 256 => ∑ x, (q x * ((s * l2 : ℝ) : EReal)) * k a x) = fun a => ((((∑ x, qr x * kr a x) * s) * l2 : ℝ) : EReal) :=
    funext fun a => by simp only [hq, hk]; exact score_kern qr (kr a) s l2
  have e2 : (fun a : Fin 256 => (∑ x, q x * k a x) * (s : EReal)) = fun a => (((∑ x, qr x * kr a x) * s : ℝ) : EReal) :=
    funext fun a => by simp only [hq, hk]; exact score_ref qr (kr a) s
  rw [e1, e2]
  exact kern_eq_soft (n := 256) (by norm_num) (fun a => (∑ x, qr x * kr a x) * s) l2 l2_eq v

/-- The same with a sink. -/
theorem attendSink {n : ℕ} (q : Fin n → EReal) (k : Fin 256 → Fin n → EReal) (c s0 d z : EReal) (s : ℝ) (hc : c = ((s * l2 : ℝ) : EReal)) (hs : s0 = (s : EReal))
    (hd : d = (l2 : EReal)) (hz : ∃ r : ℝ, z = r)
    (hq : ∀ x, ∃ r : ℝ, q x = r) (hk : ∀ a x, ∃ r : ℝ, k a x = r) (v : Fin 256 → EReal) :
    kernSink (fun a => ∑ x, (q x * c) * k a x) v (z * d) = softSink (fun a => (∑ x, q x * k a x) * s0) v z := by
  choose qr hq using hq
  choose kr hk using hk
  obtain ⟨zr, rfl⟩ := hz
  subst hc hs hd
  have e1 : (fun a : Fin 256 => ∑ x, (q x * ((s * l2 : ℝ) : EReal)) * k a x) = fun a => ((((∑ x, qr x * kr a x) * s) * l2 : ℝ) : EReal) :=
    funext fun a => by simp only [hq, hk]; exact score_kern qr (kr a) s l2
  have e2 : (fun a : Fin 256 => (∑ x, q x * k a x) * (s : EReal)) = fun a => (((∑ x, qr x * kr a x) * s : ℝ) : EReal) :=
    funext fun a => by simp only [hq, hk]; exact score_ref qr (kr a) s
  rw [e1, e2, ← EReal.coe_mul]
  exact kernSink_eq_softSink (n := 256) (by norm_num) (fun a => (∑ x, qr x * kr a x) * s) zr l2 l2_eq v

section
variable {A : Args} (F : Reals A) (b : Fin 32) (h : Fin 4) (a : Fin 256) (d : Fin 128)

include F in
/-- A head of the grouped attention. -/
theorem headA_ref (k q v : FVec Ideal S256x128 .f32) (z : Ideal .f32)
    (hq : ∀ j : Fin 128, q (ix2 a j) = Z A b a ⟨h * 128 + j, by omega⟩)
    (hk : ∀ (s : Fin 256) (j : Fin 128), k (ix2 s j) = Z A b s ⟨512 + (h / 2 * 128 + j), by omega⟩)
    (hv : ∀ s : Fin 256, v (ix2 s d) = Z A b s ⟨768 + (h / 2 * 128 + d), by omega⟩)
    (hz : z = A.a4 (ix2 1 h)) :
    headA k q v z (ix2 a d) = RoA A (ix2 ⟨b * 256 + a, by omega⟩ ⟨h * 128 + d, by omega⟩) := by
  rw [headA_at, oA_at, hz]
  simp only [hq, hk, hv]
  exact attendSink _ _ _ _ _ _ _ c128_eq s128_eq c1_eq (F.sink h) (fun x => F.z _ _ _) (fun s x => F.z _ _ _) _

include F in
/-- A head of the latent attention. -/
theorem headB_ref (cl : FVec Ideal S256x256 .f32) (kr : FVec Ideal S256x64 .f32) (wk wv : FVec Ideal S256x128 .bf16) (qn : FVec Ideal S256x128 .f32)
    (qr : FVec Ideal S256x64 .f32)
    (hcl : ∀ s y : Fin 256, cl (ix2 s y) = latS A b s y)
    (hkr : ∀ (s : Fin 256) (j : Fin 64), kr (ix2 s j) = Z A b s ⟨2048 + j, by omega⟩)
    (hwk : ∀ (y : Fin 256) (x : Fin 128), wk (ix2 y x) = A.a6 (ix4 1 y h x))
    (hwv : ∀ y : Fin 256, wv (ix2 y d) = A.a7 (ix4 1 y h d))
    (hqn : ∀ j : Fin 128, qn (ix2 a j) = Z A b a ⟨1024 + (h * 128 + j), by omega⟩)
    (hqr : ∀ j : Fin 64, qr (ix2 a j) = Z A b a ⟨1536 + (h * 64 + j), by omega⟩) :
    headB cl kr wk wv qn qr (ix2 a d) = RoB A (ix2 ⟨b * 256 + a, by omega⟩ ⟨h * 128 + d, by omega⟩) := by
  rw [headB_at, oB_at]
  rw [← attend (fun x => qbS A b h a x) (fun s x => kbS A b h s x) c192 _ _ c192_eq s192_eq (fun x => qb_real F b h a x) (fun s x => kb_real F b h s x)]
  refine congrArg₂ kern (funext fun s => ?_) (funext fun s => Finset.sum_congr rfl fun y _ => ?_)
  · refine Eq.trans ?_ (Fin.sum_univ_add (a := 128) (b := 64) fun x => (qbS A b h a x * c192) * kbS A b h s x).symm
    refine congrArg₂ (· + ·) (Finset.sum_congr rfl fun x _ => ?_) (Finset.sum_congr rfl fun x _ => ?_)
    · have h1 : qbS A b h a (Fin.castAdd 64 x) = Z A b a ⟨1024 + (h * 128 + x), by omega⟩ := dif_pos x.isLt
      have h2 : kbS A b h s (Fin.castAdd 64 x) = ∑ y, A.a6 (ix4 1 y h x) * latS A b s y := dif_pos x.isLt
      rw [hqn, h1, h2]
      refine congrArg _ (Finset.sum_congr rfl fun y _ => ?_)
      rw [hcl, hwk, mul_comm]
    · have h1 : qbS A b h a (Fin.natAdd 128 x) = Z A b a ⟨1536 + (h * 64 + (128 + x - 128)), by omega⟩ := dif_neg (by simp)
      have h2 : kbS A b h s (Fin.natAdd 128 x) = Z A b s ⟨2048 + (128 + x - 128), by omega⟩ := dif_neg (by simp)
      simp only [Nat.add_sub_cancel_left] at h1 h2
      rw [hqr, hkr, h1, h2]
  · rw [hcl, hwv, mul_comm]

include F in
/-- A head of the normed attention. -/
theorem headC_ref (k q : FVec Ideal S256x128 .f32) (g : FVec Ideal S1x128 .f32) (v : FVec Ideal S256x128 .f32)
    (hq : ∀ j : Fin 128, q (ix2 a j) = Z A b a ⟨2112 + (h * 128 + j), by omega⟩)
    (hg : ∀ j : Fin 128, g (ix2 0 j) = A.a8 (ix2 1 j))
    (hk : ∀ (s : Fin 256) (j : Fin 128), k (ix2 s j) = kcS A b ⟨h / 2, by omega⟩ s j)
    (hv : ∀ s : Fin 256, v (ix2 s d) = Z A b s ⟨2880 + (h / 2 * 128 + d), by omega⟩) :
    headC k q g v (ix2 a d) = RoC A (ix2 ⟨b * 256 + a, by omega⟩ ⟨h * 128 + d, by omega⟩) := by
  rw [headC_at, oC_at]
  simp only [hq, hk, hv, hg]
  exact attend (fun x => qcS A b h a x) (fun s x => kcS A b ⟨h / 2, by omega⟩ s x) _ _ _ c128_eq s128_eq (fun x => qc_real F b h a x) (fun s x => kc_real F b _ s x) _

include F in
theorem diffT_ref (lam : FVec Ideal S1x1 .f32) (k v q : FVec Ideal S256x128 .f32)
    (hl : lam (ix2 0 0) = lamS A)
    (hq : ∀ j : Fin 128, q (ix2 a j) = Z A b a ⟨3136 + (h * 128 + j), by omega⟩)
    (hk : ∀ (s : Fin 256) (j : Fin 128), k (ix2 s j) = Z A b s ⟨3648 + (h * 128 + j), by omega⟩)
    (hv : ∀ (s : Fin 256) (j : Fin 128), v (ix2 s j) = Z A b s ⟨4160 + (h * 128 + j), by omega⟩) :
    diffT lam k v q (ix2 a d) = diffS A b h a d := by
  have m1 : ∀ s : Fin 256, (∑ x : Fin 128, (if (x : ℕ) < 64 then q (ix2 a x) * c64 else 0) * k (ix2 s x))
      = ∑ x : Fin 64, (Z A b a ⟨3136 + (h * 128 + x), by omega⟩ * c64) * Z A b s ⟨3648 + (h * 128 + x), by omega⟩ := by
    intro s
    refine (Fin.sum_univ_add (a := 64) (b := 64) _).trans ?_
    refine (congrArg₂ (· + ·) (Finset.sum_congr rfl fun x _ => ?_) (Finset.sum_eq_zero fun x _ => ?_)).trans (add_zero _)
    · rw [if_pos (show ((Fin.castAdd 64 x : Fin 128) : ℕ) < 64 from x.isLt), hq, hk]
      rfl
    · rw [if_neg (show ¬((Fin.natAdd 64 x : Fin 128) : ℕ) < 64 by simp), zero_mul]
  have m2 : ∀ s : Fin 256, (∑ x : Fin 128, (if (x : ℕ) < 64 then 0 else q (ix2 a x) * c64) * k (ix2 s x))
      = ∑ x : Fin 64, (Z A b a ⟨3136 + (h * 128 + (64 + x)), by omega⟩ * c64) * Z A b s ⟨3648 + (h * 128 + (64 + x)), by omega⟩ := by
    intro s
    refine (Fin.sum_univ_add (a := 64) (b := 64) _).trans ?_
    refine (congrArg₂ (· + ·) (Finset.sum_eq_zero fun x _ => ?_) (Finset.sum_congr rfl fun x _ => ?_)).trans (zero_add _)
    · rw [if_pos (show ((Fin.castAdd 64 x : Fin 128) : ℕ) < 64 from x.isLt), zero_mul]
    · rw [if_neg (show ¬((Fin.natAdd 64 x : Fin 128) : ℕ) < 64 by simp), hq, hk]
      rfl
  rw [diffT_at]
  simp only [m1, m2, hv, hl]
  refine congrArg₂ (· - ·) ?_ (congrArg _ ?_)
  · exact attend _ _ _ _ _ c64_eq word8 (fun x => F.z _ _ _) (fun s x => F.z _ _ _) _
  · exact attend _ _ _ _ _ c64_eq word8 (fun x => F.z _ _ _) (fun s x => F.z _ _ _) _

include F in
/-- A head of the differential attention. -/
theorem headD_ref (lam : FVec Ideal S1x1 .f32) (k v q : FVec Ideal S256x128 .f32) (g : FVec Ideal S1x128 .f32)
    (hl : lam (ix2 0 0) = lamS A)
    (hq : ∀ j : Fin 128, q (ix2 a j) = Z A b a ⟨3136 + (h * 128 + j), by omega⟩)
    (hk : ∀ (s : Fin 256) (j : Fin 128), k (ix2 s j) = Z A b s ⟨3648 + (h * 128 + j), by omega⟩)
    (hv : ∀ (s : Fin 256) (j : Fin 128), v (ix2 s j) = Z A b s ⟨4160 + (h * 128 + j), by omega⟩)
    (hg : ∀ j : Fin 128, g (ix2 0 j) = A.a11 (ix2 1 j)) :
    headD lam k v q g (ix2 a d) = RoD A (ix2 ⟨b * 256 + a, by omega⟩ ⟨h * 128 + d, by omega⟩) := by
  rw [headD_at, oD_at]
  simp only [hg, diffT_ref F b h a _ lam k v q hl hq hk hv]

end

end Cert.Ctx
-- ==== Proof.Ctx.Rel.lean ====
module

public import proofs.«01_k».proof.Proof.Ctx.Heads
public import Idealize.ShloMosaic.Lib.Pointwise
public import Idealize.ShloMosaic.Lib.Claim

@[expose] public section

set_option maxRecDepth 16384

noncomputable section

namespace Cert.Ctx

open Cert.KernelIdeal Cert.KernelIdeal.Gen
open Cert.Soft
open Cert.CtxRef (Args Z Z_eq latS lamS qbS kbS qcS kcS diffS)
open Idealize.ShloMosaic Idealize.ShloMosaic.TcCoe Idealize.SL.Sem

/-! # What the blocks of one point are of the whole arrays -/

/-- Column `e` of the regrouped weight is column `e'` of the weight. -/
def Col (e e' : ℕ) : Prop :=
  (e < 2048 ∧ e' = e) ∨ (2048 ≤ e ∧ e < 4608 ∧ e' = e + 64) ∨ (4608 ≤ e ∧ e < 4672 ∧ e' + 2560 = e)

/-- The blocks of point `t`. -/
structure Rel (A : Args) (t : Fin 16) (x0 : FVec Ideal S512x2048 .f32) (x1 : FVec Ideal S1x1x6x2048 .f32) (x2 : FVec Ideal S1x2048 .f32)
    (x3 : FVec Ideal S1x2048x4864 .bf16) (x4 : FVec Ideal S4 .f32) (x5 : FVec Ideal S1x256 .f32) (x6 x7 : FVec Ideal S256x512 .bf16)
    (x8 x9 : FVec Ideal S1x128 .f32) (x10 : FVec Ideal S4x64 .f32) (x11 : FVec Ideal S1x128 .f32) : Prop where
  h0 : ∀ (a : Fin 512) (e : Fin 2048), x0 (ix2 a e) = A.a0 (ix2 ⟨t * 512 + a, by omega⟩ e)
  h1 : ∀ (k : Fin 6) (e : Fin 2048), x1 (ix4 0 0 k e) = A.a1 (ix4 1 0 k e)
  h2 : ∀ e : Fin 2048, x2 (ix2 0 e) = A.a2 (ix2 1 e)
  h3 : ∀ (x : Fin 2048) (e : Fin 4864) (e' : Fin 4672), Col e e' → x3 (ix3 0 x e) = A.a3 (ix3 1 x e')
  h4 : ∀ h : Fin 4, x4 (ix1 h) = A.a4 (ix2 1 h)
  h5 : ∀ x : Fin 256, x5 (ix2 0 x) = A.a5 (ix2 1 x)
  h6 : ∀ (x : Fin 256) (h : Fin 4) (d : Fin 128), x6 (ix2 x ⟨h * 128 + d, by omega⟩) = A.a6 (ix4 1 x h d)
  h7 : ∀ (x : Fin 256) (h : Fin 4) (d : Fin 128), x7 (ix2 x ⟨h * 128 + d, by omega⟩) = A.a7 (ix4 1 x h d)
  h8 : ∀ x : Fin 128, x8 (ix2 0 x) = A.a8 (ix2 1 x)
  h9 : ∀ x : Fin 128, x9 (ix2 0 x) = A.a9 (ix2 1 x)
  h10 : ∀ (i : Fin 4) (j : Fin 64), x10 (ix2 i j) = A.a10 (ix3 1 i j)
  h11 : ∀ x : Fin 128, x11 (ix2 0 x) = A.a11 (ix2 1 x)

section
variable {A : Args} {t : Fin 16} {x0 : FVec Ideal S512x2048 .f32} {x1 : FVec Ideal S1x1x6x2048 .f32} {x2 : FVec Ideal S1x2048 .f32}
  {x3 : FVec Ideal S1x2048x4864 .bf16} {x4 : FVec Ideal S4 .f32} {x5 : FVec Ideal S1x256 .f32} {x6 x7 : FVec Ideal S256x512 .bf16}
  {x8 x9 : FVec Ideal S1x128 .f32} {x10 : FVec Ideal S4x64 .f32} {x11 : FVec Ideal S1x128 .f32}
  (R : Rel A t x0 x1 x2 x3 x4 x5 x6 x7 x8 x9 x10 x11)

include R in
/-- The projection of one of the point's sequences. -/
theorem z_rel (o : ℕ) (r : Fin 2) (ho : o = r * 256) (i0 i1 i2) (a : Fin 256) (e : Fin 4864) (e' : Fin 4672) (he : Col e e') :
    zT (View.ld (Val := Elt Ideal) (e' := .f32) x0 (Rect.unit ![o, 0] ![256, 2048] i0)) x2 (View.ld (Val := Elt Ideal) (e' := .f32) x1 (Rect.unit ![0, 0, 1, 0] ![1, 1, 1, 2048] i1))
      (View.ld (Val := Elt Ideal) (e' := .f32) x1 (Rect.unit ![0, 0, 0, 0] ![1, 1, 1, 2048] i2)) x3 (ix2 a e) = Z A ⟨2 * t + r, by omega⟩ a e' := by
  have e0 : ∀ y : Fin 2048, View.ld (Val := Elt Ideal) (e' := .f32) x0 (Rect.unit ![o, 0] ![256, 2048] i0) (ix2 a y) = A.a0 (ix2 ⟨(2 * t + r) * 256 + a, by omega⟩ y) := by
    intro y
    refine Eq.trans ?_ ((R.h0 ⟨o + a, by omega⟩ y).trans (congrArg A.a0 ?_))
    · refine congrArg x0 (funext fun k => Fin.ext ((Rect.idx_unit_val _ _ i0 (ix2 a y) k).trans ?_))
      fin_cases k <;> simp
    · refine congrArg (fun q => ix2 q y) (Fin.ext ?_)
      simp only
      omega
  have e1 : ∀ y : Fin 2048, View.ld (Val := Elt Ideal) (e' := .f32) x1 (Rect.unit ![0, 0, 1, 0] ![1, 1, 1, 2048] i1) (ix4 0 0 0 y) = A.a1 (ix4 1 0 1 y) := by
    intro y
    refine Eq.trans ?_ (R.h1 1 y)
    refine congrArg x1 (funext fun k => Fin.ext ((Rect.idx_unit_val _ _ i1 (ix4 0 0 0 y) k).trans ?_))
    fin_cases k <;> simp
  have e2 : ∀ y : Fin 2048, View.ld (Val := Elt Ideal) (e' := .f32) x1 (Rect.unit ![0, 0, 0, 0] ![1, 1, 1, 2048] i2) (ix4 0 0 0 y) = A.a1 (ix4 1 0 0 y) := by
    intro y
    refine Eq.trans ?_ (R.h1 0 y)
    refine congrArg x1 (funext fun k => Fin.ext ((Rect.idx_unit_val _ _ i2 (ix4 0 0 0 y) k).trans ?_))
    fin_cases k <;> simp
  rw [zT_at, Z_eq]
  simp only [e0, e1, e2, R.h2, R.h3 _ e e' he]

include R in
/-- Columns of the second sequence's projection, read back. -/
theorem col1 {σ : RefSig} {κ : Kind} {sp : Space} (v : View σ κ sp S512x4864 .f32) {o w : ℕ} (i2 i3 i4 i5)
    (L : List (View.Piece (Elt Ideal) S512x4864 .f32)) (iB) (h) (a : Fin 256) (d : Fin w) (ho : o + w ≤ 4864) (b : Fin 32) (hb : (b : ℕ) = 2 * t + 1)
    (e' : Fin 4672) (he : Col (o + d) e') :
    v.readCov (⟨Rect.unit (s := S512x4864) ![256, 0] ![256, 4864] i2,
        zT (View.ld (Val := Elt Ideal) (e' := .f32) x0 (Rect.unit ![256, 0] ![256, 2048] i3)) x2 (View.ld (Val := Elt Ideal) (e' := .f32) x1 (Rect.unit ![0, 0, 1, 0] ![1, 1, 1, 2048] i4))
          (View.ld (Val := Elt Ideal) (e' := .f32) x1 (Rect.unit ![0, 0, 0, 0] ![1, 1, 1, 2048] i5)) x3⟩ :: L)
      ((Rect.unit (s := S512x4864) ![256, 0] ![256, 4864] i2).withinL (Rect.unit (s := S256x4864) ![0, o] ![256, w] iB).toLoadRect h) (ix2 a d)
      = Z A b a e' := by
  refine Eq.trans ?_ (congrArg (fun b => Z A b a e') (show (⟨2 * t + (1 : Fin 2), by omega⟩ : Fin 32) = b from Fin.ext hb.symm))
  exact (read1 v i2 _ L iB h a d ho).trans (z_rel R 256 1 rfl i3 i4 i5 a _ e' he)

include R in
/-- Columns of the first sequence's projection, read back. -/
theorem col0 {σ : RefSig} {κ : Kind} {sp : Space} (v : View σ κ sp S512x4864 .f32) {o w : ℕ} (i1 i2 i3 i4 i5) (z2 : FVec Ideal S256x4864 .f32)
    (L : List (View.Piece (Elt Ideal) S512x4864 .f32)) (iB) (h) (a : Fin 256) (d : Fin w) (ho : o + w ≤ 4864) (b : Fin 32) (hb : (b : ℕ) = 2 * t)
    (e' : Fin 4672) (he : Col (o + d) e') :
    v.readCov (⟨Rect.unit (s := S512x4864) ![256, 0] ![256, 4864] i2, z2⟩ ::
        ⟨Rect.unit (s := S512x4864) ![0, 0] ![256, 4864] i1,
        zT (View.ld (Val := Elt Ideal) (e' := .f32) x0 (Rect.unit ![0, 0] ![256, 2048] i3)) x2 (View.ld (Val := Elt Ideal) (e' := .f32) x1 (Rect.unit ![0, 0, 1, 0] ![1, 1, 1, 2048] i4))
          (View.ld (Val := Elt Ideal) (e' := .f32) x1 (Rect.unit ![0, 0, 0, 0] ![1, 1, 1, 2048] i5)) x3⟩ :: L)
      ((Rect.unit (s := S512x4864) ![0, 0] ![256, 4864] i1).withinL (Rect.unit (s := S256x4864) ![0, o] ![256, w] iB).toLoadRect h) (ix2 a d)
      = Z A b a e' := by
  refine Eq.trans ?_ (congrArg (fun b => Z A b a e') (show (⟨2 * t + (0 : Fin 2), by omega⟩ : Fin 32) = b from Fin.ext hb.symm))
  exact (read0 v i1 i2 _ z2 L iB h a d ho).trans (z_rel R 0 0 rfl i3 i4 i5 a _ e' he)

include R in
/-- A head's weights for the latent's keys. -/
theorem wk_rel (h : Fin 4) (o : ℕ) (ho : o = h * 128) (i) (y : Fin 256) (x : Fin 128) :
    View.ld (Val := Elt Ideal) (e' := .bf16) x6 (Rect.unit ![0, o] ![256, 128] i) (ix2 y x) = A.a6 (ix4 1 y h x) := by
  refine Eq.trans ?_ (R.h6 y h x)
  refine congrArg x6 (funext fun k => Fin.ext ((Rect.idx_unit_val _ _ i (ix2 y x) k).trans ?_))
  subst ho
  fin_cases k <;> simp

include R in
/-- A head's weights for the latent's values. -/
theorem wv_rel (h : Fin 4) (o : ℕ) (ho : o = h * 128) (i) (y : Fin 256) (x : Fin 128) :
    View.ld (Val := Elt Ideal) (e' := .bf16) x7 (Rect.unit ![0, o] ![256, 128] i) (ix2 y x) = A.a7 (ix4 1 y h x) := by
  refine Eq.trans ?_ (R.h7 y h x)
  refine congrArg x7 (funext fun k => Fin.ext ((Rect.idx_unit_val _ _ i (ix2 y x) k).trans ?_))
  subst ho
  fin_cases k <;> simp

include R in
/-- Lambda. -/
theorem lam_rel : lamT x10 (ix2 0 0) = lamS A := by
  rw [lamT_at]
  simp only [R.h10]
  rfl

include R in
/-- The normed latent. -/
theorem lat_rel (b : Fin 32) (v : FVec Ideal S256x256 .f32) (a d : Fin 256)
    (hv : ∀ x : Fin 256, v (ix2 a x) = Z A b a ⟨1792 + x, by omega⟩) : latT v x5 (ix2 a d) = latS A b a d := by
  rw [latT_at]
  simp only [hv, R.h5]
  rfl

include R in
/-- The normed keys. -/
theorem kc_rel (b : Fin 32) (g : Fin 2) (v : FVec Ideal S256x128 .f32) (a : Fin 256) (d : Fin 128)
    (hv : ∀ x : Fin 128, v (ix2 a x) = Z A b a ⟨2624 + (g * 128 + x), by omega⟩) : rmsT v x9 (ix2 a d) = kcS A b g a d := by
  rw [rmsT_at]
  simp only [hv, R.h9]
  rfl

end

end Cert.Ctx
-- ==== Proof.Ctx.Points.lean ====
module

public import proofs.«01_k».proof.Proof.Ctx.Value
public import proofs.«01_k».proof.Proof.Ctx.Rel
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS)
open Idealize.ShloMosaic Idealize.ShloMosaic.TcCoe Idealize.SL.Sem
open Idealize.ShloMosaic.Pipeline (Dat Window)

variable (m : (ℓ : Loc nD τ sig) → Buf (Elt Ideal) ℓ)

/-- The arrays the kernel runs on. -/
def argsK (c : Dev nD) : Args :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8), m (c.tc.loc main_arg9), m (c.tc.loc main_arg10), m (c.tc.loc main_arg11), m (c.tc.loc main_arg12), m (c.tc.loc main_arg13), m (c.tc.loc main_arg14), m (c.tc.loc main_arg15), m (c.tc.loc main_arg16), m (c.tc.loc main_arg17), m (c.tc.loc main_arg18)⟩

theorem idx : ∀ t : Fin cfg0.N, win0_0.index t = ![t.val, 0] ∧ win0_1.index t = ![1, 0, 0, 0] ∧ win0_2.index t = ![0, 0]
    ∧ win0_3.index t = ![1, 0, 0] ∧ win0_4.index t = ![0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

theorem idxO : ∀ t : Fin cfg0.N, win0_12.index t = ![t.val, 0] ∧ win0_13.index t = ![t.val, 0] ∧ win0_14.index t = ![t.val, 0]
    ∧ win0_15.index t = ![t.val, 0] ∧ win0_16.index t = ![t.val, 1, 0, 0, 0] ∧ win0_17.index t = ![t.val, 1, 0, 0, 0]
    ∧ win0_18.index t = ![t.val, 1, 0, 0] ∧ win0_19.index t = ![t.val, 1, 0, 0, 0] ∧ win0_20.index t = ![t.val, 1, 0, 0, 0]
    ∧ win0_21.index t = ![t.val, 1, 0, 0, 0] ∧ win0_22.index t = ![t.val, 1, 0, 0, 0] :=
  (by decide +kernel : ∀ t : Fin grid0.N, _)

section blocks
variable (c : Dev nD) (t : Fin cfg0.N)
theorem tlt : t.val < 16 := t.isLt
theorem rd0 (a : Fin 512) (e : Fin 2048) : iblk m c 0 t (ix2 a e) = m (c.tc.loc main_arg0) (ix2 ⟨t.val * 512 + a, by have := tlt t; omega⟩ e) := by
  have := tlt t
  blk_ext [iblk, V, idx t]
theorem rd1 (k : Fin 6) (e : Fin 2048) : iblk m c 1 t (ix4 0 0 k e) = m (c.tc.loc main_arg1) (ix4 1 0 k e) := by
  blk_ext [iblk, V, idx t]
theorem rd2 (e : Fin 2048) : iblk m c 2 t (ix2 0 e) = m (c.tc.loc main_arg2) (ix2 1 e) := by
  blk_simp [iblk, idx t]
  entry_read
  pointwise
  blk_ext [idx t]
theorem rd4 (h : Fin 4) : iblk m c 4 t (ix1 h) = m (c.tc.loc main_arg4) (ix2 1 h) := by
  blk_simp [iblk, idx t]
  entry_read
  pointwise
  blk_ext [idx t]
theorem rd5 (x : Fin 256) : iblk m c 5 t (ix2 0 x) = m (c.tc.loc main_arg5) (ix2 1 x) := by
  blk_simp [iblk, idx t]
  entry_read
  pointwise
  blk_ext [idx t]
theorem rd8 (x : Fin 128) : iblk m c 8 t (ix2 0 x) = m (c.tc.loc main_arg8) (ix2 1 x) := by
  blk_simp [iblk, idx t]
  entry_read
  pointwise
  blk_ext [idx t]
theorem rd9 (x : Fin 128) : iblk m c 9 t (ix2 0 x) = m (c.tc.loc main_arg9) (ix2 1 x) := by
  blk_simp [iblk, idx t]
  entry_read
  pointwise
  blk_ext [idx t]
theorem rd10 (i : Fin 4) (j : Fin 64) : iblk m c 10 t (ix2 i j) = m (c.tc.loc main_arg10) (ix3 1 i j) := by
  blk_simp [iblk, idx t]
  entry_read
  pointwise
  blk_ext [idx t]
theorem rd11 (x : Fin 128) : iblk m c 11 t (ix2 0 x) = m (c.tc.loc main_arg11) (ix2 1 x) := by
  blk_simp [iblk, idx t]
  entry_read
  pointwise
  blk_ext [idx t]

theorem upk (f : S2x256x4x128.Idx → EReal) (x : Fin 256) (h : Fin 4) (d : Fin 128) :
    shapeCast main_v16.ty.shape
      (extractStridedSlice S1x256x512 ![1, 0, 0]
        (fun i => shapeCast main_v6.ty.shape f shapeCasts_S2x256x4x128_S2x256x512 i)
        slices_S2x256x512_S1x256x512_1_0_0)
      shapeCasts_S1x256x512_S256x512 (ix2 x ⟨↑h * 128 + ↑d, by omega⟩) = f (ix4 1 x h d) := by
  pointwise
  congr 1
  funext i
  fin_cases i <;> apply Fin.ext
  · rfl
  · rfl
  · show (h.val * 128 + d.val) / 128 = h.val; omega
  · show (h.val * 128 + d.val) % 128 = d.val; omega
theorem rd6 (x : Fin 256) (h : Fin 4) (d : Fin 128) : iblk m c 6 t (ix2 x ⟨h * 128 + d, by omega⟩) = m (c.tc.loc main_arg6) (ix4 1 x h d) := by
  have e : ∀ b : Fin 512, ((View.whole main_v16).slice (win0_6.rect t)).emb (ix2 x b) = ix2 x b := fun b => by blk_ext [idx t]
  blk_simp [iblk, idx t]
  entry_read
  refine Eq.trans ?_ (upk (m (c.tc.loc main_arg6)) x h d)
  exact congrArg _ (e _)
theorem rd7 (x : Fin 256) (h : Fin 4) (d : Fin 128) : iblk m c 7 t (ix2 x ⟨h * 128 + d, by omega⟩) = m (c.tc.loc main_arg7) (ix4 1 x h d) := by
  have e : ∀ b : Fin 512, ((View.whole main_v18).slice (win0_7.rect t)).emb (ix2 x b) = ix2 x b := fun b => by blk_ext [idx t]
  blk_simp [iblk, idx t]
  entry_read
  refine Eq.trans ?_ (upk (m (c.tc.loc main_arg7)) x h d)
  exact congrArg _ (e _)

/-- The reordered and padded projection weight, as the host line computes it. -/
theorem wpad : ∃ z : S2x2048x192.Idx → EReal, V m c main_v5
    = concatenate S2x2048x4864 2 [⟨S2x2048x2048, extractStridedSlice S2x2048x2048 ![0, 0, 0] (m (c.tc.loc main_arg3)) slices_S2x2048x4672_S2x2048x2048_0_0_0⟩,
        ⟨S2x2048x2560, extractStridedSlice S2x2048x2560 ![0, 0, 2112] (m (c.tc.loc main_arg3)) slices_S2x2048x4672_S2x2048x2560_0_0_2112⟩,
        ⟨S2x2048x64, extractStridedSlice S2x2048x64 ![0, 0, 2048] (m (c.tc.loc main_arg3)) slices_S2x2048x4672_S2x2048x64_0_0_2048⟩,
        ⟨S2x2048x192, z⟩] concatenates_S2x2048x2048_S2x2048x2560_S2x2048x64_S2x2048x192_S2x2048x4864_d2 :=
  ⟨_, rfl⟩
theorem cat_at (w : S2x2048x4672.Idx → EReal) (z : S2x2048x192.Idx → EReal) (x : Fin 2048) (e : Fin 4864) (e' : Fin 4672) (he : Col e e') :
    concatenate S2x2048x4864 2 [⟨S2x2048x2048, extractStridedSlice S2x2048x2048 ![0, 0, 0] w slices_S2x2048x4672_S2x2048x2048_0_0_0⟩,
        ⟨S2x2048x2560, extractStridedSlice S2x2048x2560 ![0, 0, 2112] w slices_S2x2048x4672_S2x2048x2560_0_0_2112⟩,
        ⟨S2x2048x64, extractStridedSlice S2x2048x64 ![0, 0, 2048] w slices_S2x2048x4672_S2x2048x64_0_0_2048⟩,
        ⟨S2x2048x192, z⟩] concatenates_S2x2048x2048_S2x2048x2560_S2x2048x64_S2x2048x192_S2x2048x4864_d2 (ix3 1 x e) = w (ix3 1 x e') := by
  rcases he with ⟨h1, h2⟩ | ⟨h0, h1, h2⟩ | ⟨h0, h1, h2⟩
  · refine Eq.trans (concatenate_apply_piece (t := S2x2048x4864) 2 _ _ (ix3 1 x e) 0 (by simp) S2x2048x2048 _ rfl rfl 0 rfl (ix3 1 x ⟨e, by omega⟩) ?_ ?_) ?_
    · intro b hb; fin_cases b <;> first | exact absurd rfl hb | rfl
    · exact Nat.zero_add _
    · pointwise
      refine congrArg w ?_
      funext b
      fin_cases b <;> apply Fin.ext <;> simp <;> omega
  · refine Eq.trans (concatenate_apply_piece (t := S2x2048x4864) 2 _ _ (ix3 1 x e) 1 (by simp) S2x2048x2560 _ rfl rfl 2048 rfl (ix3 1 x ⟨e - 2048, by omega⟩) ?_ ?_) ?_
    · intro b hb; fin_cases b <;> first | exact absurd rfl hb | rfl
    · exact Nat.add_sub_cancel' h0
    · pointwise
      refine congrArg w ?_
      funext b
      fin_cases b <;> apply Fin.ext <;> simp <;> omega
  · refine Eq.trans (concatenate_apply_piece (t := S2x2048x4864) 2 _ _ (ix3 1 x e) 2 (by simp) S2x2048x64 _ rfl rfl 4608 rfl (ix3 1 x ⟨e - 4608, by omega⟩) ?_ ?_) ?_
    · intro b hb; fin_cases b <;> first | exact absurd rfl hb | rfl
    · exact Nat.add_sub_cancel' h0
    · pointwise
      refine congrArg w ?_
      funext b
      fin_cases b <;> apply Fin.ext <;> simp <;> omega

theorem rd3 (x : Fin 2048) (e : Fin 4864) (e' : Fin 4672) (he : Col e e') : iblk m c 3 t (ix3 0 x e) = m (c.tc.loc main_arg3) (ix3 1 x e') := by
  have q : ((View.whole main_v5).slice (win0_3.rect t)).emb (ix3 0 x e) = ix3 1 x e := by blk_ext [idx t]
  obtain ⟨z, hz⟩ := wpad m c
  blk_simp [iblk, idx t]
  refine (congrFun hz _).trans ?_
  refine Eq.trans (congrArg _ q) ?_
  exact cat_at (m (c.tc.loc main_arg3)) z x e e' he

/-- The blocks a grid point receives are the parts of the arguments the point theorems speak of. -/
theorem rel : Rel (argsK m c) ⟨t.val, tlt t⟩ (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) where
  h0 := rd0 m c t
  h1 := rd1 m c t
  h2 := rd2 m c t
  h3 := rd3 m c t
  h4 := rd4 m c t
  h5 := rd5 m c t
  h6 := rd6 m c t
  h7 := rd7 m c t
  h8 := rd8 m c t
  h9 := rd9 m c t
  h10 := rd10 m c t
  h11 := rd11 m c t
end blocks

end Cert.Ctx

end
-- ==== Proof.Ctx.Pt12.lean ====
module

public import proofs.«01_k».proof.Proof.Ctx.Rel
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

/-- The head as the kernel writes it elsewhere. -/
theorem headA_e (k q v : FVec Ideal S256x128 .f32) (z : Ideal .f32) :
    k0_pay96 (F := Ideal) (k0_pay92 k) (k0_pay93 v) (k0_pay94 q) (k0_pay95 z) = headA k q v z := rfl

/-- The head as the kernel writes it elsewhere. -/
theorem headA_f (k q v : FVec Ideal S256x128 .f32) (z : Ideal .f32) :
    k0_pay103 (F := Ideal) (k0_pay100 (k0_pay92 k) (k0_pay93 v) q z) (k0_pay101 (k0_pay92 k) (k0_pay93 v) q z) (k0_pay102 (k0_pay92 k) q z) = headA k q v z := rfl

/-- The head as the kernel writes it elsewhere. -/
theorem headA_g (k q v : FVec Ideal S256x128 .f32) (z : Ideal .f32) :
    k0_pay108 (F := Ideal) (k0_pay106 k) (k0_pay107 v) q z = headA k q v z := rfl

/-- The head as the kernel writes it elsewhere. -/
theorem headA_h (k q v : FVec Ideal S256x128 .f32) (z : Ideal .f32) :
    k0_pay111 (F := Ideal) (k0_pay107 v) (k0_pay109 z) (k0_pay110 (k0_pay106 k) q) = headA k q v z := rfl

/-- The head as the kernel writes it elsewhere. -/
theorem headA_d (k q v : FVec Ideal S256x128 .f32) (z : Ideal .f32) :
    k0_pay24 (F := Ideal) (k0_pay20 z) (k0_pay22 (k0_pay16 k) q z) (k0_pay23 (k0_pay16 k) (k0_pay17 v) q z) = headA k q v z := rfl

/-- The head as the kernel writes it elsewhere. -/
theorem headA_a (k q v : FVec Ideal S256x128 .f32) (z : Ideal .f32) :
    k0_pay11 (F := Ideal) (k0_pay6 v) (k0_pay7 z) (k0_pay9 k q z) (k0_pay10 k q z) = headA k q v z := rfl

/-- The head as the kernel writes it elsewhere. -/
theorem headA_b (k q v : FVec Ideal S256x128 .f32) (z : Ideal .f32) :
    k0_pay13 (F := Ideal) (k0_pay12 (k0_pay5 k) (k0_pay6 v) q z) = headA k q v z := rfl

/-- The head as the kernel writes it elsewhere. -/
theorem headA_c (k q v : FVec Ideal S256x128 .f32) (z : Ideal .f32) :
    k0_pay19 (F := Ideal) (k0_pay16 k) (k0_pay17 v) (k0_pay18 q) z = headA k q v z := rfl

set_option maxHeartbeats 1000000 in
/-- One point's block of the grouped attention's output. -/
theorem pt12 (A : Args) (F : Reals A) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S512x512.Idx) (r e : Fin 512) (hr : (r : ℕ) = y 0) (he : (e : ℕ) = y 1) :
    out0_A_12 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = RoA A (ix2 ⟨t * 512 + r, by omega⟩ e) := by
  frame_out
  canon_tiles y h
  case piece0 =>
    obtain ⟨a, d, rfl⟩ : ∃ (a : Fin 256) (d : Fin 128), y = ix2 a d := ⟨y 0, y 1, eq_ix2 y⟩
    have e0 : (r : ℕ) = 256 + a := hr.trans h0
    have e1 : (e : ℕ) = 384 + d := he.trans h1
    refine (congrFun (headA_h _ _ _ _) _).trans ?_
    refine Eq.trans (headA_ref F ⟨2 * t + 1, by omega⟩ 3 a d _ _ _ _ ?_ ?_ ?_ ?_) ?_
    · try simp (disch := decide) only [View.ld_unit_lit', Memref.IsWhole.read_unread]
      exact (fun j => col1 R _ _ _ _ _ _ _ _ a j (by decide) _ rfl _ (by unfold Col; norm_num; try omega))
    · try simp (disch := decide) only [View.ld_unit_lit', Memref.IsWhole.read_unread]
      exact (fun s j => col1 R _ _ _ _ _ _ _ _ s j (by decide) _ rfl _ (by unfold Col; norm_num; try omega))
    · try simp (disch := decide) only [View.ld_unit_lit', Memref.IsWhole.read_unread]
      exact (fun s => col1 R _ _ _ _ _ _ _ _ s d (by decide) _ rfl _ (by unfold Col; norm_num; try omega))
    · refine Eq.trans (congrArg x4 (?_ : _ = ix1 3)) (R.h4 3); funext k; fin_cases k; rfl
    exact congrArg₂ (fun p q => RoA A (ix2 p q)) (Fin.ext (by simp only; omega)) (Fin.ext (by norm_num; omega))
  case piece1 =>
    obtain ⟨a, d, rfl⟩ : ∃ (a : Fin 256) (d : Fin 128), y = ix2 a d := ⟨y 0, y 1, eq_ix2 y⟩
    have e0 : (r : ℕ) = 256 + a := hr.trans h0
    have e1 : (e : ℕ) = 256 + d := he.trans h1
    refine (congrFun (headA_g _ _ _ _) _).trans ?_
    refine Eq.trans (headA_ref F ⟨2 * t + 1, by omega⟩ 2 a d _ _ _ _ ?_ ?_ ?_ ?_) ?_
    · try simp (disch := decide) only [View.ld_unit_lit', Memref.IsWhole.read_unread]
      exact (fun j => col1 R _ _ _ _ _ _ _ _ a j (by decide) _ rfl _ (by unfold Col; norm_num; try omega))
    · try simp (disch := decide) only [View.ld_unit_lit', Memref.IsWhole.read_unread]
      exact (fun s j => col1 R _ _ _ _ _ _ _ _ s j (by decide) _ rfl _ (by unfold Col; norm_num; try omega))
    · try simp (disch := decide) only [View.ld_unit_lit', Memref.IsWhole.read_unread]
      exact (fun s => col1 R _ _ _ _ _ _ _ _ s d (by decide) _ rfl _ (by unfold Col; norm_num; try omega))
    · refine Eq.trans (congrArg x4 (?_ : _ = ix1 2)) (R.h4 2); funext k; fin_cases k; rfl
    exact congrArg₂ (fun p q => RoA A (ix2 p q)) (Fin.ext (by simp only; omega)) (Fin.ext (by norm_num; omega))
  case piece2 =>
    obtain ⟨a, d, rfl⟩ : ∃ (a : Fin 256) (d : Fin 128), y = ix2 a d := ⟨y 0, y 1, eq_ix2 y⟩
    have e0 : (r : ℕ) = 256 + a := hr.trans h0
    have e1 : (e : ℕ) = 128 + d := he.trans h1
    refine (congrFun (headA_f _ _ _ _) _).trans ?_
    refine Eq.trans (headA_ref F ⟨2 * t + 1, by omega⟩ 1 a d _ _ _ _ ?_ ?_ ?_ ?_) ?_
    · try simp (disch := decide) only [View.ld_unit_lit', Memref.IsWhole.read_unread]
      exact (fun j => col1 R _ _ _ _ _ _ _ _ a j (by decide) _ rfl _ (by unfold Col; norm_num; try omega))
    · try simp (disch := decide) only [View.ld_unit_lit', Memref.IsWhole.read_unread]
      exact (fun s j => col1 R _ _ _ _ _ _ _ _ s j (by decide) _ rfl _ (by unfold Col; norm_num; try omega))
    · try simp (disch := decide) only [View.ld_unit_lit', Memref.IsWhole.read_unread]
      exact (fun s => col1 R _ _ _ _ _ _ _ _ s d (by decide) _ rfl _ (by unfold Col; norm_num; try omega))
    · refine Eq.trans (congrArg x4 (?_ : _ = ix1 1)) (R.h4 1); funext k; fin_cases k; rfl
    exact congrArg₂ (fun p q => RoA A (ix2 p q)) (Fin.ext (by simp only; omega)) (Fin.ext (by norm_num; omega))
  case piece3 =>
    obtain ⟨a, d, rfl⟩ : ∃ (a : Fin 256) (d : Fin 128), y = ix2 a d := ⟨y 0, y 1, eq_ix2 y⟩
    have e0 : (r : ℕ) = 256 + a := hr.trans h0
    have e1 : (e : ℕ) = d := he.trans h1
    refine (congrFun (headA_e _ _ _ _) _).trans ?_
    refine Eq.trans (headA_ref F ⟨2 * t + 1, by omega⟩ 0 a d _ _ _ _ ?_ ?_ ?_ ?_) ?_
    · try simp (disch := decide) only [View.ld_unit_lit', Memref.IsWhole.read_unread]
      exact (fun j => col1 R _ _ _ _ _ _ _ _ a j (by decide) _ rfl _ (by unfold Col; norm_num; try omega))
    · try simp (disch := decide) only [View.ld_unit_lit', Memref.IsWhole.read_unread]
      exact (fun s j => col1 R _ _ _ _ _ _ _ _ s j (by decide) _ rfl _ (by unfold Col; norm_num; try omega))
    · try simp (disch := decide) only [View.ld_unit_lit', Memref.IsWhole.read_unread]
      exact (fun s => col1 R _ _ _ _ _ _ _ _ s d (by decide) _ rfl _ (by unfold Col; norm_num; try omega))
    · refine Eq.trans (congrArg x4 (?_ : _ = ix1 0)) (R.h4 0); funext k; fin_cases k; rfl
    exact congrArg₂ (fun p q => RoA A (ix2 p q)) (Fin.ext (by simp only; omega)) (Fin.ext (by norm_num; omega))
  case piece4 =>
    obtain ⟨a, d, rfl⟩ : ∃ (a : Fin 256) (d : Fin 128), y = ix2 a d := ⟨y 0, y 1, eq_ix2 y⟩
    have e0 : (r : ℕ) = a := hr.trans h0
    have e1 : (e : ℕ) = 384 + d := he.trans h1
    refine (congrFun (headA_d _ _ _ _) _).trans ?_
    refine Eq.trans (headA_ref F ⟨2 * t, by omega⟩ 3 a d _ _ _ _ ?_ ?_ ?_ ?_) ?_
    · try simp (disch := decide) only [View.ld_unit_lit', Memref.IsWhole.read_unread]
      exact (fun j => col0 R _ _ _ _ _ _ _ _ _ _ a j (by decide) _ rfl _ (by unfold Col; norm_num; try omega))
    · try simp (disch := decide) only [View.ld_unit_lit', Memref.IsWhole.read_unread]
      exact (fun s j => col0 R _ _ _ _ _ _ _ _ _ _ s j (by decide) _ rfl _ (by unfold Col; norm_num; try omega))
    · try simp (disch := decide) only [View.ld_unit_lit', Memref.IsWhole.read_unread]
      exact (fun s => col0 R _ _ _ _ _ _ _ _ _ _ s d (by decide) _ rfl _ (by unfold Col; norm_num; try omega))
    · refine Eq.trans (congrArg x4 (?_ : _ = ix1 3)) (R.h4 3); funext k; fin_cases k; rfl
    exact congrArg₂ (fun p q => RoA A (ix2 p q)) (Fin.ext (by simp only; omega)) (Fin.ext (by norm_num; omega))
  case piece5 =>
    obtain ⟨a, d, rfl⟩ : ∃ (a : Fin 256) (d : Fin 128), y = ix2 a d := ⟨y 0, y 1, eq_ix2 y⟩
    have e0 : (r : ℕ) = a := hr.trans h0
    have e1 : (e : ℕ) = 256 + d := he.trans h1
    refine (congrFun (headA_c _ _ _ _) _).trans ?_
    refine Eq.trans (headA_ref F ⟨2 * t, by omega⟩ 2 a d _ _ _ _ ?_ ?_ ?_ ?_) ?_
    · try simp (disch := decide) only [View.ld_unit_lit', Memref.IsWhole.read_unread]
      exact (fun j => col0 R _ _ _ _ _ _ _ _ _ _ a j (by decide) _ rfl _ (by unfold Col; norm_num; try omega))
    · try simp (disch := decide) only [View.ld_unit_lit', Memref.IsWhole.read_unread]
      exact (fun s j => col0 R _ _ _ _ _ _ _ _ _ _ s j (by decide) _ rfl _ (by unfold Col; norm_num; try omega))
    · try simp (disch := decide) only [View.ld_unit_lit', Memref.IsWhole.read_unread]
      exact (fun s => col0 R _ _ _ _ _ _ _ _ _ _ s d (by decide) _ rfl _ (by unfold Col; norm_num; try omega))
    · refine Eq.trans (congrArg x4 (?_ : _ = ix1 2)) (R.h4 2); funext k; fin_cases k; rfl
    exact congrArg₂ (fun p q => RoA A (ix2 p q)) (Fin.ext (by simp only; omega)) (Fin.ext (by norm_num; omega))
  case piece6 =>
    obtain ⟨a, d, rfl⟩ : ∃ (a : Fin 256) (d : Fin 128), y = ix2 a d := ⟨y 0, y 1, eq_ix2 y⟩
    have e0 : (r : ℕ) = a := hr.trans h0
    have e1 : (e : ℕ) = 128 + d := he.trans h1
    refine (congrFun (headA_b _ _ _ _) _).trans ?_
    refine Eq.trans (headA_ref F ⟨2 * t, by omega⟩ 1 a d _ _ _ _ ?_ ?_ ?_ ?_) ?_
    · try simp (disch := decide) only [View.ld_unit_lit', Memref.IsWhole.read_unread]
      exact (fun j => col0 R _ _ _ _ _ _ _ _ _ _ a j (by decide) _ rfl _ (by unfold Col; norm_num; try omega))
    · try simp (disch := decide) only [View.ld_unit_lit', Memref.IsWhole.read_unread]
      exact (fun s j => col0 R _ _ _ _ _ _ _ _ _ _ s j (by decide) _ rfl _ (by unfold Col; norm_num; try omega))
    · try simp (disch := decide) only [View.ld_unit_lit', Memref.IsWhole.read_unread]
      exact (fun s => col0 R _ _ _ _ _ _ _ _ _ _ s d (by decide) _ rfl _ (by unfold Col; norm_num; try omega))
    · refine Eq.trans (congrArg x4 (?_ : _ = ix1 1)) (R.h4 1); funext k; fin_cases k; rfl
    exact congrArg₂ (fun p q => RoA A (ix2 p q)) (Fin.ext (by simp only; omega)) (Fin.ext (by norm_num; omega))
  case piece7 =>
    obtain ⟨a, d, rfl⟩ : ∃ (a : Fin 256) (d : Fin 128), y = ix2 a d := ⟨y 0, y 1, eq_ix2 y⟩
    have e0 : (r : ℕ) = a := hr.trans h0
    have e1 : (e : ℕ) = d := he.trans h1
    refine (congrFun (headA_a _ _ _ _) _).trans ?_
    refine Eq.trans (headA_ref F ⟨2 * t, by omega⟩ 0 a d _ _ _ _ ?_ ?_ ?_ ?_) ?_
    · try simp (disch := decide) only [View.ld_unit_lit', Memref.IsWhole.read_unread]
      exact (fun j => col0 R _ _ _ _ _ _ _ _ _ _ a j (by decide) _ rfl _ (by unfold Col; norm_num; try omega))
    · try simp (disch := decide) only [View.ld_unit_lit', Memref.IsWhole.read_unread]
      exact (fun s j => col0 R _ _ _ _ _ _ _ _ _ _ s j (by decide) _ rfl _ (by unfold Col; norm_num; try omega))
    · try simp (disch := decide) only [View.ld_unit_lit', Memref.IsWhole.read_unread]
      exact (fun s => col0 R _ _ _ _ _ _ _ _ _ _ s d (by decide) _ rfl _ (by unfold Col; norm_num; try omega))
    · refine Eq.trans (congrArg x4 (?_ : _ = ix1 0)) (R.h4 0); funext k; fin_cases k; rfl
    exact congrArg₂ (fun p q => RoA A (ix2 p q)) (Fin.ext (by simp only; omega)) (Fin.ext (by norm_num; omega))

end Cert.Ctx
-- ==== Proof.Ctx.Pt13.lean ====
module

public import proofs.«01_k».proof.Proof.Ctx.Rel
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

/-- One point's block of the latent attention's output. -/
theorem pt13 (A : Args) (F : Reals A) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S512x512.Idx) (r e : Fin 512) (hr : (r : ℕ) = y 0) (he : (e : ℕ) = y 1) :
    out0_A_13 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = RoB A (ix2 ⟨t * 512 + r, by omega⟩ e) := by
  frame_out
  canon_tiles y h
  case piece0 =>
    obtain ⟨a, d, rfl⟩ : ∃ (a : Fin 256) (d : Fin 128), y = ix2 a d := ⟨y 0, y 1, eq_ix2 y⟩
    have e0 : (r : ℕ) = 256 + a := hr.trans h0
    have e1 : (e : ℕ) = 384 + d := he.trans h1
    refine (headB_ref F ⟨2 * t + 1, by omega⟩ 3 a d _ _ _ _ _ _
      (fun s y => lat_rel R _ _ s y fun x => col1 R _ _ _ _ _ _ _ _ s x (by decide) _ rfl _ (by unfold Col; norm_num; try omega))
      (fun s j => col1 R _ _ _ _ _ _ _ _ s j (by decide) _ rfl _ (by unfold Col; norm_num; try omega))
      (fun y x => wk_rel R 3 _ rfl _ y x)
      (fun y => wv_rel R 3 _ rfl _ y d)
      (fun j => col1 R _ _ _ _ _ _ _ _ a j (by decide) _ rfl _ (by unfold Col; norm_num; try omega))
      (fun j => col1 R _ _ _ _ _ _ _ _ a j (by decide) _ rfl _ (by unfold Col; norm_num; try omega))).trans ?_
    exact congrArg₂ (fun p q => RoB A (ix2 p q)) (Fin.ext (by simp only; omega)) (Fin.ext (by norm_num; omega))
  case piece1 =>
    obtain ⟨a, d, rfl⟩ : ∃ (a : Fin 256) (d : Fin 128), y = ix2 a d := ⟨y 0, y 1, eq_ix2 y⟩
    have e0 : (r : ℕ) = 256 + a := hr.trans h0
    have e1 : (e : ℕ) = 256 + d := he.trans h1
    refine (headB_ref F ⟨2 * t + 1, by omega⟩ 2 a d _ _ _ _ _ _
      (fun s y => lat_rel R _ _ s y fun x => col1 R _ _ _ _ _ _ _ _ s x (by decide) _ rfl _ (by unfold Col; norm_num; try omega))
      (fun s j => col1 R _ _ _ _ _ _ _ _ s j (by decide) _ rfl _ (by unfold Col; norm_num; try omega))
      (fun y x => wk_rel R 2 _ rfl _ y x)
      (fun y => wv_rel R 2 _ rfl _ y d)
      (fun j => col1 R _ _ _ _ _ _ _ _ a j (by decide) _ rfl _ (by unfold Col; norm_num; try omega))
      (fun j => col1 R _ _ _ _ _ _ _ _ a j (by decide) _ rfl _ (by unfold Col; norm_num; try omega))).trans ?_
    exact congrArg₂ (fun p q => RoB A (ix2 p q)) (Fin.ext (by simp only; omega)) (Fin.ext (by norm_num; omega))
  case piece2 =>
    obtain ⟨a, d, rfl⟩ : ∃ (a : Fin 256) (d : Fin 128), y = ix2 a d := ⟨y 0, y 1, eq_ix2 y⟩
    have e0 : (r : ℕ) = 256 + a := hr.trans h0
    have e1 : (e : ℕ) = 128 + d := he.trans h1
    refine (headB_ref F ⟨2 * t + 1, by omega⟩ 1 a d _ _ _ _ _ _
      (fun s y => lat_rel R _ _ s y fun x => col1 R _ _ _ _ _ _ _ _ s x (by decide) _ rfl _ (by unfold Col; norm_num; try omega))
      (fun s j => col1 R _ _ _ _ _ _ _ _ s j (by decide) _ rfl _ (by unfold Col; norm_num; try omega))
      (fun y x => wk_rel R 1 _ rfl _ y x)
      (fun y => wv_rel R 1 _ rfl _ y d)
      (fun j => col1 R _ _ _ _ _ _ _ _ a j (by decide) _ rfl _ (by unfold Col; norm_num; try omega))
      (fun j => col1 R _ _ _ _ _ _ _ _ a j (by decide) _ rfl _ (by unfold Col; norm_num; try omega))).trans ?_
    exact congrArg₂ (fun p q => RoB A (ix2 p q)) (Fin.ext (by simp only; omega)) (Fin.ext (by norm_num; omega))
  case piece3 =>
    obtain ⟨a, d, rfl⟩ : ∃ (a : Fin 256) (d : Fin 128), y = ix2 a d := ⟨y 0, y 1, eq_ix2 y⟩
    have e0 : (r : ℕ) = 256 + a := hr.trans h0
    have e1 : (e : ℕ) = d := he.trans h1
    refine (headB_ref F ⟨2 * t + 1, by omega⟩ 0 a d _ _ _ _ _ _
      (fun s y => lat_rel R _ _ s y fun x => col1 R _ _ _ _ _ _ _ _ s x (by decide) _ rfl _ (by unfold Col; norm_num; try omega))
      (fun s j => col1 R _ _ _ _ _ _ _ _ s j (by decide) _ rfl _ (by unfold Col; norm_num; try omega))
      (fun y x => wk_rel R 0 _ rfl _ y x)
      (fun y => wv_rel R 0 _ rfl _ y d)
      (fun j => col1 R _ _ _ _ _ _ _ _ a j (by decide) _ rfl _ (by unfold Col; norm_num; try omega))
      (fun j => col1 R _ _ _ _ _ _ _ _ a j (by decide) _ rfl _ (by unfold Col; norm_num; try omega))).trans ?_
    exact congrArg₂ (fun p q => RoB A (ix2 p q)) (Fin.ext (by simp only; omega)) (Fin.ext (by norm_num; omega))
  case piece4 =>
    obtain ⟨a, d, rfl⟩ : ∃ (a : Fin 256) (d : Fin 128), y = ix2 a d := ⟨y 0, y 1, eq_ix2 y⟩
    have e0 : (r : ℕ) = a := hr.trans h0
    have e1 : (e : ℕ) = 384 + d := he.trans h1
    refine (headB_ref F ⟨2 * t, by omega⟩ 3 a d _ _ _ _ _ _
      (fun s y => lat_rel R _ _ s y fun x => col0 R _ _ _ _ _ _ _ _ _ _ s x (by decide) _ rfl _ (by unfold Col; norm_num; try omega))
      (fun s j => col0 R _ _ _ _ _ _ _ _ _ _ s j (by decide) _ rfl _ (by unfold Col; norm_num; try omega))
      (fun y x => wk_rel R 3 _ rfl _ y x)
      (fun y => wv_rel R 3 _ rfl _ y d)
      (fun j => col0 R _ _ _ _ _ _ _ _ _ _ a j (by decide) _ rfl _ (by unfold Col; norm_num; try omega))
      (fun j => col0 R _ _ _ _ _ _ _ _ _ _ a j (by decide) _ rfl _ (by unfold Col; norm_num; try omega))).trans ?_
    exact congrArg₂ (fun p q => RoB A (ix2 p q)) (Fin.ext (by simp only; omega)) (Fin.ext (by norm_num; omega))
  case piece5 =>
    obtain ⟨a, d, rfl⟩ : ∃ (a : Fin 256) (d : Fin 128), y = ix2 a d := ⟨y 0, y 1, eq_ix2 y⟩
    have e0 : (r : ℕ) = a := hr.trans h0
    have e1 : (e : ℕ) = 256 + d := he.trans h1
    refine (headB_ref F ⟨2 * t, by omega⟩ 2 a d _ _ _ _ _ _
      (fun s y => lat_rel R _ _ s y fun x => col0 R _ _ _ _ _ _ _ _ _ _ s x (by decide) _ rfl _ (by unfold Col; norm_num; try omega))
      (fun s j => col0 R _ _ _ _ _ _ _ _ _ _ s j (by decide) _ rfl _ (by unfold Col; norm_num; try omega))
      (fun y x => wk_rel R 2 _ rfl _ y x)
      (fun y => wv_rel R 2 _ rfl _ y d)
      (fun j => col0 R _ _ _ _ _ _ _ _ _ _ a j (by decide) _ rfl _ (by unfold Col; norm_num; try omega))
      (fun j => col0 R _ _ _ _ _ _ _ _ _ _ a j (by decide) _ rfl _ (by unfold Col; norm_num; try omega))).trans ?_
    exact congrArg₂ (fun p q => RoB A (ix2 p q)) (Fin.ext (by simp only; omega)) (Fin.ext (by norm_num; omega))
  case piece6 =>
    obtain ⟨a, d, rfl⟩ : ∃ (a : Fin 256) (d : Fin 128), y = ix2 a d := ⟨y 0, y 1, eq_ix2 y⟩
    have e0 : (r : ℕ) = a := hr.trans h0
    have e1 : (e : ℕ) = 128 + d := he.trans h1
    refine (headB_ref F ⟨2 * t, by omega⟩ 1 a d _ _ _ _ _ _
      (fun s y => lat_rel R _ _ s y fun x => col0 R _ _ _ _ _ _ _ _ _ _ s x (by decide) _ rfl _ (by unfold Col; norm_num; try omega))
      (fun s j => col0 R _ _ _ _ _ _ _ _ _ _ s j (by decide) _ rfl _ (by unfold Col; norm_num; try omega))
      (fun y x => wk_rel R 1 _ rfl _ y x)
      (fun y => wv_rel R 1 _ rfl _ y d)
      (fun j => col0 R _ _ _ _ _ _ _ _ _ _ a j (by decide) _ rfl _ (by unfold Col; norm_num; try omega))
      (fun j => col0 R _ _ _ _ _ _ _ _ _ _ a j (by decide) _ rfl _ (by unfold Col; norm_num; try omega))).trans ?_
    exact congrArg₂ (fun p q => RoB A (ix2 p q)) (Fin.ext (by simp only; omega)) (Fin.ext (by norm_num; omega))
  case piece7 =>
    obtain ⟨a, d, rfl⟩ : ∃ (a : Fin 256) (d : Fin 128), y = ix2 a d := ⟨y 0, y 1, eq_ix2 y⟩
    have e0 : (r : ℕ) = a := hr.trans h0
    have e1 : (e : ℕ) = d := he.trans h1
    refine (headB_ref F ⟨2 * t, by omega⟩ 0 a d _ _ _ _ _ _
      (fun s y => lat_rel R _ _ s y fun x => col0 R _ _ _ _ _ _ _ _ _ _ s x (by decide) _ rfl _ (by unfold Col; norm_num; try omega))
      (fun s j => col0 R _ _ _ _ _ _ _ _ _ _ s j (by decide) _ rfl _ (by unfold Col; norm_num; try omega))
      (fun y x => wk_rel R 0 _ rfl _ y x)
      (fun y => wv_rel R 0 _ rfl _ y d)
      (fun j => col0 R _ _ _ _ _ _ _ _ _ _ a j (by decide) _ rfl _ (by unfold Col; norm_num; try omega))
      (fun j => col0 R _ _ _ _ _ _ _ _ _ _ a j (by decide) _ rfl _ (by unfold Col; norm_num; try omega))).trans ?_
    exact congrArg₂ (fun p q => RoB A (ix2 p q)) (Fin.ext (by simp only; omega)) (Fin.ext (by norm_num; omega))

end Cert.Ctx
-- ==== Proof.Ctx.Pt14.lean ====
module

public import proofs.«01_k».proof.Proof.Ctx.Rel
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

/-- The head as the kernel writes it elsewhere. -/
theorem headC_c (k q : FVec Ideal S256x128 .f32) (g : FVec Ideal S1x128 .f32) (v : FVec Ideal S256x128 .f32) :
    k0_pay139 (F := Ideal) (k0_pay135 k) (k0_pay136 v) (k0_pay137 q) (k0_pay138 g) = headC k q g v := rfl

/-- The head as the kernel writes it elsewhere. -/
theorem headC_b (k q : FVec Ideal S256x128 .f32) (g : FVec Ideal S1x128 .f32) (v : FVec Ideal S256x128 .f32) :
    k0_pay141 (F := Ideal) (k0_pay136 v) (k0_pay140 (k0_pay135 k) q g) = headC k q g v := rfl

set_option maxHeartbeats 1000000 in
/-- One point's block of the normed attention's output. -/
theorem pt14 (A : Args) (F : Reals A) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S512x512.Idx) (r e : Fin 512) (hr : (r : ℕ) = y 0) (he : (e : ℕ) = y 1) :
    out0_A_14 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = RoC A (ix2 ⟨t * 512 + r, by omega⟩ e) := by
  frame_out
  canon_tiles y h
  case piece0 =>
    obtain ⟨a, d, rfl⟩ : ∃ (a : Fin 256) (d : Fin 128), y = ix2 a d := ⟨y 0, y 1, eq_ix2 y⟩
    have e0 : (r : ℕ) = 256 + a := hr.trans h0
    have e1 : (e : ℕ) = 384 + d := he.trans h1
    refine (headC_ref F ⟨2 * t + 1, by omega⟩ 3 a d _ _ _ _
      (fun j => col1 R _ _ _ _ _ _ _ _ a j (by decide) _ rfl _ (by unfold Col; norm_num; try omega))
      R.h8
      (fun s j => kc_rel R _ _ _ s j fun x => col1 R _ _ _ _ _ _ _ _ s x (by decide) _ rfl _ (by unfold Col; norm_num; try omega))
      (fun s => col1 R _ _ _ _ _ _ _ _ s d (by decide) _ rfl _ (by unfold Col; norm_num; try omega))).trans ?_
    exact congrArg₂ (fun p q => RoC A (ix2 p q)) (Fin.ext (by simp only; omega)) (Fin.ext (by norm_num; omega))
  case piece1 =>
    obtain ⟨a, d, rfl⟩ : ∃ (a : Fin 256) (d : Fin 128), y = ix2 a d := ⟨y 0, y 1, eq_ix2 y⟩
    have e0 : (r : ℕ) = 256 + a := hr.trans h0
    have e1 : (e : ℕ) = 256 + d := he.trans h1
    refine (headC_ref F ⟨2 * t + 1, by omega⟩ 2 a d _ _ _ _
      (fun j => col1 R _ _ _ _ _ _ _ _ a j (by decide) _ rfl _ (by unfold Col; norm_num; try omega))
      R.h8
      (fun s j => kc_rel R _ _ _ s j fun x => col1 R _ _ _ _ _ _ _ _ s x (by decide) _ rfl _ (by unfold Col; norm_num; try omega))
      (fun s => col1 R _ _ _ _ _ _ _ _ s d (by decide) _ rfl _ (by unfold Col; norm_num; try omega))).trans ?_
    exact congrArg₂ (fun p q => RoC A (ix2 p q)) (Fin.ext (by simp only; omega)) (Fin.ext (by norm_num; omega))
  case piece2 =>
    obtain ⟨a, d, rfl⟩ : ∃ (a : Fin 256) (d : Fin 128), y = ix2 a d := ⟨y 0, y 1, eq_ix2 y⟩
    have e0 : (r : ℕ) = 256 + a := hr.trans h0
    have e1 : (e : ℕ) = 128 + d := he.trans h1
    refine (congrFun (headC_b _ _ _ _) _).trans ?_
    refine Eq.trans (headC_ref F ⟨2 * t + 1, by omega⟩ 1 a d _ _ _ _ ?_ ?_ ?_ ?_) ?_
    · try simp (disch := decide) only [View.ld_unit_lit', Memref.IsWhole.read_unread]
      exact (fun j => col1 R _ _ _ _ _ _ _ _ a j (by decide) _ rfl _ (by unfold Col; norm_num; try omega))
    · exact R.h8
    · try simp (disch := decide) only [View.ld_unit_lit', Memref.IsWhole.read_unread]
      exact (fun s j => kc_rel R _ _ _ s j fun x => col1 R _ _ _ _ _ _ _ _ s x (by decide) _ rfl _ (by unfold Col; norm_num; try omega))
    · try simp (disch := decide) only [View.ld_unit_lit', Memref.IsWhole.read_unread]
      exact (fun s => col1 R _ _ _ _ _ _ _ _ s d (by decide) _ rfl _ (by unfold Col; norm_num; try omega))
    exact congrArg₂ (fun p q => RoC A (ix2 p q)) (Fin.ext (by simp only; omega)) (Fin.ext (by norm_num; omega))
  case piece3 =>
    obtain ⟨a, d, rfl⟩ : ∃ (a : Fin 256) (d : Fin 128), y = ix2 a d := ⟨y 0, y 1, eq_ix2 y⟩
    have e0 : (r : ℕ) = 256 + a := hr.trans h0
    have e1 : (e : ℕ) = d := he.trans h1
    refine (congrFun (headC_c _ _ _ _) _).trans ?_
    refine Eq.trans (headC_ref F ⟨2 * t + 1, by omega⟩ 0 a d _ _ _ _ ?_ ?_ ?_ ?_) ?_
    · try simp (disch := decide) only [View.ld_unit_lit', Memref.IsWhole.read_unread]
      exact (fun j => col1 R _ _ _ _ _ _ _ _ a j (by decide) _ rfl _ (by unfold Col; norm_num; try omega))
    · exact R.h8
    · try simp (disch := decide) only [View.ld_unit_lit', Memref.IsWhole.read_unread]
      exact (fun s j => kc_rel R _ _ _ s j fun x => col1 R _ _ _ _ _ _ _ _ s x (by decide) _ rfl _ (by unfold Col; norm_num; try omega))
    · try simp (disch := decide) only [View.ld_unit_lit', Memref.IsWhole.read_unread]
      exact (fun s => col1 R _ _ _ _ _ _ _ _ s d (by decide) _ rfl _ (by unfold Col; norm_num; try omega))
    exact congrArg₂ (fun p q => RoC A (ix2 p q)) (Fin.ext (by simp only; omega)) (Fin.ext (by norm_num; omega))
  case piece4 =>
    obtain ⟨a, d, rfl⟩ : ∃ (a : Fin 256) (d : Fin 128), y = ix2 a d := ⟨y 0, y 1, eq_ix2 y⟩
    have e0 : (r : ℕ) = a := hr.trans h0
    have e1 : (e : ℕ) = 384 + d := he.trans h1
    refine (headC_ref F ⟨2 * t, by omega⟩ 3 a d _ _ _ _
      (fun j => col0 R _ _ _ _ _ _ _ _ _ _ a j (by decide) _ rfl _ (by unfold Col; norm_num; try omega))
      R.h8
      (fun s j => kc_rel R _ _ _ s j fun x => col0 R _ _ _ _ _ _ _ _ _ _ s x (by decide) _ rfl _ (by unfold Col; norm_num; try omega))
      (fun s => col0 R _ _ _ _ _ _ _ _ _ _ s d (by decide) _ rfl _ (by unfold Col; norm_num; try omega))).trans ?_
    exact congrArg₂ (fun p q => RoC A (ix2 p q)) (Fin.ext (by simp only; omega)) (Fin.ext (by norm_num; omega))
  case piece5 =>
    obtain ⟨a, d, rfl⟩ : ∃ (a : Fin 256) (d : Fin 128), y = ix2 a d := ⟨y 0, y 1, eq_ix2 y⟩
    have e0 : (r : ℕ) = a := hr.trans h0
    have e1 : (e : ℕ) = 256 + d := he.trans h1
    refine (headC_ref F ⟨2 * t, by omega⟩ 2 a d _ _ _ _
      (fun j => col0 R _ _ _ _ _ _ _ _ _ _ a j (by decide) _ rfl _ (by unfold Col; norm_num; try omega))
      R.h8
      (fun s j => kc_rel R _ _ _ s j fun x => col0 R _ _ _ _ _ _ _ _ _ _ s x (by decide) _ rfl _ (by unfold Col; norm_num; try omega))
      (fun s => col0 R _ _ _ _ _ _ _ _ _ _ s d (by decide) _ rfl _ (by unfold Col; norm_num; try omega))).trans ?_
    exact congrArg₂ (fun p q => RoC A (ix2 p q)) (Fin.ext (by simp only; omega)) (Fin.ext (by norm_num; omega))
  case piece6 =>
    obtain ⟨a, d, rfl⟩ : ∃ (a : Fin 256) (d : Fin 128), y = ix2 a d := ⟨y 0, y 1, eq_ix2 y⟩
    have e0 : (r : ℕ) = a := hr.trans h0
    have e1 : (e : ℕ) = 128 + d := he.trans h1
    refine (headC_ref F ⟨2 * t, by omega⟩ 1 a d _ _ _ _
      (fun j => col0 R _ _ _ _ _ _ _ _ _ _ a j (by decide) _ rfl _ (by unfold Col; norm_num; try omega))
      R.h8
      (fun s j => kc_rel R _ _ _ s j fun x => col0 R _ _ _ _ _ _ _ _ _ _ s x (by decide) _ rfl _ (by unfold Col; norm_num; try omega))
      (fun s => col0 R _ _ _ _ _ _ _ _ _ _ s d (by decide) _ rfl _ (by unfold Col; norm_num; try omega))).trans ?_
    exact congrArg₂ (fun p q => RoC A (ix2 p q)) (Fin.ext (by simp only; omega)) (Fin.ext (by norm_num; omega))
  case piece7 =>
    obtain ⟨a, d, rfl⟩ : ∃ (a : Fin 256) (d : Fin 128), y = ix2 a d := ⟨y 0, y 1, eq_ix2 y⟩
    have e0 : (r : ℕ) = a := hr.trans h0
    have e1 : (e : ℕ) = d := he.trans h1
    refine (headC_ref F ⟨2 * t, by omega⟩ 0 a d _ _ _ _
      (fun j => col0 R _ _ _ _ _ _ _ _ _ _ a j (by decide) _ rfl _ (by unfold Col; norm_num; try omega))
      R.h8
      (fun s j => kc_rel R _ _ _ s j fun x => col0 R _ _ _ _ _ _ _ _ _ _ s x (by decide) _ rfl _ (by unfold Col; norm_num; try omega))
      (fun s => col0 R _ _ _ _ _ _ _ _ _ _ s d (by decide) _ rfl _ (by unfold Col; norm_num; try omega))).trans ?_
    exact congrArg₂ (fun p q => RoC A (ix2 p q)) (Fin.ext (by simp only; omega)) (Fin.ext (by norm_num; omega))

end Cert.Ctx
-- ==== Proof.Ctx.Pt15.lean ====
module

public import proofs.«01_k».proof.Proof.Ctx.Rel
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

/-- One point's block of the differential attention's output. -/
theorem pt15 (A : Args) (F : Reals A) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S512x512.Idx) (r e : Fin 512) (hr : (r : ℕ) = y 0) (he : (e : ℕ) = y 1) :
    out0_A_15 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = RoD A (ix2 ⟨t * 512 + r, by omega⟩ e) := by
  frame_out
  canon_tiles y h
  case piece0 =>
    obtain ⟨a, d, rfl⟩ : ∃ (a : Fin 256) (d : Fin 128), y = ix2 a d := ⟨y 0, y 1, eq_ix2 y⟩
    have e0 : (r : ℕ) = 256 + a := hr.trans h0
    have e1 : (e : ℕ) = 384 + d := he.trans h1
    refine (headD_ref F ⟨2 * t + 1, by omega⟩ 3 a d _ _ _ _ _
      (lam_rel R)
      (fun j => col1 R _ _ _ _ _ _ _ _ a j (by decide) _ rfl _ (by unfold Col; norm_num; try omega))
      (fun s j => col1 R _ _ _ _ _ _ _ _ s j (by decide) _ rfl _ (by unfold Col; norm_num; try omega))
      (fun s j => col1 R _ _ _ _ _ _ _ _ s j (by decide) _ rfl _ (by unfold Col; norm_num; try omega))
      R.h11).trans ?_
    exact congrArg₂ (fun p q => RoD A (ix2 p q)) (Fin.ext (by simp only; omega)) (Fin.ext (by norm_num; omega))
  case piece1 =>
    obtain ⟨a, d, rfl⟩ : ∃ (a : Fin 256) (d : Fin 128), y = ix2 a d := ⟨y 0, y 1, eq_ix2 y⟩
    have e0 : (r : ℕ) = 256 + a := hr.trans h0
    have e1 : (e : ℕ) = 256 + d := he.trans h1
    refine (headD_ref F ⟨2 * t + 1, by omega⟩ 2 a d _ _ _ _ _
      (lam_rel R)
      (fun j => col1 R _ _ _ _ _ _ _ _ a j (by decide) _ rfl _ (by unfold Col; norm_num; try omega))
      (fun s j => col1 R _ _ _ _ _ _ _ _ s j (by decide) _ rfl _ (by unfold Col; norm_num; try omega))
      (fun s j => col1 R _ _ _ _ _ _ _ _ s j (by decide) _ rfl _ (by unfold Col; norm_num; try omega))
      R.h11).trans ?_
    exact congrArg₂ (fun p q => RoD A (ix2 p q)) (Fin.ext (by simp only; omega)) (Fin.ext (by norm_num; omega))
  case piece2 =>
    obtain ⟨a, d, rfl⟩ : ∃ (a : Fin 256) (d : Fin 128), y = ix2 a d := ⟨y 0, y 1, eq_ix2 y⟩
    have e0 : (r : ℕ) = 256 + a := hr.trans h0
    have e1 : (e : ℕ) = 128 + d := he.trans h1
    refine (headD_ref F ⟨2 * t + 1, by omega⟩ 1 a d _ _ _ _ _
      (lam_rel R)
      (fun j => col1 R _ _ _ _ _ _ _ _ a j (by decide) _ rfl _ (by unfold Col; norm_num; try omega))
      (fun s j => col1 R _ _ _ _ _ _ _ _ s j (by decide) _ rfl _ (by unfold Col; norm_num; try omega))
      (fun s j => col1 R _ _ _ _ _ _ _ _ s j (by decide) _ rfl _ (by unfold Col; norm_num; try omega))
      R.h11).trans ?_
    exact congrArg₂ (fun p q => RoD A (ix2 p q)) (Fin.ext (by simp only; omega)) (Fin.ext (by norm_num; omega))
  case piece3 =>
    obtain ⟨a, d, rfl⟩ : ∃ (a : Fin 256) (d : Fin 128), y = ix2 a d := ⟨y 0, y 1, eq_ix2 y⟩
    have e0 : (r : ℕ) = 256 + a := hr.trans h0
    have e1 : (e : ℕ) = d := he.trans h1
    refine (headD_ref F ⟨2 * t + 1, by omega⟩ 0 a d _ _ _ _ _
      (lam_rel R)
      (fun j => col1 R _ _ _ _ _ _ _ _ a j (by decide) _ rfl _ (by unfold Col; norm_num; try omega))
      (fun s j => col1 R _ _ _ _ _ _ _ _ s j (by decide) _ rfl _ (by unfold Col; norm_num; try omega))
      (fun s j => col1 R _ _ _ _ _ _ _ _ s j (by decide) _ rfl _ (by unfold Col; norm_num; try omega))
      R.h11).trans ?_
    exact congrArg₂ (fun p q => RoD A (ix2 p q)) (Fin.ext (by simp only; omega)) (Fin.ext (by norm_num; omega))
  case piece4 =>
    obtain ⟨a, d, rfl⟩ : ∃ (a : Fin 256) (d : Fin 128), y = ix2 a d := ⟨y 0, y 1, eq_ix2 y⟩
    have e0 : (r : ℕ) = a := hr.trans h0
    have e1 : (e : ℕ) = 384 + d := he.trans h1
    refine (headD_ref F ⟨2 * t, by omega⟩ 3 a d _ _ _ _ _
      (lam_rel R)
      (fun j => col0 R _ _ _ _ _ _ _ _ _ _ a j (by decide) _ rfl _ (by unfold Col; norm_num; try omega))
      (fun s j => col0 R _ _ _ _ _ _ _ _ _ _ s j (by decide) _ rfl _ (by unfold Col; norm_num; try omega))
      (fun s j => col0 R _ _ _ _ _ _ _ _ _ _ s j (by decide) _ rfl _ (by unfold Col; norm_num; try omega))
      R.h11).trans ?_
    exact congrArg₂ (fun p q => RoD A (ix2 p q)) (Fin.ext (by simp only; omega)) (Fin.ext (by norm_num; omega))
  case piece5 =>
    obtain ⟨a, d, rfl⟩ : ∃ (a : Fin 256) (d : Fin 128), y = ix2 a d := ⟨y 0, y 1, eq_ix2 y⟩
    have e0 : (r : ℕ) = a := hr.trans h0
    have e1 : (e : ℕ) = 256 + d := he.trans h1
    refine (headD_ref F ⟨2 * t, by omega⟩ 2 a d _ _ _ _ _
      (lam_rel R)
      (fun j => col0 R _ _ _ _ _ _ _ _ _ _ a j (by decide) _ rfl _ (by unfold Col; norm_num; try omega))
      (fun s j => col0 R _ _ _ _ _ _ _ _ _ _ s j (by decide) _ rfl _ (by unfold Col; norm_num; try omega))
      (fun s j => col0 R _ _ _ _ _ _ _ _ _ _ s j (by decide) _ rfl _ (by unfold Col; norm_num; try omega))
      R.h11).trans ?_
    exact congrArg₂ (fun p q => RoD A (ix2 p q)) (Fin.ext (by simp only; omega)) (Fin.ext (by norm_num; omega))
  case piece6 =>
    obtain ⟨a, d, rfl⟩ : ∃ (a : Fin 256) (d : Fin 128), y = ix2 a d := ⟨y 0, y 1, eq_ix2 y⟩
    have e0 : (r : ℕ) = a := hr.trans h0
    have e1 : (e : ℕ) = 128 + d := he.trans h1
    refine (headD_ref F ⟨2 * t, by omega⟩ 1 a d _ _ _ _ _
      (lam_rel R)
      (fun j => col0 R _ _ _ _ _ _ _ _ _ _ a j (by decide) _ rfl _ (by unfold Col; norm_num; try omega))
      (fun s j => col0 R _ _ _ _ _ _ _ _ _ _ s j (by decide) _ rfl _ (by unfold Col; norm_num; try omega))
      (fun s j => col0 R _ _ _ _ _ _ _ _ _ _ s j (by decide) _ rfl _ (by unfold Col; norm_num; try omega))
      R.h11).trans ?_
    exact congrArg₂ (fun p q => RoD A (ix2 p q)) (Fin.ext (by simp only; omega)) (Fin.ext (by norm_num; omega))
  case piece7 =>
    obtain ⟨a, d, rfl⟩ : ∃ (a : Fin 256) (d : Fin 128), y = ix2 a d := ⟨y 0, y 1, eq_ix2 y⟩
    have e0 : (r : ℕ) = a := hr.trans h0
    have e1 : (e : ℕ) = d := he.trans h1
    refine (headD_ref F ⟨2 * t, by omega⟩ 0 a d _ _ _ _ _
      (lam_rel R)
      (fun j => col0 R _ _ _ _ _ _ _ _ _ _ a j (by decide) _ rfl _ (by unfold Col; norm_num; try omega))
      (fun s j => col0 R _ _ _ _ _ _ _ _ _ _ s j (by decide) _ rfl _ (by unfold Col; norm_num; try omega))
      (fun s j => col0 R _ _ _ _ _ _ _ _ _ _ s j (by decide) _ rfl _ (by unfold Col; norm_num; try omega))
      R.h11).trans ?_
    exact congrArg₂ (fun p q => RoD A (ix2 p q)) (Fin.ext (by simp only; omega)) (Fin.ext (by norm_num; omega))

end Cert.Ctx
-- ==== Proof.Ctx.Final.lean ====
module

public import proofs.«01_k».proof.Proof.Ctx.Points
public import proofs.«01_k».proof.Proof.Ctx.Pt12
public import proofs.«01_k».proof.Proof.Ctx.Pt13
public import proofs.«01_k».proof.Proof.Ctx.Pt14
public import proofs.«01_k».proof.Proof.Ctx.Pt15

public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD RstKa RstVa RstMla RstKc RstVc RstKd RstVd stKa_at stVa_at stMla_at stKc_at stVc_at stKd_at stVd_at)
open Idealize.ShloMosaic Idealize.ShloMosaic.TcCoe Idealize.SL.Sem
open Idealize.ShloMosaic.Pipeline (Dat Window)

/-! # The attention outputs the kernel leaves -/

variable (m : (ℓ : Loc nD τ sig) → Buf (Elt Ideal) ℓ)

theorem final12 (c : Dev nD) (H : Reals (argsK m c)) : (dats m 0 c).arrAt 12 (cfgs 0).N = RoA (argsK m c) := by
  refine (dats m 0 c).arrAt_eq_of_covers 12 _ (by decide +kernel) fun t _ y => ?_
  blk_simp
  rw [after0_12]
  simp only [outsAt0]
  refine Eq.trans (pt12 (argsK m c) H ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 1) rfl rfl) ?_
  refine congrArg (RoA (argsK m c)) ?_
  blk_ext [idxO t]

theorem final13 (c : Dev nD) (H : Reals (argsK m c)) : (dats m 0 c).arrAt 13 (cfgs 0).N = RoB (argsK m c) := by
  refine (dats m 0 c).arrAt_eq_of_covers 13 _ (by decide +kernel) fun t _ y => ?_
  blk_simp
  rw [after0_13]
  simp only [outsAt0]
  refine Eq.trans (pt13 (argsK m c) H ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 1) rfl rfl) ?_
  refine congrArg (RoB (argsK m c)) ?_
  blk_ext [idxO t]

theorem final14 (c : Dev nD) (H : Reals (argsK m c)) : (dats m 0 c).arrAt 14 (cfgs 0).N = RoC (argsK m c) := by
  refine (dats m 0 c).arrAt_eq_of_covers 14 _ (by decide +kernel) fun t _ y => ?_
  blk_simp
  rw [after0_14]
  simp only [outsAt0]
  refine Eq.trans (pt14 (argsK m c) H ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 1) rfl rfl) ?_
  refine congrArg (RoC (argsK m c)) ?_
  blk_ext [idxO t]

theorem final15 (c : Dev nD) (H : Reals (argsK m c)) : (dats m 0 c).arrAt 15 (cfgs 0).N = RoD (argsK m c) := by
  refine (dats m 0 c).arrAt_eq_of_covers 15 _ (by decide +kernel) fun t _ y => ?_
  blk_simp
  rw [after0_15]
  simp only [outsAt0]
  refine Eq.trans (pt15 (argsK m c) H ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 1) rfl rfl) ?_
  refine congrArg (RoD (argsK m c)) ?_
  blk_ext [idxO t]

end Cert.Ctx

end
-- ==== Proof.Ctx.St.lean ====
module

public import proofs.«01_k».proof.Proof.Ctx.Rel
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

/-- A coordinate of a placed index. -/
theorem emb_val {s : Shape} {R : Rect s} {y : R.shape.Idx} {z : s.Idx} (h : R.emb y = z) (k) : ((z k : Fin _) : ℕ) = R.off k + R.stride k * (y k : ℕ) := by
  subst h; exact R.emb_apply y k

/-- A group's payload read at a place of the state. -/
theorem payS {sz : Fin 5 → ℕ} (e : sz = ![1, 1, 1, 256, 128]) (hR : (⟨5, sz⟩ : Shape).numel = S1x256x128.numel) (w : S1x256x128.Idx → EReal)
    (y : (⟨5, sz⟩ : Shape).Idx) (a : Fin 256) (d : Fin 128) (ha : (a : ℕ) = y 3) (hd : (d : ℕ) = y 4) :
    w (Shape.reshapeEquiv hR y) = w (ix3 0 a d) := by
  subst e
  have e1 : Shape.reshapeEquiv hR y = (ix3 0 a d : S1x256x128.Idx) := by
    apply Shape.reshapeEquiv_eq_of_rowMajor
    have h0 : (y 0 : ℕ) < 1 := (y 0).isLt
    have h1 : (y 1 : ℕ) < 1 := (y 1).isLt
    have h2 : (y 2 : ℕ) < 1 := (y 2).isLt
    refine (Shape.rowMajor_val_three _).trans (Eq.trans ?_ (Shape.rowMajor_val_five _).symm)
    show ((0 : ℕ) * 256 + a) * 128 + d = (((((y 0 : ℕ) * 1 + y 1) * 1 + y 2) * 256 + y 3) * 128 + y 4)
    rw [ha, hd]; omega
  rw [e1]

/-- A group's payload, the columns behind a unit axis. -/
theorem payC (v : FVec Ideal S256x128 .f32) (h) (a : Fin 256) (d : Fin 128) : shapeCast S1x256x128 v h (ix3 0 a d) = v (ix2 a d) := by
  pointwise

/-- A block's payload read at a place of the state. -/
theorem payM {W : ℕ} {sz : Fin 4 → ℕ} (e : sz = ![1, 1, 256, W]) (hR : (⟨4, sz⟩ : Shape).numel = (⟨2, ![256, W]⟩ : Shape).numel)
    (w : (⟨2, ![256, W]⟩ : Shape).Idx → EReal) (y : (⟨4, sz⟩ : Shape).Idx) (a : Fin 256) (d : Fin W) (ha : (a : ℕ) = y 2) (hd : (d : ℕ) = y 3) :
    w (Shape.reshapeEquiv hR y) = w (ix2 a d) := by
  subst e
  refine congrArg w (Shape.reshapeEquiv_eq_of_rowMajor _ ?_)
  have h0 : (y 0 : ℕ) < 1 := (y 0).isLt
  have h1 : (y 1 : ℕ) < 1 := (y 1).isLt
  refine (Shape.rowMajor_val_two _).trans (Eq.trans ?_ (Shape.rowMajor_val_four _).symm)
  show (a : ℕ) * W + d = ((((y 0 : ℕ) * 1 + y 1) * 256 + y 2) * W + y 3)
  rw [ha, hd, show (y 0 : ℕ) = 0 by omega, show (y 1 : ℕ) = 0 by omega]; simp

end Cert.Ctx
-- ==== Proof.Ctx.Pt16.lean ====
module

public import proofs.«01_k».proof.Proof.Ctx.St
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

set_option maxHeartbeats 1000000 in
/-- One point's block of the keys of the grouped attention. -/
theorem pt16 (A : Args) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S2x1x2x256x128.Idx) (r : Fin 2) (g : Fin 2) (a : Fin 256) (d : Fin 128)
    (hr : (r : ℕ) = y 0) (hg : (g : ℕ) = y 2) (ha : (a : ℕ) = y 3) (hd : (d : ℕ) = y 4) :
    out0_A_16 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = Z A ⟨2 * t + r, by omega⟩ a ⟨512 + (g * 128 + d), by omega⟩ := by
  frame_out
  canon_tiles y h
  case piece0 =>
    have k0 : (r : ℕ) = 1 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece1 =>
    have k0 : (r : ℕ) = 1 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece2 =>
    have k0 : (r : ℕ) = 0 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece3 =>
    have k0 : (r : ℕ) = 0 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)

end Cert.Ctx
-- ==== Proof.Ctx.Pt17.lean ====
module

public import proofs.«01_k».proof.Proof.Ctx.St
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

set_option maxHeartbeats 1000000 in
/-- One point's block of the values of the grouped attention. -/
theorem pt17 (A : Args) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S2x1x2x256x128.Idx) (r : Fin 2) (g : Fin 2) (a : Fin 256) (d : Fin 128)
    (hr : (r : ℕ) = y 0) (hg : (g : ℕ) = y 2) (ha : (a : ℕ) = y 3) (hd : (d : ℕ) = y 4) :
    out0_A_17 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = Z A ⟨2 * t + r, by omega⟩ a ⟨768 + (g * 128 + d), by omega⟩ := by
  frame_out
  canon_tiles y h
  case piece0 =>
    have k0 : (r : ℕ) = 1 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece1 =>
    have k0 : (r : ℕ) = 1 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece2 =>
    have k0 : (r : ℕ) = 0 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece3 =>
    have k0 : (r : ℕ) = 0 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)

end Cert.Ctx
-- ==== Proof.Ctx.Pt18.lean ====
module

public import proofs.«01_k».proof.Proof.Ctx.St
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

set_option maxHeartbeats 1000000 in
/-- One point's block of the latent state. -/
theorem pt18 (A : Args) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S2x1x256x320.Idx) (r : Fin 2) (a : Fin 256) (e : Fin 320)
    (hr : (r : ℕ) = y 0) (ha : (a : ℕ) = y 2) (he : (e : ℕ) = y 3) :
    out0_A_18 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = if h : e.val < 256 then latS A ⟨2 * t + r, by omega⟩ a ⟨e, h⟩ else Z A ⟨2 * t + r, by omega⟩ a ⟨2048 + (e - 256), by omega⟩ := by
  frame_out
  canon_tiles y h using View.cover_of_tiledBy _ ![1, 1, 256, 64] (by sl_kernel_rfl) _
  case piece0 =>
    have k0 : (r : ℕ) = 1 + 1 * (y 0 : ℕ) := hr.trans (emb_val h 0)
    have k2 : (a : ℕ) = 0 + 1 * (y 2 : ℕ) := ha.trans (emb_val h 2)
    have k3 : (e : ℕ) = 256 + 1 * (y 3 : ℕ) := he.trans (emb_val h 3)
    have l0 : (y 0 : ℕ) < 1 := (y 0).isLt
    have l3 : (y 3 : ℕ) < 64 := (y 3).isLt
    obtain rfl : r = 1 := Fin.ext (by show (r : ℕ) = 1; omega)
    rw [dif_neg (by omega)]
    refine (payM (W := 64) rfl _ _ y a (⟨(e : ℕ) - 256, by omega⟩) (by omega) (by show (e : ℕ) - 256 = _; omega)).trans ?_
    exact col1 R _ _ _ _ _ _ _ _ a _ (by decide) _ rfl _ (by unfold Col; norm_num; try omega)
  case piece1 =>
    have k0 : (r : ℕ) = 1 + 1 * (y 0 : ℕ) := hr.trans (emb_val h 0)
    have k2 : (a : ℕ) = 0 + 1 * (y 2 : ℕ) := ha.trans (emb_val h 2)
    have k3 : (e : ℕ) = 0 + 1 * (y 3 : ℕ) := he.trans (emb_val h 3)
    have l0 : (y 0 : ℕ) < 1 := (y 0).isLt
    have l3 : (y 3 : ℕ) < 256 := (y 3).isLt
    obtain rfl : r = 1 := Fin.ext (by show (r : ℕ) = 1; omega)
    rw [dif_pos (by omega)]
    refine (payM (W := 256) rfl _ _ y a (⟨(e : ℕ) - 0, by omega⟩) (by omega) (by show (e : ℕ) - 0 = _; omega)).trans ?_
    exact lat_rel R _ _ a _ fun x => col1 R _ _ _ _ _ _ _ _ a x (by decide) _ rfl _ (by unfold Col; norm_num; try omega)
  case piece2 =>
    have k0 : (r : ℕ) = 0 + 1 * (y 0 : ℕ) := hr.trans (emb_val h 0)
    have k2 : (a : ℕ) = 0 + 1 * (y 2 : ℕ) := ha.trans (emb_val h 2)
    have k3 : (e : ℕ) = 256 + 1 * (y 3 : ℕ) := he.trans (emb_val h 3)
    have l0 : (y 0 : ℕ) < 1 := (y 0).isLt
    have l3 : (y 3 : ℕ) < 64 := (y 3).isLt
    obtain rfl : r = 0 := Fin.ext (by show (r : ℕ) = 0; omega)
    rw [dif_neg (by omega)]
    refine (payM (W := 64) rfl _ _ y a (⟨(e : ℕ) - 256, by omega⟩) (by omega) (by show (e : ℕ) - 256 = _; omega)).trans ?_
    exact col0 R _ _ _ _ _ _ _ _ _ _ a _ (by decide) _ rfl _ (by unfold Col; norm_num; try omega)
  case piece3 =>
    have k0 : (r : ℕ) = 0 + 1 * (y 0 : ℕ) := hr.trans (emb_val h 0)
    have k2 : (a : ℕ) = 0 + 1 * (y 2 : ℕ) := ha.trans (emb_val h 2)
    have k3 : (e : ℕ) = 0 + 1 * (y 3 : ℕ) := he.trans (emb_val h 3)
    have l0 : (y 0 : ℕ) < 1 := (y 0).isLt
    have l3 : (y 3 : ℕ) < 256 := (y 3).isLt
    obtain rfl : r = 0 := Fin.ext (by show (r : ℕ) = 0; omega)
    rw [dif_pos (by omega)]
    refine (payM (W := 256) rfl _ _ y a (⟨(e : ℕ) - 0, by omega⟩) (by omega) (by show (e : ℕ) - 0 = _; omega)).trans ?_
    exact lat_rel R _ _ a _ fun x => col0 R _ _ _ _ _ _ _ _ _ _ a x (by decide) _ rfl _ (by unfold Col; norm_num; try omega)

end Cert.Ctx
-- ==== Proof.Ctx.Pt19.lean ====
module

public import proofs.«01_k».proof.Proof.Ctx.St
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

set_option maxHeartbeats 1000000 in
/-- One point's block of the keys of the normed attention. -/
theorem pt19 (A : Args) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S2x1x2x256x128.Idx) (r : Fin 2) (g : Fin 2) (a : Fin 256) (d : Fin 128)
    (hr : (r : ℕ) = y 0) (hg : (g : ℕ) = y 2) (ha : (a : ℕ) = y 3) (hd : (d : ℕ) = y 4) :
    out0_A_19 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = kcS A ⟨2 * t + r, by omega⟩ g a d := by
  frame_out
  canon_tiles y h
  case piece0 =>
    have k0 : (r : ℕ) = 1 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact kc_rel R _ _ _ a d fun x => col1 R _ _ _ _ _ _ _ _ a x (by decide) _ rfl _ (by unfold Col; norm_num; try omega)
  case piece1 =>
    have k0 : (r : ℕ) = 1 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact kc_rel R _ _ _ a d fun x => col1 R _ _ _ _ _ _ _ _ a x (by decide) _ rfl _ (by unfold Col; norm_num; try omega)
  case piece2 =>
    have k0 : (r : ℕ) = 0 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact kc_rel R _ _ _ a d fun x => col0 R _ _ _ _ _ _ _ _ _ _ a x (by decide) _ rfl _ (by unfold Col; norm_num; try omega)
  case piece3 =>
    have k0 : (r : ℕ) = 0 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact kc_rel R _ _ _ a d fun x => col0 R _ _ _ _ _ _ _ _ _ _ a x (by decide) _ rfl _ (by unfold Col; norm_num; try omega)

end Cert.Ctx
-- ==== Proof.Ctx.FinalStates.lean ====
module

public import proofs.«01_k».proof.Proof.Ctx.Points

public import proofs.«01_k».proof.Proof.Ctx.Pt16
public import proofs.«01_k».proof.Proof.Ctx.Pt17
public import proofs.«01_k».proof.Proof.Ctx.Pt18
public import proofs.«01_k».proof.Proof.Ctx.Pt19
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD RstKa RstVa RstMla RstKc RstVc RstKd RstVd stKa_at stVa_at stMla_at stKc_at stVc_at stKd_at stVd_at)
open Idealize.ShloMosaic Idealize.ShloMosaic.TcCoe Idealize.SL.Sem
open Idealize.ShloMosaic.Pipeline (Dat Window)

/-! # The states the kernel leaves -/

variable (m : (ℓ : Loc nD τ sig) → Buf (Elt Ideal) ℓ)

theorem final16 (c : Dev nD) : (dats m 0 c).arrAt 16 (cfgs 0).N = RstKa (argsK m c) := by
  refine (dats m 0 c).arrAt_eq_of_coversWhere_of_agree 16 _ (fun β => 1 ≤ β (1 : Fin 5)) (by decide +kernel) (fun t hf y => ?_) (fun j hj => ?_)
  · blk_simp
    rw [after0_16]
    simp only [outsAt0]
    refine Eq.trans (pt16 (argsK m c) ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 2) (y 3) (y 4) rfl rfl rfl rfl) ?_
    have e : ((View.whole main_v33_4).slice (win0_16.rect t)).emb y = ix5 (⟨2 * t.val + (y 0).val, by have := tlt t; have : (y 0).val < 2 := (y 0).isLt; omega⟩ : Fin 32) 1 (y 2) (y 3) (y 4) := by blk_ext [idxO t]
    refine Eq.trans ?_ (congrArg (RstKa (argsK m c)) e.symm)
    refine Eq.trans ?_ (stKa_at ..).symm
    exact (if_neg (by decide)).symm
  · blk_simp [Pipeline.Window.cell_apply] at hj
    obtain ⟨b, l, g, t, d, rfl⟩ : ∃ (b : Fin 32) (l : Fin 2) (g : Fin 2) (t : Fin 256) (d : Fin 128), (j : S32x2x2x256x128.Idx) = ix5 b l g t d := ⟨j 0, j 1, j 2, j 3, j 4, eq_ix5 j⟩
    obtain rfl : l = 0 := by
      have h : ¬ 1 ≤ l.val / 1 := hj
      apply Fin.ext
      show l.val = 0
      omega
    refine Eq.trans ?_ (stKa_at ..).symm
    refine Eq.trans ?_ (if_pos (by decide)).symm
    show V m c main_v33_4 _ = _
    entry_read
    rfl

theorem final17 (c : Dev nD) : (dats m 0 c).arrAt 17 (cfgs 0).N = RstVa (argsK m c) := by
  refine (dats m 0 c).arrAt_eq_of_coversWhere_of_agree 17 _ (fun β => 1 ≤ β (1 : Fin 5)) (by decide +kernel) (fun t hf y => ?_) (fun j hj => ?_)
  · blk_simp
    rw [after0_17]
    simp only [outsAt0]
    refine Eq.trans (pt17 (argsK m c) ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 2) (y 3) (y 4) rfl rfl rfl rfl) ?_
    have e : ((View.whole main_v33_5).slice (win0_17.rect t)).emb y = ix5 (⟨2 * t.val + (y 0).val, by have := tlt t; have : (y 0).val < 2 := (y 0).isLt; omega⟩ : Fin 32) 1 (y 2) (y 3) (y 4) := by blk_ext [idxO t]
    refine Eq.trans ?_ (congrArg (RstVa (argsK m c)) e.symm)
    refine Eq.trans ?_ (stVa_at ..).symm
    exact (if_neg (by decide)).symm
  · blk_simp [Pipeline.Window.cell_apply] at hj
    obtain ⟨b, l, g, t, d, rfl⟩ : ∃ (b : Fin 32) (l : Fin 2) (g : Fin 2) (t : Fin 256) (d : Fin 128), (j : S32x2x2x256x128.Idx) = ix5 b l g t d := ⟨j 0, j 1, j 2, j 3, j 4, eq_ix5 j⟩
    obtain rfl : l = 0 := by
      have h : ¬ 1 ≤ l.val / 1 := hj
      apply Fin.ext
      show l.val = 0
      omega
    refine Eq.trans ?_ (stVa_at ..).symm
    refine Eq.trans ?_ (if_pos (by decide)).symm
    show V m c main_v33_5 _ = _
    entry_read
    rfl

theorem final18 (c : Dev nD) : (dats m 0 c).arrAt 18 (cfgs 0).N = RstMla (argsK m c) := by
  refine (dats m 0 c).arrAt_eq_of_coversWhere_of_agree 18 _ (fun β => 1 ≤ β (1 : Fin 4)) (by decide +kernel) (fun t hf y => ?_) (fun j hj => ?_)
  · blk_simp
    rw [after0_18]
    simp only [outsAt0]
    refine Eq.trans (pt18 (argsK m c) ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 2) (y 3) rfl rfl rfl) ?_
    have e : ((View.whole main_v33_6).slice (win0_18.rect t)).emb y = ix4 (⟨2 * t.val + (y 0).val, by have := tlt t; have : (y 0).val < 2 := (y 0).isLt; omega⟩ : Fin 32) 1 (y 2) (y 3) := by blk_ext [idxO t]
    refine Eq.trans ?_ (congrArg (RstMla (argsK m c)) e.symm)
    refine Eq.trans ?_ (stMla_at ..).symm
    exact (if_neg (by decide)).symm
  · blk_simp [Pipeline.Window.cell_apply] at hj
    obtain ⟨b, l, t, d, rfl⟩ : ∃ (b : Fin 32) (l : Fin 2) (t : Fin 256) (d : Fin 320), (j : S32x2x256x320.Idx) = ix4 b l t d := ⟨j 0, j 1, j 2, j 3, eq_ix4 j⟩
    obtain rfl : l = 0 := by
      have h : ¬ 1 ≤ l.val / 1 := hj
      apply Fin.ext
      show l.val = 0
      omega
    refine Eq.trans ?_ (stMla_at ..).symm
    refine Eq.trans ?_ (if_pos (by decide)).symm
    show V m c main_v33_6 _ = _
    entry_read
    rfl

theorem final19 (c : Dev nD) : (dats m 0 c).arrAt 19 (cfgs 0).N = RstKc (argsK m c) := by
  refine (dats m 0 c).arrAt_eq_of_coversWhere_of_agree 19 _ (fun β => 1 ≤ β (1 : Fin 5)) (by decide +kernel) (fun t hf y => ?_) (fun j hj => ?_)
  · blk_simp
    rw [after0_19]
    simp only [outsAt0]
    refine Eq.trans (pt19 (argsK m c) ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 2) (y 3) (y 4) rfl rfl rfl rfl) ?_
    have e : ((View.whole main_v33_7).slice (win0_19.rect t)).emb y = ix5 (⟨2 * t.val + (y 0).val, by have := tlt t; have : (y 0).val < 2 := (y 0).isLt; omega⟩ : Fin 32) 1 (y 2) (y 3) (y 4) := by blk_ext [idxO t]
    refine Eq.trans ?_ (congrArg (RstKc (argsK m c)) e.symm)
    refine Eq.trans ?_ (stKc_at ..).symm
    exact (if_neg (by decide)).symm
  · blk_simp [Pipeline.Window.cell_apply] at hj
    obtain ⟨b, l, g, t, d, rfl⟩ : ∃ (b : Fin 32) (l : Fin 2) (g : Fin 2) (t : Fin 256) (d : Fin 128), (j : S32x2x2x256x128.Idx) = ix5 b l g t d := ⟨j 0, j 1, j 2, j 3, j 4, eq_ix5 j⟩
    obtain rfl : l = 0 := by
      have h : ¬ 1 ≤ l.val / 1 := hj
      apply Fin.ext
      show l.val = 0
      omega
    refine Eq.trans ?_ (stKc_at ..).symm
    refine Eq.trans ?_ (if_pos (by decide)).symm
    show V m c main_v33_7 _ = _
    entry_read
    rfl

end Cert.Ctx

end
-- ==== Proof.Ctx.Pt20.lean ====
module

public import proofs.«01_k».proof.Proof.Ctx.St
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

set_option maxHeartbeats 1000000 in
/-- One point's block of the values of the normed attention. -/
theorem pt20 (A : Args) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S2x1x2x256x128.Idx) (r : Fin 2) (g : Fin 2) (a : Fin 256) (d : Fin 128)
    (hr : (r : ℕ) = y 0) (hg : (g : ℕ) = y 2) (ha : (a : ℕ) = y 3) (hd : (d : ℕ) = y 4) :
    out0_A_20 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = Z A ⟨2 * t + r, by omega⟩ a ⟨2880 + (g * 128 + d), by omega⟩ := by
  frame_out
  canon_tiles y h
  case piece0 =>
    have k0 : (r : ℕ) = 1 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece1 =>
    have k0 : (r : ℕ) = 1 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece2 =>
    have k0 : (r : ℕ) = 0 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece3 =>
    have k0 : (r : ℕ) = 0 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)

end Cert.Ctx
-- ==== Proof.Ctx.Pt21.lean ====
module

public import proofs.«01_k».proof.Proof.Ctx.St
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

set_option maxHeartbeats 1000000 in
/-- One point's block of the keys of the differential attention. -/
theorem pt21 (A : Args) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S2x1x4x256x128.Idx) (r : Fin 2) (g : Fin 4) (a : Fin 256) (d : Fin 128)
    (hr : (r : ℕ) = y 0) (hg : (g : ℕ) = y 2) (ha : (a : ℕ) = y 3) (hd : (d : ℕ) = y 4) :
    out0_A_21 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = Z A ⟨2 * t + r, by omega⟩ a ⟨3648 + (g * 128 + d), by omega⟩ := by
  frame_out
  canon_tiles y h
  case piece0 =>
    have k0 : (r : ℕ) = 1 + 1 * (y 0 : ℕ) := hr.trans (emb_val h 0)
    have k2 : (g : ℕ) = 3 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 3 := Fin.ext (by show (g : ℕ) = 3; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece1 =>
    have k0 : (r : ℕ) = 1 + 1 * (y 0 : ℕ) := hr.trans (emb_val h 0)
    have k2 : (g : ℕ) = 2 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 2 := Fin.ext (by show (g : ℕ) = 2; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece2 =>
    have k0 : (r : ℕ) = 1 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece3 =>
    have k0 : (r : ℕ) = 1 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece4 =>
    have k0 : (r : ℕ) = 0 + 1 * (y 0 : ℕ) := hr.trans (emb_val h 0)
    have k2 : (g : ℕ) = 3 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 3 := Fin.ext (by show (g : ℕ) = 3; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece5 =>
    have k0 : (r : ℕ) = 0 + 1 * (y 0 : ℕ) := hr.trans (emb_val h 0)
    have k2 : (g : ℕ) = 2 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 2 := Fin.ext (by show (g : ℕ) = 2; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece6 =>
    have k0 : (r : ℕ) = 0 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece7 =>
    have k0 : (r : ℕ) = 0 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)

end Cert.Ctx
-- ==== Proof.Ctx.Pt22.lean ====
module

public import proofs.«01_k».proof.Proof.Ctx.St
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD)
open Idealize.ShloMosaic Idealize.ShloMosaic.TcCoe Idealize.SL.Sem
open Idealize.ShloMosaic.Pipeline (Dat Window)

set_option maxHeartbeats 1000000 in
/-- One point's block of the values of the differential attention. -/
theorem pt22 (A : Args) (t : Fin 16) (c : Dev nD) (i : grid0.Coords) (arg1 : Memref sig .tc .vmem S512x2048 .f32) (harg1 : arg1.IsWhole) (arg2 : Memref sig .tc .vmem S1x1x6x2048 .f32) (harg2 : arg2.IsWhole) (arg3 : Memref sig .tc .vmem S1x2048 .f32) (harg3 : arg3.IsWhole) (arg4 : Memref sig .tc .vmem S1x2048x4864 .bf16) (harg4 : arg4.IsWhole) (arg5 : Memref sig .tc .smem S4 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x64 .f32) (harg11 : arg11.IsWhole) (arg12 : Memref sig .tc .vmem S1x128 .f32) (harg12 : arg12.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S2x1x2x256x128 .f32) (harg24 : arg24.IsWhole) (arg25 : Memref sig .tc .vmem S2x1x2x256x128 .f32) (harg25 : arg25.IsWhole) (arg26 : Memref sig .tc .vmem S2x1x256x320 .f32) (harg26 : arg26.IsWhole) (arg27 : Memref sig .tc .vmem S2x1x2x256x128 .f32) (harg27 : arg27.IsWhole) (arg28 : Memref sig .tc .vmem S2x1x2x256x128 .f32) (harg28 : arg28.IsWhole) (arg29 : Memref sig .tc .vmem S2x1x4x256x128 .f32) (harg29 : arg29.IsWhole) (arg30 : Memref sig .tc .vmem S2x1x4x256x128 .f32) (harg30 : arg30.IsWhole) (arg31 : Memref sig .tc .vmem S512x4864 .f32) (harg31 : arg31.IsWhole) (x0 : Vec Ideal S512x2048 .f32) (x1 : Vec Ideal S1x1x6x2048 .f32) (x2 : Vec Ideal S1x2048 .f32) (x3 : Vec Ideal S1x2048x4864 .bf16) (x4 : Vec Ideal S4 .f32) (x5 : Vec Ideal S1x256 .f32) (x6 : Vec Ideal S256x512 .bf16) (x7 : Vec Ideal S256x512 .bf16) (x8 : Vec Ideal S1x128 .f32) (x9 : Vec Ideal S1x128 .f32) (x10 : Vec Ideal S4x64 .f32) (x11 : Vec Ideal S1x128 .f32)
    (R : Rel A t x0 x1 x2 x3 x4 x5 x6 x7 x8 x9 x10 x11) (y : S2x1x4x256x128.Idx) (r : Fin 2) (g : Fin 4) (a : Fin 256) (d : Fin 128)
    (hr : (r : ℕ) = y 0) (hg : (g : ℕ) = y 2) (ha : (a : ℕ) = y 3) (hd : (d : ℕ) = y 4) :
    out0_A_22 c i arg1 harg1 arg2 harg2 arg3 harg3 arg4 harg4 arg5 harg5 arg6 harg6 arg7 harg7 arg8 harg8 arg9 harg9 arg10 harg10 arg11 harg11 arg12 harg12 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 y = Z A ⟨2 * t + r, by omega⟩ a ⟨4160 + (g * 128 + d), by omega⟩ := by
  frame_out
  canon_tiles y h
  case piece0 =>
    have k0 : (r : ℕ) = 1 + 1 * (y 0 : ℕ) := hr.trans (emb_val h 0)
    have k2 : (g : ℕ) = 3 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 3 := Fin.ext (by show (g : ℕ) = 3; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece1 =>
    have k0 : (r : ℕ) = 1 + 1 * (y 0 : ℕ) := hr.trans (emb_val h 0)
    have k2 : (g : ℕ) = 2 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 2 := Fin.ext (by show (g : ℕ) = 2; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece2 =>
    have k0 : (r : ℕ) = 1 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece3 =>
    have k0 : (r : ℕ) = 1 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 1 := Fin.ext (by show (r : ℕ) = 1; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col1 R _ _ _ _ _ _ _ _ a d (by decide) _ rfl _ (by unfold Col; norm_num; try omega)
  case piece4 =>
    have k0 : (r : ℕ) = 0 + 1 * (y 0 : ℕ) := hr.trans (emb_val h 0)
    have k2 : (g : ℕ) = 3 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 3 := Fin.ext (by show (g : ℕ) = 3; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece5 =>
    have k0 : (r : ℕ) = 0 + 1 * (y 0 : ℕ) := hr.trans (emb_val h 0)
    have k2 : (g : ℕ) = 2 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 2 := Fin.ext (by show (g : ℕ) = 2; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece6 =>
    have k0 : (r : ℕ) = 0 + 1 * (y 0 : ℕ) := hr.trans (emb_val h 0)
    have k2 : (g : ℕ) = 1 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 1 := Fin.ext (by show (g : ℕ) = 1; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)
  case piece7 =>
    have k0 : (r : ℕ) = 0 + 1 * (y 0 : ℕ) := hr.trans (emb_val h 0)
    have k2 : (g : ℕ) = 0 + 1 * (y 2 : ℕ) := hg.trans (emb_val h 2)
    have k3 : (a : ℕ) = 0 + 1 * (y 3 : ℕ) := ha.trans (emb_val h 3)
    have k4 : (d : ℕ) = 0 + 1 * (y 4 : ℕ) := hd.trans (emb_val h 4)
    have l0 : (y 0 : ℕ) < 1 := (y 0).isLt
    have l2 : (y 2 : ℕ) < 1 := (y 2).isLt
    obtain rfl : r = 0 := Fin.ext (by show (r : ℕ) = 0; omega)
    obtain rfl : g = 0 := Fin.ext (by show (g : ℕ) = 0; omega)
    refine Eq.trans (payS rfl _ _ y a d (by omega) (by omega)) ?_
    try dsimp only [k0_pay3, k0_pay4, k0_pay14, k0_pay15, k0_pay43, k0_pay44, k0_pay55, k0_pay56, k0_pay63, k0_pay64, k0_pay67, k0_pay68, k0_pay75, k0_pay76, k0_pay83, k0_pay84, k0_pay90, k0_pay91, k0_pay104, k0_pay105, k0_pay133, k0_pay134, k0_pay143, k0_pay144, k0_pay152, k0_pay153, k0_pay160, k0_pay161, k0_pay168, k0_pay169, k0_pay175, k0_pay176]
    refine Eq.trans (payC _ _ a d) ?_
    try simp (disch := decide) only [View.ld_unit_lit', Memref.IsWhole.read_unread]
    exact col0 R _ _ _ _ _ _ _ _ _ _ a d (by decide) _ rfl _ (by unfold Col; norm_num; try omega)

end Cert.Ctx
-- ==== Proof.Ctx.FinalStates2.lean ====
module

public import proofs.«01_k».proof.Proof.Ctx.Points

public import proofs.«01_k».proof.Proof.Ctx.Pt20
public import proofs.«01_k».proof.Proof.Ctx.Pt21
public import proofs.«01_k».proof.Proof.Ctx.Pt22
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args Z latS lamS kcS RoA RoB RoC RoD RstKa RstVa RstMla RstKc RstVc RstKd RstVd stKa_at stVa_at stMla_at stKc_at stVc_at stKd_at stVd_at)
open Idealize.ShloMosaic Idealize.ShloMosaic.TcCoe Idealize.SL.Sem
open Idealize.ShloMosaic.Pipeline (Dat Window)

/-! # The states the kernel leaves -/

variable (m : (ℓ : Loc nD τ sig) → Buf (Elt Ideal) ℓ)

set_option maxHeartbeats 1000000 in
theorem final20 (c : Dev nD) : (dats m 0 c).arrAt 20 (cfgs 0).N = RstVc (argsK m c) := by
  refine (dats m 0 c).arrAt_eq_of_coversWhere_of_agree 20 _ (fun β => 1 ≤ β (1 : Fin 5)) (by decide +kernel) (fun t hf y => ?_) (fun j hj => ?_)
  · blk_simp
    rw [after0_20]
    simp only [outsAt0]
    refine Eq.trans (pt20 (argsK m c) ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 2) (y 3) (y 4) rfl rfl rfl rfl) ?_
    have e : ((View.whole main_v33_8).slice (win0_20.rect t)).emb y = ix5 (⟨2 * t.val + (y 0).val, by have := tlt t; have : (y 0).val < 2 := (y 0).isLt; omega⟩ : Fin 32) 1 (y 2) (y 3) (y 4) := by blk_ext [idxO t]
    refine Eq.trans ?_ (congrArg (RstVc (argsK m c)) e.symm)
    refine Eq.trans ?_ (stVc_at ..).symm
    exact (if_neg (by decide)).symm
  · blk_simp [Pipeline.Window.cell_apply] at hj
    obtain ⟨b, l, g, t, d, rfl⟩ : ∃ (b : Fin 32) (l : Fin 2) (g : Fin 2) (t : Fin 256) (d : Fin 128), (j : S32x2x2x256x128.Idx) = ix5 b l g t d := ⟨j 0, j 1, j 2, j 3, j 4, eq_ix5 j⟩
    obtain rfl : l = 0 := by
      have h : ¬ 1 ≤ l.val / 1 := hj
      apply Fin.ext
      show l.val = 0
      omega
    refine Eq.trans ?_ (stVc_at ..).symm
    refine Eq.trans ?_ (if_pos (by decide)).symm
    show V m c main_v33_8 _ = _
    entry_read
    rfl

set_option maxHeartbeats 1000000 in
theorem final21 (c : Dev nD) : (dats m 0 c).arrAt 21 (cfgs 0).N = RstKd (argsK m c) := by
  refine (dats m 0 c).arrAt_eq_of_coversWhere_of_agree 21 _ (fun β => 1 ≤ β (1 : Fin 5)) (by decide +kernel) (fun t hf y => ?_) (fun j hj => ?_)
  · blk_simp
    rw [after0_21]
    simp only [outsAt0]
    refine Eq.trans (pt21 (argsK m c) ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 2) (y 3) (y 4) rfl rfl rfl rfl) ?_
    have e : ((View.whole main_v33_9).slice (win0_21.rect t)).emb y = ix5 (⟨2 * t.val + (y 0).val, by have := tlt t; have : (y 0).val < 2 := (y 0).isLt; omega⟩ : Fin 32) 1 (y 2) (y 3) (y 4) := by blk_ext [idxO t]
    refine Eq.trans ?_ (congrArg (RstKd (argsK m c)) e.symm)
    refine Eq.trans ?_ (stKd_at ..).symm
    exact (if_neg (by decide)).symm
  · blk_simp [Pipeline.Window.cell_apply] at hj
    obtain ⟨b, l, g, t, d, rfl⟩ : ∃ (b : Fin 32) (l : Fin 2) (g : Fin 4) (t : Fin 256) (d : Fin 128), (j : S32x2x4x256x128.Idx) = ix5 b l g t d := ⟨j 0, j 1, j 2, j 3, j 4, eq_ix5 j⟩
    obtain rfl : l = 0 := by
      have h : ¬ 1 ≤ l.val / 1 := hj
      apply Fin.ext
      show l.val = 0
      omega
    refine Eq.trans ?_ (stKd_at ..).symm
    refine Eq.trans ?_ (if_pos (by decide)).symm
    show V m c main_v33_9 _ = _
    entry_read
    rfl

set_option maxHeartbeats 1000000 in
theorem final22 (c : Dev nD) : (dats m 0 c).arrAt 22 (cfgs 0).N = RstVd (argsK m c) := by
  refine (dats m 0 c).arrAt_eq_of_coversWhere_of_agree 22 _ (fun β => 1 ≤ β (1 : Fin 5)) (by decide +kernel) (fun t hf y => ?_) (fun j hj => ?_)
  · blk_simp
    rw [after0_22]
    simp only [outsAt0]
    refine Eq.trans (pt22 (argsK m c) ⟨t.val, tlt t⟩ c _ _ _ _ _ _ _ _ _ _ _ _ _ _ _ _ _ _ _ _ _ _ _ _ _ _ _ _ _ _ _ _ _ _ _ _ _ _ _ _ _ _ _ _ _ _ _ _ _ _ _ _ _ _ _ _ _ _ _ _ _ (rel m c t) y (y 0) (y 2) (y 3) (y 4) rfl rfl rfl rfl) ?_
    have e : ((View.whole main_v33_10).slice (win0_22.rect t)).emb y = ix5 (⟨2 * t.val + (y 0).val, by have := tlt t; have : (y 0).val < 2 := (y 0).isLt; omega⟩ : Fin 32) 1 (y 2) (y 3) (y 4) := by blk_ext [idxO t]
    refine Eq.trans ?_ (congrArg (RstVd (argsK m c)) e.symm)
    refine Eq.trans ?_ (stVd_at ..).symm
    exact (if_neg (by decide)).symm
  · blk_simp [Pipeline.Window.cell_apply] at hj
    obtain ⟨b, l, g, t, d, rfl⟩ : ∃ (b : Fin 32) (l : Fin 2) (g : Fin 4) (t : Fin 256) (d : Fin 128), (j : S32x2x4x256x128.Idx) = ix5 b l g t d := ⟨j 0, j 1, j 2, j 3, j 4, eq_ix5 j⟩
    obtain rfl : l = 0 := by
      have h : ¬ 1 ≤ l.val / 1 := hj
      apply Fin.ext
      show l.val = 0
      omega
    refine Eq.trans ?_ (stVd_at ..).symm
    refine Eq.trans ?_ (if_pos (by decide)).symm
    show V m c main_v33_10 _ = _
    entry_read
    rfl

end Cert.Ctx

end
-- ==== Proof.Ctx.Real.lean ====
module

public import proofs.«01_k».proof.Proof.Ctx.Points
public import proofs.«01_k».proof.Proof.Ctx.Heads
public import Idealize.ShloMosaic.Lib.ReduceAll
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.Soft
open Cert.CtxRef (Args Z latS lamS kcS Z_eq)
open Idealize.ShloMosaic Idealize.ShloMosaic.TcCoe Idealize.SL.Sem
open Idealize.ShloMosaic.Pipeline (Dat Window)

/-! # The precondition makes the scores real -/

/-- An array whose entries are all below infinity in absolute value has real entries. -/
theorem reals_of {s u : Shape} {axes : List (Fin s.rank)} [Subsingleton u.Idx] (x : FVec Ideal s .f32) (b : Cert.Pre_finite.S_.BroadcastsInDim s (![] : Fin 0 → Fin s.rank))
    (r : s.ReducesTo axes u) (hu : 0 < u.numel) (init : u.Idx → BitVec 1) (j : u.Idx)
    (e : Host.reduce IntOp.andi (cmpf .olt (Host.absf x) (broadcastInDim s ![] b (constant Cert.Pre_finite.S_ .f32 0x7F800000#32))) init r hu j = 1#1)
    (i : s.Idx) : ∃ y : ℝ, x i = y := by
  have h := Host.reduce_andi_all _ _ _ _ _ e i
  pointwise at h
  have hw : Ideal.ofBits FTy.f32 2139095040#32 = ⊤ := by simp [Ideal.ofBits, Ideal.ieee]
  rw [hw] at h
  have h' : max (x i) (-(x i)) < ⊤ := by
    have q : FloatOps.absf (F := Ideal) (φ := .f32) (x i) < ⊤ := by
      by_contra n
      rw [decide_eq_false n] at h
      exact absurd h (by decide)
    exact q
  obtain ⟨p, n⟩ := max_lt_iff.mp h'
  refine ⟨(x i).toReal, (EReal.coe_toReal p.ne ?_).symm⟩
  intro q
  rw [q] at n
  exact absurd n (by simp)

theorem fin_reals [hP : Cert.Pre_finite.Facts] (a0 : FVec Ideal Cert.Pre_finite.S8192x2048 .f32) (a1 : FVec Ideal Cert.Pre_finite.S2x16x6x2048 .f32) (a2 : FVec Ideal Cert.Pre_finite.S2x2048 .f32) (a3 : FVec Ideal Cert.Pre_finite.S2x2048x4672 .f32) (a4 : FVec Ideal Cert.Pre_finite.S2x4 .f32) (a5 : FVec Ideal Cert.Pre_finite.S2x256 .f32) (a6 : FVec Ideal Cert.Pre_finite.S2x256x4x128 .f32) (a7 : FVec Ideal Cert.Pre_finite.S2x256x4x128 .f32) (a8 : FVec Ideal Cert.Pre_finite.S2x128 .f32) (a9 : FVec Ideal Cert.Pre_finite.S2x128 .f32) (a10 : FVec Ideal Cert.Pre_finite.S2x4x64 .f32) (a11 : FVec Ideal Cert.Pre_finite.S2x128 .f32) (a12 : FVec Ideal Cert.Pre_finite.S32x2x2x256x128 .f32) (a13 : FVec Ideal Cert.Pre_finite.S32x2x2x256x128 .f32) (a14 : FVec Ideal Cert.Pre_finite.S32x2x256x320 .f32) (a15 : FVec Ideal Cert.Pre_finite.S32x2x2x256x128 .f32) (a16 : FVec Ideal Cert.Pre_finite.S32x2x2x256x128 .f32) (a17 : FVec Ideal Cert.Pre_finite.S32x2x4x256x128 .f32) (a18 : FVec Ideal Cert.Pre_finite.S32x2x4x256x128 .f32)
    (h : Cert.Pre_finite.fn (F := Ideal) a0 a1 a2 a3 a4 a5 a6 a7 a8 a9 a10 a11 a12 a13 a14 a15 a16 a17 a18 = fun _ => 1#1) :
    (∀ i, ∃ y : ℝ, a0 i = y) ∧ (∀ i, ∃ y : ℝ, a1 i = y) ∧ (∀ i, ∃ y : ℝ, a2 i = y) ∧ (∀ i, ∃ y : ℝ, a3 i = y) ∧ (∀ i, ∃ y : ℝ, a4 i = y)
    ∧ (∀ i, ∃ y : ℝ, a5 i = y) ∧ (∀ i, ∃ y : ℝ, a6 i = y) ∧ (∀ i, ∃ y : ℝ, a8 i = y) ∧ (∀ i, ∃ y : ℝ, a9 i = y) := by
  have e := congrFun h (fun i => i.elim0)
  dsimp only [Cert.Pre_finite.fn, Cert.Pre_finite.fn_part1, Cert.Pre_finite.fn_part2] at e
  obtain ⟨e, h9⟩ := IntOp.andi_eq_one.mp e
  obtain ⟨e, h8⟩ := IntOp.andi_eq_one.mp e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨reals_of _ _ _ _ _ _ h0, reals_of _ _ _ _ _ _ h1, reals_of _ _ _ _ _ _ h2, reals_of _ _ _ _ _ _ h3, reals_of _ _ _ _ _ _ h4,
    reals_of _ _ _ _ _ _ h5, reals_of _ _ _ _ _ _ h6, reals_of _ _ _ _ _ _ h8, reals_of _ _ _ _ _ _ h9⟩

variable (m : (ℓ : Loc nD τ sig) → Buf (Elt Ideal) ℓ)

/-- What the point theorems ask of the arguments follows from the precondition. -/
theorem reals [hP : Cert.Pre_finite.Facts] (h : Cert.Pre_KernelIdeal_finite m) (c : Dev nD) : Reals (argsK m c) := by
  obtain ⟨h0, h1, h2, h3, h4, h5, h6, h8, h9⟩ := fin_reals _ _ _ _ _ _ _ _ _ _ _ _ _ _ _ _ _ _ _ (h c)
  choose f0 h0 using h0
  choose f1 h1 using h1
  choose f2 h2 using h2
  choose f3 h3 using h3
  refine ⟨fun b t e => ?_, fun x => h4 _, fun x => h5 _, fun x y z => h6 _, fun x => h8 _, fun x => h9 _⟩
  rw [Z_eq]
  obtain ⟨r, hr⟩ := rms_real 1157627904#32 2048 word2048 (by norm_num) (fun y : Fin 2048 => f0 (ix2 ⟨b * 256 + t, by omega⟩ y)) (fun y => f2 (ix2 1 y))
  refine ⟨∑ x : Fin 2048, (r x * (1 + f1 (ix4 1 0 1 x)) + f1 (ix4 1 0 0 x)) * f3 (ix3 1 x e), ?_⟩
  rw [← coe_sum]
  refine Finset.sum_congr rfl fun x _ => ?_
  refine Eq.trans ?_ (by rw [EReal.coe_mul, EReal.coe_add, EReal.coe_mul, EReal.coe_add, EReal.coe_one, ← hr x])
  show (rms _ (fun y => (argsK m c).a0 _) (fun y => (argsK m c).a2 _) x * (1 + (argsK m c).a1 _) + (argsK m c).a1 _) * (argsK m c).a3 _ = _
  simp only [argsK, h0, h1, h2, h3]

end Cert.Ctx

end
-- ==== Proof.Ctx.RefRun.lean ====
module

public import proofs.«01_k».proof.Proof.Gen.ReferenceIdeal.Run
public import proofs.«01_k».proof.Proof.Ctx.RefSpec
public import Idealize.ShloMosaic.Lib.Pipeline.ValueKit
public import Idealize.ShloMosaic.Lib.Pointwise
public import Idealize.ShloMosaic.Lib.Claim

@[expose] public section

set_option maxRecDepth 16384

noncomputable section

namespace Cert.CtxRef

open Cert.ReferenceIdeal Cert.ReferenceIdeal.Gen
open Idealize.ShloMosaic Idealize.ShloMosaic.TcCoe Idealize.SL.Sem

variable (m : (ℓ : Loc nD τ sig) → Buf (Elt Ideal) ℓ)

/-- The arrays the reference runs on. -/
def argsAt (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18)⟩

/-- The reference's run, its results by name. -/
theorem run (ρ : Dev nD → PrngReg) :
    θ_run defs (onTc (τ := τ) (main (F := Ideal))) ⟨m, fun _ => 0, ρ⟩ fun r => ∀ c : Dev nD,
      r.2.mem ((c.tc : Thread nD τ).loc main_v297) = RoA (argsAt m c)
      ∧ r.2.mem ((c.tc : Thread nD τ).loc main_v300) = RoB (argsAt m c)
      ∧ r.2.mem ((c.tc : Thread nD τ).loc main_v303) = RoC (argsAt m c)
      ∧ r.2.mem ((c.tc : Thread nD τ).loc main_v306) = RoD (argsAt m c)
      ∧ r.2.mem ((c.tc : Thread nD τ).loc main_v264) = RstKa (argsAt m c)
      ∧ r.2.mem ((c.tc : Thread nD τ).loc main_v269) = RstVa (argsAt m c)
      ∧ r.2.mem ((c.tc : Thread nD τ).loc main_v274) = RstMla (argsAt m c)
      ∧ r.2.mem ((c.tc : Thread nD τ).loc main_v279) = RstKc (argsAt m c)
      ∧ r.2.mem ((c.tc : Thread nD τ).loc main_v284) = RstVc (argsAt m c)
      ∧ r.2.mem ((c.tc : Thread nD τ).loc main_v289) = RstKd (argsAt m c)
      ∧ r.2.mem ((c.tc : Thread nD τ).loc main_v294) = RstVd (argsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => by
    obtain ⟨h0, h1, h2, h3, h4, h5, h6, h7, h8, h9, h10, h11⟩ := h c
    exact ⟨h0.trans (show _ = RoA (argsAt m c) from rfl), h1.trans (show _ = RoB (argsAt m c) from rfl), h2.trans (show _ = RoC (argsAt m c) from rfl), h3.trans (show _ = RoD (argsAt m c) from rfl), h4.trans (show _ = RstKa (argsAt m c) from rfl), h5.trans (show _ = RstVa (argsAt m c) from rfl), h6.trans (show _ = RstMla (argsAt m c) from rfl), h7.trans (show _ = RstKc (argsAt m c) from rfl), h8.trans (show _ = RstVc (argsAt m c) from rfl), h9.trans (show _ = RstKd (argsAt m c) from rfl), h10.trans (show _ = RstVd (argsAt m c) from rfl), h11⟩) (Cert.ReferenceIdeal.Value.run m ρ)

end Cert.CtxRef
-- ==== Proof.Ctx.Alg.lean ====
module

public import proofs.«01_k».proof.Proof.Ctx.Final
public import proofs.«01_k».proof.Proof.Ctx.FinalStates
public import proofs.«01_k».proof.Proof.Ctx.FinalStates2
public import proofs.«01_k».proof.Proof.Ctx.Real
public import proofs.«01_k».proof.Proof.Ctx.RefRun
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Ctx

open Cert.KernelIdeal Cert.KernelIdeal.Gen
open Cert.CtxRef (Args argsAt RoA RoB RoC RoD RstKa RstVa RstMla RstKc RstVc RstKd RstVd)
open Idealize.ShloMosaic Idealize.ShloMosaic.TcCoe Idealize.SL.Sem
open Idealize.ShloMosaic.Pipeline (Dat Window)

/-! # The prompt's layer computes what its reference computes -/

/-- The precondition's shape facts. -/
theorem preFacts : Cert.Pre_finite.Facts where
  bcast_S_S8192x2048 := by decide +kernel
  reducesTo_S8192x2048_S_d0_1 := by decide +kernel
  h_S_ := by decide +kernel
  bcast_S_S2x16x6x2048 := by decide +kernel
  reducesTo_S2x16x6x2048_S_d0_1_2_3 := by decide +kernel
  bcast_S_S2x2048 := by decide +kernel
  reducesTo_S2x2048_S_d0_1 := by decide +kernel
  bcast_S_S2x2048x4672 := by decide +kernel
  reducesTo_S2x2048x4672_S_d0_1_2 := by decide +kernel
  bcast_S_S2x4 := by decide +kernel
  reducesTo_S2x4_S_d0_1 := by decide +kernel
  bcast_S_S2x256 := by decide +kernel
  reducesTo_S2x256_S_d0_1 := by decide +kernel
  bcast_S_S2x256x4x128 := by decide +kernel
  reducesTo_S2x256x4x128_S_d0_1_2_3 := by decide +kernel
  bcast_S_S2x128 := by decide +kernel
  reducesTo_S2x128_S_d0_1 := by decide +kernel

set_option maxHeartbeats 2000000 in
theorem algebraic [hP : Cert.Pre_finite.Facts] : Cert.algebraic_KernelIdeal_ReferenceIdeal_pre_finite := by
  intro m g m' g' hm hag
  refine ⟨fun c => (dats m 0 c).arrAt 12 (cfgs 0).N, fun c => (dats m 0 c).arrAt 13 (cfgs 0).N, fun c => (dats m 0 c).arrAt 14 (cfgs 0).N, fun c => (dats m 0 c).arrAt 15 (cfgs 0).N, fun c => (dats m 0 c).arrAt 16 (cfgs 0).N, fun c => (dats m 0 c).arrAt 17 (cfgs 0).N, fun c => (dats m 0 c).arrAt 18 (cfgs 0).N, fun c => (dats m 0 c).arrAt 19 (cfgs 0).N, fun c => (dats m 0 c).arrAt 20 (cfgs 0).N, fun c => (dats m 0 c).arrAt 21 (cfgs 0).N, fun c => (dats m 0 c).arrAt 22 (cfgs 0).N,
    Cert.KernelIdeal.Value.run_blocks m g, ?_⟩
  refine (θ_run Cert.ReferenceIdeal.defs _ _).mono (fun r h c => ?_) (Cert.CtxRef.run m' g')
  obtain ⟨a0, a1, a2, a3, a4, a5, a6, a7, a8, a9, a10, a11, a12, a13, a14, a15, a16, a17, a18⟩ := hag c
  have e : argsAt m' c = argsK m c := by
    unfold argsAt argsK
    rw [a0, a1, a2, a3, a4, a5, a6, a7, a8, a9, a10, a11, a12, a13, a14, a15, a16, a17, a18]
  have q0 : RoA (argsAt m' c) = (dats m 0 c).arrAt 12 (cfgs 0).N := (congrArg RoA e).trans (final12 m c (reals m hm c)).symm
  have q1 : RoB (argsAt m' c) = (dats m 0 c).arrAt 13 (cfgs 0).N := (congrArg RoB e).trans (final13 m c (reals m hm c)).symm
  have q2 : RoC (argsAt m' c) = (dats m 0 c).arrAt 14 (cfgs 0).N := (congrArg RoC e).trans (final14 m c (reals m hm c)).symm
  have q3 : RoD (argsAt m' c) = (dats m 0 c).arrAt 15 (cfgs 0).N := (congrArg RoD e).trans (final15 m c (reals m hm c)).symm
  have q4 : RstKa (argsAt m' c) = (dats m 0 c).arrAt 16 (cfgs 0).N := (congrArg RstKa e).trans (final16 m c).symm
  have q5 : RstVa (argsAt m' c) = (dats m 0 c).arrAt 17 (cfgs 0).N := (congrArg RstVa e).trans (final17 m c).symm
  have q6 : RstMla (argsAt m' c) = (dats m 0 c).arrAt 18 (cfgs 0).N := (congrArg RstMla e).trans (final18 m c).symm
  have q7 : RstKc (argsAt m' c) = (dats m 0 c).arrAt 19 (cfgs 0).N := (congrArg RstKc e).trans (final19 m c).symm
  have q8 : RstVc (argsAt m' c) = (dats m 0 c).arrAt 20 (cfgs 0).N := (congrArg RstVc e).trans (final20 m c).symm
  have q9 : RstKd (argsAt m' c) = (dats m 0 c).arrAt 21 (cfgs 0).N := (congrArg RstKd e).trans (final21 m c).symm
  have q10 : RstVd (argsAt m' c) = (dats m 0 c).arrAt 22 (cfgs 0).N := (congrArg RstVd e).trans (final22 m c).symm
  obtain ⟨h0, h1, h2, h3, h4, h5, h6, h7, h8, h9, h10, hr⟩ := h c
  exact ⟨h0.trans q0, h1.trans q1, h2.trans q2, h3.trans q3, h4.trans q4, h5.trans q5, h6.trans q6, h7.trans q7, h8.trans q8, h9.trans q9, h10.trans q10, hr⟩

end Cert.Ctx

end
-- ==== Proof.lean ====
/- The claims of Defs.lean about the four calls: the layer of the prompt (Kernel), the MLP (Kernel2), the output
   projection (Kernel3) and the input projection of the noisy latent tokens (Kernel4). -/
module

public import proofs.«01_k».proof.Defs
public import proofs.«01_k».proof.Proof.Gen.Kernel
public import proofs.«01_k».proof.Proof.Ctx.FrameK
public import proofs.«01_k».proof.Proof.Gen.KernelIdeal
public import proofs.«01_k».proof.Proof.Ctx.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Mlp
public import proofs.«01_k».proof.Proof.OutProj
public import proofs.«01_k».proof.Proof.InProj
public import proofs.«01_k».proof.Proof.Ctx.Alg
public import Idealize.ShloMosaic.Adequacy
public import Idealize.ShloMosaic.Init

@[expose] public section

noncomputable section

namespace Cert.Proof

open Idealize.ShloMosaic Idealize.SL.Sem

/-- The reference runs, keeps its arguments and has no semaphore. -/
theorem frame_Reference : Cert.quiescent_ReferenceIdeal := fun m ρ _ =>
  (θ_run Cert.ReferenceIdeal.defs _ _).mono
    (fun r h => ⟨fun c => (h c).2.2.2.2.2.2.2.2.2.2.2, sem_eq_zero_of_no_sems (by decide) r.2⟩)
    (Cert.ReferenceIdeal.Value.run (F := Ideal) m ρ)

/-- The reference runs, keeps its arguments and has no semaphore. -/
theorem frame_Reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The reference runs, keeps its arguments and has no semaphore. -/
theorem frame_Reference3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The reference runs, keeps its arguments and has no semaphore. -/
theorem frame_Reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The four rounded constants of the layer kernel are the named reals. -/
theorem preserves_Kernel : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Ctx.preFacts,
    fun m ρ _ => Cert.Kernel.Gen.frame m ρ,
    fun m ρ _ => Cert.KernelIdeal.Gen.frame m ρ,
    fun m ρ _ => Cert.KernelIdeal.Gen.frame m ρ,
    frame_Reference,
    fun m ρ _ => frame_Reference m ρ trivial,
    fun m ρ _ => Cert.Kernel2.Gen.frame m ρ,
    fun m ρ _ => Cert.Kernel2Ideal.Gen.frame m ρ,
    frame_Reference2,
    fun m ρ _ => Cert.Kernel3.Gen.frame m ρ,
    fun m ρ _ => Cert.Kernel3Ideal.Gen.frame m ρ,
    frame_Reference3,
    fun m ρ _ => Cert.Kernel4.Gen.frame m ρ,
    fun m ρ _ => Cert.Kernel4Ideal.Gen.frame m ρ,
    frame_Reference4,
    preserves_Kernel,
    Cert.Ctx.algebraic (hP := Cert.Ctx.preFacts),
    trivial,
    Cert.Mlp.algebraic,
    trivial,
    Cert.OutProj.algebraic,
    trivial,
    Cert.InProj.algebraic⟩

end Cert.Proof

end
